-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v89) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v124) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v91) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v99) = v0 c
          ∧ r.2.mem ((c.tc : Thread Cert.Reference5Ideal.nD Cert.Reference5Ideal.τ).loc Cert.Reference5Ideal.main_v100) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v13_0)) (v1 : (c : Dev Cert.Kernel6Ideal.nD) → Buf (Elt Ideal) ((c.tc : Thread Cert.Kernel6Ideal.nD Cert.Kernel6Ideal.τ).loc Cert.Kernel6Ideal.main_v13_1)) (v2 : (c : Dev Cert.Kernel6Ideal.nD) → Buf (Elt Ideal) ((c.tc : Thread Cert.Kernel6Ideal.nD Cert.Kernel6Ideal.τ).loc Cert.Kernel6Ideal.main_v13_2)) (v3 : (c : Dev Cert.Kernel6Ideal.nD) → Buf (Elt Ideal) ((c.tc : Thread Cert.Kernel6Ideal.nD Cert.Kernel6Ideal.τ).loc Cert.Kernel6Ideal.main_v13_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13_0) = v0 c
          ∧ r.2.mem ((c.tc : Thread Cert.Kernel6Ideal.nD Cert.Kernel6Ideal.τ).loc Cert.Kernel6Ideal.main_v13_1) = v1 c
          ∧ r.2.mem ((c.tc : Thread Cert.Kernel6Ideal.nD Cert.Kernel6Ideal.τ).loc Cert.Kernel6Ideal.main_v13_2) = v2 c
          ∧ r.2.mem ((c.tc : Thread Cert.Kernel6Ideal.nD Cert.Kernel6Ideal.τ).loc Cert.Kernel6Ideal.main_v13_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v133) = v0 c
          ∧ r.2.mem ((c.tc : Thread Cert.Reference6Ideal.nD Cert.Reference6Ideal.τ).loc Cert.Reference6Ideal.main_v134) = v1 c
          ∧ r.2.mem ((c.tc : Thread Cert.Reference6Ideal.nD Cert.Reference6Ideal.τ).loc Cert.Reference6Ideal.main_v136) = v2 c
          ∧ r.2.mem ((c.tc : Thread Cert.Reference6Ideal.nD Cert.Reference6Ideal.τ).loc Cert.Reference6Ideal.main_v137) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v13_0)) (v1 : (c : Dev Cert.Kernel7Ideal.nD) → Buf (Elt Ideal) ((c.tc : Thread Cert.Kernel7Ideal.nD Cert.Kernel7Ideal.τ).loc Cert.Kernel7Ideal.main_v13_1)) (v2 : (c : Dev Cert.Kernel7Ideal.nD) → Buf (Elt Ideal) ((c.tc : Thread Cert.Kernel7Ideal.nD Cert.Kernel7Ideal.τ).loc Cert.Kernel7Ideal.main_v13_2)) (v3 : (c : Dev Cert.Kernel7Ideal.nD) → Buf (Elt Ideal) ((c.tc : Thread Cert.Kernel7Ideal.nD Cert.Kernel7Ideal.τ).loc Cert.Kernel7Ideal.main_v13_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v13_0) = v0 c
          ∧ r.2.mem ((c.tc : Thread Cert.Kernel7Ideal.nD Cert.Kernel7Ideal.τ).loc Cert.Kernel7Ideal.main_v13_1) = v1 c
          ∧ r.2.mem ((c.tc : Thread Cert.Kernel7Ideal.nD Cert.Kernel7Ideal.τ).loc Cert.Kernel7Ideal.main_v13_2) = v2 c
          ∧ r.2.mem ((c.tc : Thread Cert.Kernel7Ideal.nD Cert.Kernel7Ideal.τ).loc Cert.Kernel7Ideal.main_v13_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v132) = v0 c
          ∧ r.2.mem ((c.tc : Thread Cert.Reference7Ideal.nD Cert.Reference7Ideal.τ).loc Cert.Reference7Ideal.main_v133) = v1 c
          ∧ r.2.mem ((c.tc : Thread Cert.Reference7Ideal.nD Cert.Reference7Ideal.τ).loc Cert.Reference7Ideal.main_v135) = v2 c
          ∧ r.2.mem ((c.tc : Thread Cert.Reference7Ideal.nD Cert.Reference7Ideal.τ).loc Cert.Reference7Ideal.main_v136) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S4x8448x1024 : Shape := ⟨3, ![4, 8448, 1024]⟩
abbrev S2x4x8448x1280 : Shape := ⟨4, ![2, 4, 8448, 1280]⟩
abbrev S4x8448x1280 : Shape := ⟨3, ![4, 8448, 1280]⟩
abbrev S4x8x6144 : Shape := ⟨3, ![4, 8, 6144]⟩
abbrev S1024 : Shape := ⟨1, ![1024]⟩
abbrev S1280x1024 : Shape := ⟨2, ![1280, 1024]⟩
abbrev S1024x4096 : Shape := ⟨2, ![1024, 4096]⟩
abbrev S4096x1024 : Shape := ⟨2, ![4096, 1024]⟩
abbrev S32x1x6144 : Shape := ⟨3, ![32, 1, 6144]⟩
abbrev S1x1024 : Shape := ⟨2, ![1, 1024]⟩
abbrev S4x8192x1024 : Shape := ⟨3, ![4, 8192, 1024]⟩
abbrev S1x256x1024 : Shape := ⟨3, ![1, 256, 1024]⟩
abbrev S2x1x256x1280 : Shape := ⟨4, ![2, 1, 256, 1280]⟩
abbrev S1x256x1280 : Shape := ⟨3, ![1, 256, 1280]⟩
abbrev S1x1x6144 : Shape := ⟨3, ![1, 1, 6144]⟩
abbrev S1x1x256x1280 : Shape := ⟨4, ![1, 1, 256, 1280]⟩
abbrev S256x1280 : Shape := ⟨2, ![256, 1280]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S1024x1024 : Shape := ⟨2, ![1024, 1024]⟩

abbrev nBuf : Space → Nat
  | .hbm => 16
  | .vmem => 17
  | .smem => 0
  | _ => 0

abbrev bufTy : (tb : Table) → Fin (tcTables nBuf tb) → BufTy
  | .hbm, ⟨0, _⟩ => ⟨S4x8448x1024, .f32⟩
  | .hbm, ⟨1, _⟩ => ⟨S2x4x8448x1280, .f32⟩
  | .hbm, ⟨2, _⟩ => ⟨S4x8448x1280, .bf16⟩
  | .hbm, ⟨3, _⟩ => ⟨S4x8x6144, .f32⟩
  | .hbm, ⟨4, _⟩ => ⟨S1024, .f32⟩
  | .hbm, ⟨5, _⟩ => ⟨S1280x1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S32x1x6144, .f32⟩
  | .hbm, ⟨10, _⟩ => ⟨S1x1024, .f32⟩
  | .hbm, ⟨11, _⟩ => ⟨S1280x1024, .bf16⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S4x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S2x1x256x1280, .f32⟩
  | .local _ .vmem, ⟨5, _⟩ => ⟨S2x1x256x1280, .f32⟩
  | .local _ .vmem, ⟨6, _⟩ => ⟨S1x256x1280, .bf16⟩
  | .local _ .vmem, ⟨7, _⟩ => ⟨S1x256x1280, .bf16⟩
  | .local _ .vmem, ⟨8, _⟩ => ⟨S1x1x6144, .f32⟩
  | .local _ .vmem, ⟨9, _⟩ => ⟨S1x1x6144, .f32⟩
  | .local _ .vmem, ⟨10, _⟩ => ⟨S1x1024, .f32⟩
  | .local _ .vmem, ⟨11, _⟩ => ⟨S1280x1024, .bf16⟩
  | .local _ .vmem, ⟨12, _⟩ => ⟨S1024x4096, .bf16⟩
  | .local _ .vmem, ⟨13, _⟩ => ⟨S4096x1024, .bf16⟩
  | .local _ .vmem, ⟨14, _⟩ => ⟨S1x1024, .f32⟩
  | .local _ .vmem, ⟨15, _⟩ => ⟨S1x256x1024, .f32⟩
  | .local _ .vmem, ⟨16, _⟩ => ⟨S1x256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let c0_i32_0 : BitVec 32 := 0#32
  ![arg0.toNat, c32_i32.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c4_i32 : BitVec 32 := 4#32
  let v1 : BitVec 32 := Scalar.select v0 c4_i32 arg0
  let c24_i32 : BitVec 32 := 24#32
  let v2 : BitVec 32 := Scalar.addi c24_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x8448x1024 : Shape := ⟨3, ![4, 8448, 1024]⟩
abbrev S2x4x8448x1280 : Shape := ⟨4, ![2, 4, 8448, 1280]⟩
abbrev S4x8448x1280 : Shape := ⟨3, ![4, 8448, 1280]⟩
abbrev S4x8x6144 : Shape := ⟨3, ![4, 8, 6144]⟩
abbrev S1024 : Shape := ⟨1, ![1024]⟩
abbrev S1280x1024 : Shape := ⟨2, ![1280, 1024]⟩
abbrev S1024x4096 : Shape := ⟨2, ![1024, 4096]⟩
abbrev S4096x1024 : Shape := ⟨2, ![4096, 1024]⟩
abbrev S4x8192x1280 : Shape := ⟨3, ![4, 8192, 1280]⟩
abbrev S1x4x8192x1280 : Shape := ⟨4, ![1, 4, 8192, 1280]⟩
abbrev S_ : Shape := ⟨0, ![]⟩
abbrev S4x8192x1024 : Shape := ⟨3, ![4, 8192, 1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 96
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S2x4x8448x1280, .f32⟩
  | .hbm, ⟨2, _⟩ => ⟨S4x8448x1280, .bf16⟩
  | .hbm, ⟨3, _⟩ => ⟨S4x8x6144, .f32⟩
  | .hbm, ⟨4, _⟩ => ⟨S1024, .f32⟩
  | .hbm, ⟨5, _⟩ => ⟨S1280x1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S4x8192x1280, .bf16⟩
  | .hbm, ⟨10, _⟩ => ⟨S4x8192x1280, .f32⟩
  | .hbm, ⟨11, _⟩ => ⟨S1x4x8192x1280, .f32⟩
  | .hbm, ⟨12, _⟩ => ⟨S4x8192x1280, .f32⟩
  | .hbm, ⟨13, _⟩ => ⟨S1x4x8192x1280, .f32⟩
  | .hbm, ⟨14, _⟩ => ⟨S4x8192x1280, .f32⟩
  | .hbm, ⟨15, _⟩ => ⟨S4x8192x1280, .f32⟩
  | .hbm, ⟨16, _⟩ => ⟨S4x8192x1280, .f32⟩
  | .hbm, ⟨17, _⟩ => ⟨S4x8192x1280, .f32⟩
  | .hbm, ⟨18, _⟩ => ⟨S_, .f32⟩
  | .hbm, ⟨19, _⟩ => ⟨S4x8192x1280, .f32⟩
  | .hbm, ⟨20, _⟩ => ⟨S4x8192x1280, .f32⟩
  | .hbm, ⟨21, _⟩ => ⟨S4x8192x1280, .f32⟩
  | .hbm, ⟨22, _⟩ => ⟨S_, .f32⟩
  | .hbm, ⟨23, _⟩ => ⟨S4x8192x1280, .f32⟩
  | .hbm, ⟨24, _⟩ => ⟨S4x8192x1280, .f32⟩
  | .hbm, ⟨25, _⟩ => ⟨S4x8192x1280, .f32⟩
  | .hbm, ⟨26, _⟩ => ⟨S_, .f32⟩
  | .hbm, ⟨27, _⟩ => ⟨S4x8192x1280, .f32⟩
  | .hbm, ⟨28, _⟩ => ⟨S4x8192x1280, .f32⟩
  | .hbm, ⟨29, _⟩ => ⟨S_, .f32⟩
  | .hbm, ⟨30, _⟩ => ⟨S4x8192x1280, .f32⟩
  | .hbm, ⟨31, _⟩ => ⟨S4x8192x1280, .f32⟩
  | .hbm, ⟨32, _⟩ => ⟨S4x8192x1280, .f32⟩
  | .hbm, ⟨33, _⟩ => ⟨S4x8192x1280, .f32⟩
  | .hbm, ⟨34, _⟩ => ⟨S4x8192x1024, .f32⟩
  | .hbm, ⟨35, _⟩ => ⟨S4x8192x1024, .f32⟩
  | .hbm, ⟨36, _⟩ => ⟨S1x4x6144, .f32⟩
  | .hbm, ⟨37, _⟩ => ⟨S4x6144, .f32⟩
  | .hbm, ⟨38, _⟩ => ⟨S4x1x6144, .f32⟩
  | .hbm, ⟨39, _⟩ => ⟨S4x1x1024, .f32⟩
  | .hbm, ⟨40, _⟩ => ⟨S4x1x1024, .f32⟩
  | .hbm, ⟨41, _⟩ => ⟨S4x1x1024, .f32⟩
  | .hbm, ⟨42, _⟩ => ⟨S4x1x1024, .f32⟩
  | .hbm, ⟨43, _⟩ => ⟨S4x1x1024, .f32⟩
  | .hbm, ⟨44, _⟩ => ⟨S4x1x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S4x8192x1, .f32⟩
  | .hbm, ⟨59, _⟩ => ⟨S4x8192x1024, .f32⟩
  | .hbm, ⟨60, _⟩ => ⟨S4x8192x1024, .f32⟩
  | .hbm, ⟨61, _⟩ => ⟨S1x1x1024, .f32⟩
  | .hbm, ⟨62, _⟩ => ⟨S4x8192x1024, .f32⟩
  | .hbm, ⟨63, _⟩ => ⟨S4x8192x1024, .f32⟩
  | .hbm, ⟨64, _⟩ => ⟨S_, .f32⟩
  | .hbm, ⟨65, _⟩ => ⟨S4x1x1024, .f32⟩
  | .hbm, ⟨66, _⟩ => ⟨S4x1x1024, .f32⟩
  | .hbm, ⟨67, _⟩ => ⟨S4x8192x1024, .f32⟩
  | .hbm, ⟨68, _⟩ => ⟨S4x8192x1024, .f32⟩
  | .hbm, ⟨69, _⟩ => ⟨S4x8192x1024, .f32⟩
  | .hbm, ⟨70, _⟩ => ⟨S4x8192x1024, .f32⟩
  | .hbm, ⟨71, _⟩ => ⟨S4x8192x4096, .f32⟩
  | .hbm, ⟨72, _⟩ => ⟨S_, .f32⟩
  | .hbm, ⟨73, _⟩ => ⟨S4x8192x4096, .f32⟩
  | .hbm, ⟨74, _⟩ => ⟨S4x8192x4096, .f32⟩
  | .hbm, ⟨75, _⟩ => ⟨S4x8192x4096, .f32⟩
  | .hbm, ⟨76, _⟩ => ⟨S4x8192x1024, .f32⟩
  | .hbm, ⟨77, _⟩ => ⟨S4x8192x1024, .f32⟩
  | .hbm, ⟨78, _⟩ => ⟨S4x8192x1024, .f32⟩
  | .hbm, ⟨79, _⟩ => ⟨S4x8192x1024, .f32⟩
  | .hbm, ⟨80, _⟩ => ⟨S4x8192x1024, .f32⟩
  | .hbm, ⟨81, _⟩ => ⟨S_, .f32⟩
  | .hbm, ⟨82, _⟩ => ⟨S4x8192, .f32⟩
  | .hbm, ⟨83, _⟩ => ⟨S4x8192x1, .f32⟩
  | .hbm, ⟨84, _⟩ => ⟨S_, .f32⟩
  | .hbm, ⟨85, _⟩ => ⟨S4x8192x1, .f32⟩
  | .hbm, ⟨86, _⟩ => ⟨S4x8192x1, .f32⟩
  | .hbm, ⟨87, _⟩ => ⟨S_, .f32⟩
  | .hbm, ⟨88, _⟩ => ⟨S4x8192x1, .f32⟩
  | .hbm, ⟨89, _⟩ => ⟨S4x8192x1, .f32⟩
  | .hbm, ⟨90, _⟩ => ⟨S4x8192x1, .f32⟩
  | .hbm, ⟨91, _⟩ => ⟨S4x8192x1024, .f32⟩
  | .hbm, ⟨92, _⟩ => ⟨S4x8192x1024, .f32⟩
  | .hbm, ⟨93, _⟩ => ⟨S1x1x1024, .f32⟩
  | .hbm, ⟨94, _⟩ => ⟨S4x8192x1024, .f32⟩
  | .hbm, ⟨95, _⟩ => ⟨S4x8192x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_6 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call0_cst : Ref sig .tc := ⟨.hbm, 72, rfl⟩
abbrev main_call0_v0 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_7 : Ref sig .tc := ⟨.hbm, 81, rfl⟩
abbrev main_v62 : Ref sig .tc := ⟨.hbm, 82, rfl⟩
abbrev main_v63 : Ref sig .tc := ⟨.hbm, 83, rfl⟩
abbrev main_cst_8 : Ref sig .tc := ⟨.hbm, 84, rfl⟩
abbrev main_v64 : Ref sig .tc := ⟨.hbm, 85, rfl⟩
abbrev main_v65 : Ref sig .tc := ⟨.hbm, 86, rfl⟩
abbrev main_cst_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x256x1024 : Shape := ⟨3, ![4, 256, 1024]⟩
abbrev S4x8192x512 : Shape := ⟨3, ![4, 8192, 512]⟩
abbrev S4x256x512 : Shape := ⟨3, ![4, 256, 512]⟩
abbrev S4x8x6144 : Shape := ⟨3, ![4, 8, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S32x1x6144 : Shape := ⟨3, ![32, 1, 6144]⟩
abbrev S1x1024 : Shape := ⟨2, ![1, 1024]⟩
abbrev S4x8448x1024 : Shape := ⟨3, ![4, 8448, 1024]⟩
abbrev S1x256x1024 : Shape := ⟨3, ![1, 256, 1024]⟩
abbrev S1x256x512 : Shape := ⟨3, ![1, 256, 512]⟩
abbrev S1x1x6144 : Shape := ⟨3, ![1, 1, 6144]⟩
abbrev S256x512 : Shape := ⟨2, ![256, 512]⟩
abbrev S512x1024 : Shape := ⟨2, ![512, 1024]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩

abbrev nBuf : Space → Nat
  | .hbm => 18
  | .vmem => 22
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x8192x512, .bf16⟩
  | .hbm, ⟨3, _⟩ => ⟨S4x8192x512, .bf16⟩
  | .hbm, ⟨4, _⟩ => ⟨S4x256x512, .bf16⟩
  | .hbm, ⟨5, _⟩ => ⟨S4x8192x512, .bf16⟩
  | .hbm, ⟨6, _⟩ => ⟨S4x256x512, .bf16⟩
  | .hbm, ⟨7, _⟩ => ⟨S4x8x6144, .f32⟩
  | .hbm, ⟨8, _⟩ => ⟨S1024, .f32⟩
  | .hbm, ⟨9, _⟩ => ⟨S1024x1024, .f32⟩
  | .hbm, ⟨10, _⟩ => ⟨S1024x4096, .f32⟩
  | .hbm, ⟨11, _⟩ => ⟨S4096x1024, .f32⟩
  | .hbm, ⟨12, _⟩ => ⟨S32x1x6144, .f32⟩
  | .hbm, ⟨13, _⟩ => ⟨S1x1024, .f32⟩
  | .hbm, ⟨14, _⟩ => ⟨S1024x1024, .bf16⟩
  | .hbm, ⟨15, _⟩ => ⟨S1024x4096, .bf16⟩
  | .hbm, ⟨16, _⟩ => ⟨S4096x1024, .bf16⟩
  | .hbm, ⟨17, _⟩ => ⟨S4x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x1x6144, .f32⟩
  | .local _ .vmem, ⟨15, _⟩ => ⟨S1x1x6144, .f32⟩
  | .local _ .vmem, ⟨16, _⟩ => ⟨S1x1024, .f32⟩
  | .local _ .vmem, ⟨17, _⟩ => ⟨S1024x1024, .bf16⟩
  | .local _ .vmem, ⟨18, _⟩ => ⟨S1024x4096, .bf16⟩
  | .local _ .vmem, ⟨19, _⟩ => ⟨S4096x1024, .bf16⟩
  | .local _ .vmem, ⟨20, _⟩ => ⟨S1x256x1024, .f32⟩
  | .local _ .vmem, ⟨21, _⟩ => ⟨S1x256x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c4_i32 : BitVec 32 := 4#32
  let v1 : BitVec 32 := Scalar.select v0 c4_i32 arg0
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S4x8192x1024 : Shape := ⟨3, ![4, 8192, 1024]⟩
abbrev S4x256x1024 : Shape := ⟨3, ![4, 256, 1024]⟩
abbrev S4x8192x512 : Shape := ⟨3, ![4, 8192, 512]⟩
abbrev S4x256x512 : Shape := ⟨3, ![4, 256, 512]⟩
abbrev S4x8x6144 : Shape := ⟨3, ![4, 8, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S1x1x6144 : Shape := ⟨3, ![1, 1, 6144]⟩
abbrev S6144 : Shape := ⟨1, ![6144]⟩
abbrev S4x256 : Shape := ⟨2, ![4, 256]⟩
abbrev S4x256x1 : Shape := ⟨3, ![4, 256, 1]⟩
abbrev S4x256x4096 : Shape := ⟨3, ![4, 256, 4096]⟩
abbrev S4x8448x1024 : Shape := ⟨3, ![4, 8448, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x8192x512, .bf16⟩
  | .hbm, ⟨3, _⟩ => ⟨S4x8192x512, .bf16⟩
  | .hbm, ⟨4, _⟩ => ⟨S4x256x512, .bf16⟩
  | .hbm, ⟨5, _⟩ => ⟨S4x8192x512, .bf16⟩
  | .hbm, ⟨6, _⟩ => ⟨S4x256x512, .bf16⟩
  | .hbm, ⟨7, _⟩ => ⟨S4x8x6144, .f32⟩
  | .hbm, ⟨8, _⟩ => ⟨S1024, .f32⟩
  | .hbm, ⟨9, _⟩ => ⟨S1024x1024, .f32⟩
  | .hbm, ⟨10, _⟩ => ⟨S1024x4096, .f32⟩
  | .hbm, ⟨11, _⟩ => ⟨S4096x1024, .f32⟩
  | .hbm, ⟨12, _⟩ => ⟨S4x8192x512, .f32⟩
  | .hbm, ⟨13, _⟩ => ⟨S4x8192x512, .f32⟩
  | .hbm, ⟨14, _⟩ => ⟨S4x8192x512, .f32⟩
  | .hbm, ⟨15, _⟩ => ⟨S4x8192x512, .f32⟩
  | .hbm, ⟨16, _⟩ => ⟨S4x8192x1024, .f32⟩
  | .hbm, ⟨17, _⟩ => ⟨S4x8192x1024, .f32⟩
  | .hbm, ⟨18, _⟩ => ⟨S4x256x512, .f32⟩
  | .hbm, ⟨19, _⟩ => ⟨S4x256x512, .f32⟩
  | .hbm, ⟨20, _⟩ => ⟨S4x256x1024, .f32⟩
  | .hbm, ⟨21, _⟩ => ⟨S4x256x1024, .f32⟩
  | .hbm, ⟨22, _⟩ => ⟨S1x4x6144, .f32⟩
  | .hbm, ⟨23, _⟩ => ⟨S4x6144, .f32⟩
  | .hbm, ⟨24, _⟩ => ⟨S4x1x6144, .f32⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S4x1x1024, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x1, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x1x1024, .f32⟩
  | .hbm, ⟨52, _⟩ => ⟨S4x1x1024, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x4096, .f32⟩
  | .hbm, ⟨58, _⟩ => ⟨S_, .f32⟩
  | .hbm, ⟨59, _⟩ => ⟨S4x8192x4096, .f32⟩
  | .hbm, ⟨60, _⟩ => ⟨S4x8192x4096, .f32⟩
  | .hbm, ⟨61, _⟩ => ⟨S4x8192x4096, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S1x1x6144, .f32⟩
  | .hbm, ⟨67, _⟩ => ⟨S6144, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S1024, .f32⟩
  | .hbm, ⟨74, _⟩ => ⟨S1x1x1024, .f32⟩
  | .hbm, ⟨75, _⟩ => ⟨S4x256x1024, .f32⟩
  | .hbm, ⟨76, _⟩ => ⟨S4x256x1024, .f32⟩
  | .hbm, ⟨77, _⟩ => ⟨S4x256x1024, .f32⟩
  | .hbm, ⟨78, _⟩ => ⟨S4x256x1024, .f32⟩
  | .hbm, ⟨79, _⟩ => ⟨S_, .f32⟩
  | .hbm, ⟨80, _⟩ => ⟨S4x256, .f32⟩
  | .hbm, ⟨81, _⟩ => ⟨S4x256x1, .f32⟩
  | .hbm, ⟨82, _⟩ => ⟨S_, .f32⟩
  | .hbm, ⟨83, _⟩ => ⟨S4x256x1, .f32⟩
  | .hbm, ⟨84, _⟩ => ⟨S4x256x1, .f32⟩
  | .hbm, ⟨85, _⟩ => ⟨S_, .f32⟩
  | .hbm, ⟨86, _⟩ => ⟨S4x256x1, .f32⟩
  | .hbm, ⟨87, _⟩ => ⟨S4x256x1, .f32⟩
  | .hbm, ⟨88, _⟩ => ⟨S4x256x1, .f32⟩
  | .hbm, ⟨89, _⟩ => ⟨S4x256x1024, .f32⟩
  | .hbm, ⟨90, _⟩ => ⟨S4x256x1024, .f32⟩
  | .hbm, ⟨91, _⟩ => ⟨S1x1x1024, .f32⟩
  | .hbm, ⟨92, _⟩ => ⟨S4x256x1024, .f32⟩
  | .hbm, ⟨93, _⟩ => ⟨S4x256x1024, .f32⟩
  | .hbm, ⟨94, _⟩ => ⟨S_, .f32⟩
  | .hbm, ⟨95, _⟩ => ⟨S1024, .f32⟩
  | .hbm, ⟨96, _⟩ => ⟨S1024, .f32⟩
  | .hbm, ⟨97, _⟩ => ⟨S1x1x1024, .f32⟩
  | .hbm, ⟨98, _⟩ => ⟨S4x256x1024, .f32⟩
  | .hbm, ⟨99, _⟩ => ⟨S4x256x1024, .f32⟩
  | .hbm, ⟨100, _⟩ => ⟨S1x1x1024, .f32⟩
  | .hbm, ⟨101, _⟩ => ⟨S4x256x1024, .f32⟩
  | .hbm, ⟨102, _⟩ => ⟨S4x256x1024, .f32⟩
  | .hbm, ⟨103, _⟩ => ⟨S4x256x4096, .f32⟩
  | .hbm, ⟨104, _⟩ => ⟨S_, .f32⟩
  | .hbm, ⟨105, _⟩ => ⟨S4x256x4096, .f32⟩
  | .hbm, ⟨106, _⟩ => ⟨S4x256x4096, .f32⟩
  | .hbm, ⟨107, _⟩ => ⟨S4x256x4096, .f32⟩
  | .hbm, ⟨108, _⟩ => ⟨S4x256x1024, .f32⟩
  | .hbm, ⟨109, _⟩ => ⟨S1x1x1024, .f32⟩
  | .hbm, ⟨110, _⟩ => ⟨S4x256x1024, .f32⟩
  | .hbm, ⟨111, _⟩ => ⟨S4x256x1024, .f32⟩
  | .hbm, ⟨112, _⟩ => ⟨S4x256x1024, .f32⟩
  | .hbm, ⟨113, _⟩ => ⟨S4x8448x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_cst_0 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call0_cst : Ref sig .tc := ⟨.hbm, 58, rfl⟩
abbrev main_call0_v0 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_3 : Ref sig .tc := ⟨.hbm, 79, rfl⟩
abbrev main_v61 : Ref sig .tc := ⟨.hbm, 80, rfl⟩
abbrev main_v62 : Ref sig .tc := ⟨.hbm, 81, rfl⟩
abbrev main_cst_4 : Ref sig .tc := ⟨.hbm, 82, rfl⟩
abbrev main_v63 : Ref sig .tc := ⟨.hbm, 83, rfl⟩
abbrev main_v64 : Ref sig .tc := ⟨.hbm, 84, rfl⟩
abbrev main_cst_5 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_6 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_call1_cst : Ref sig .tc := ⟨.hbm, 104, rfl⟩
abbrev main_call1_v0 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩

abbrev nD : Nat := 1
abbrev τ : Topo := Topo.v7x

variable {F : FTy → Type} [FloatOps F]
-- ==== Kernel3.lean ====
abbrev S4x8448x1024 : Shape := ⟨3, ![4, 8448, 1024]⟩
abbrev S2x4x8448x1280 : Shape := ⟨4, ![2, 4, 8448, 1280]⟩
abbrev S4x8448x1280 : Shape := ⟨3, ![4, 8448, 1280]⟩
abbrev S4x8x6144 : Shape := ⟨3, ![4, 8, 6144]⟩
abbrev S1024 : Shape := ⟨1, ![1024]⟩
abbrev S1280x1024 : Shape := ⟨2, ![1280, 1024]⟩
abbrev S1024x4096 : Shape := ⟨2, ![1024, 4096]⟩
abbrev S4096x1024 : Shape := ⟨2, ![4096, 1024]⟩
abbrev S32x1x6144 : Shape := ⟨3, ![32, 1, 6144]⟩
abbrev S1x1024 : Shape := ⟨2, ![1, 1024]⟩
abbrev S1x256x1024 : Shape := ⟨3, ![1, 256, 1024]⟩
abbrev S2x1x256x1280 : Shape := ⟨4, ![2, 1, 256, 1280]⟩
abbrev S1x256x1280 : Shape := ⟨3, ![1, 256, 1280]⟩
abbrev S1x1x6144 : Shape := ⟨3, ![1, 1, 6144]⟩
abbrev S1x1x256x1280 : Shape := ⟨4, ![1, 1, 256, 1280]⟩
abbrev S256x1280 : Shape := ⟨2, ![256, 1280]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S1024x1024 : Shape := ⟨2, ![1024, 1024]⟩

abbrev nBuf : Space → Nat
  | .hbm => 14
  | .vmem => 16
  | .smem => 0
  | _ => 0

abbrev bufTy : (tb : Table) → Fin (tcTables nBuf tb) → BufTy
  | .hbm, ⟨0, _⟩ => ⟨S4x8448x1024, .f32⟩
  | .hbm, ⟨1, _⟩ => ⟨S2x4x8448x1280, .f32⟩
  | .hbm, ⟨2, _⟩ => ⟨S4x8448x1280, .bf16⟩
  | .hbm, ⟨3, _⟩ => ⟨S4x8x6144, .f32⟩
  | .hbm, ⟨4, _⟩ => ⟨S1024, .f32⟩
  | .hbm, ⟨5, _⟩ => ⟨S1280x1024, .f32⟩
  | .hbm, ⟨6, _⟩ => ⟨S1024x4096, .f32⟩
  | .hbm, ⟨7, _⟩ => ⟨S4096x1024, .f32⟩
  | .hbm, ⟨8, _⟩ => ⟨S32x1x6144, .f32⟩
  | .hbm, ⟨9, _⟩ => ⟨S1x1024, .f32⟩
  | .hbm, ⟨10, _⟩ => ⟨S1280x1024, .bf16⟩
  | .hbm, ⟨11, _⟩ => ⟨S1024x4096, .bf16⟩
  | .hbm, ⟨12, _⟩ => ⟨S4096x1024, .bf16⟩
  | .hbm, ⟨13, _⟩ => ⟨S4x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S2x1x256x1280, .f32⟩
  | .local _ .vmem, ⟨5, _⟩ => ⟨S2x1x256x1280, .f32⟩
  | .local _ .vmem, ⟨6, _⟩ => ⟨S1x256x1280, .bf16⟩
  | .local _ .vmem, ⟨7, _⟩ => ⟨S1x256x1280, .bf16⟩
  | .local _ .vmem, ⟨8, _⟩ => ⟨S1x1x6144, .f32⟩
  | .local _ .vmem, ⟨9, _⟩ => ⟨S1x1x6144, .f32⟩
  | .local _ .vmem, ⟨10, _⟩ => ⟨S1x1024, .f32⟩
  | .local _ .vmem, ⟨11, _⟩ => ⟨S1280x1024, .bf16⟩
  | .local _ .vmem, ⟨12, _⟩ => ⟨S1024x4096, .bf16⟩
  | .local _ .vmem, ⟨13, _⟩ => ⟨S4096x1024, .bf16⟩
  | .local _ .vmem, ⟨14, _⟩ => ⟨S1x256x1024, .f32⟩
  | .local _ .vmem, ⟨15, _⟩ => ⟨S1x256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let c0_i32_0 : BitVec 32 := 0#32
  ![arg0.toNat, c32_i32.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c4_i32 : BitVec 32 := 4#32
  let v1 : BitVec 32 := Scalar.select v0 c4_i32 arg0
  let c8_i32 : BitVec 32 := 8#32
  let v2 : BitVec 32 := Scalar.addi c8_i32 v1
  let c0_i32 : BitVec 32 := 0#32
  let c0_i32_0 : BitVec 32 := 0#32
  let c0_i32_1 : BitVec 32 := 0#32
  ![v2.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4x8448x1024 : Shape := ⟨3, ![4, 8448, 1024]⟩
abbrev S2x4x8448x1280 : Shape := ⟨4, ![2, 4, 8448, 1280]⟩
abbrev S4x8448x1280 : Shape := ⟨3, ![4, 8448, 1280]⟩
abbrev S4x8x6144 : Shape := ⟨3, ![4, 8, 6144]⟩
abbrev S1024 : Shape := ⟨1, ![1024]⟩
abbrev S1280x1024 : Shape := ⟨2, ![1280, 1024]⟩
abbrev S1024x4096 : Shape := ⟨2, ![1024, 4096]⟩
abbrev S4096x1024 : Shape := ⟨2, ![4096, 1024]⟩
abbrev S1x4x8192x1280 : Shape := ⟨4, ![1, 4, 8192, 1280]⟩
abbrev S4x8192x1280 : Shape := ⟨3, ![4, 8192, 1280]⟩
abbrev S_ : Shape := ⟨0, ![]⟩
abbrev S4x8192x1024 : Shape := ⟨3, ![4, 8192, 1024]⟩
abbrev S1x4x256x1280 : Shape := ⟨4, ![1, 4, 256, 1280]⟩
abbrev S4x256x1280 : Shape := ⟨3, ![4, 256, 1280]⟩
abbrev S4x256x1024 : Shape := ⟨3, ![4, 256, 1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S1x1x6144 : Shape := ⟨3, ![1, 1, 6144]⟩
abbrev S6144 : Shape := ⟨1, ![6144]⟩
abbrev S4x256 : Shape := ⟨2, ![4, 256]⟩
abbrev S4x256x1 : Shape := ⟨3, ![4, 256, 1]⟩
abbrev S4x256x4096 : Shape := ⟨3, ![4, 256, 4096]⟩

abbrev nBuf : Space → Nat
  | .hbm => 153
  | .vmem => 0
  | .smem => 0
  | _ => 0

abbrev hbmTy0_0 (i : Nat) : BufTy := match i % 128 with
  | 0 => ⟨S4x8448x1024, .f32⟩
  | 1 => ⟨S2x4x8448x1280, .f32⟩
  | 2 => ⟨S4x8448x1280, .bf16⟩
  | 3 => ⟨S4x8x6144, .f32⟩
  | 4 => ⟨S1024, .f32⟩
  | 5 => ⟨S1280x1024, .f32⟩
  | 6 => ⟨S1024x4096, .f32⟩
  | 7 => ⟨S4096x1024, .f32⟩
  | 8 => ⟨S4x8448x1280, .f32⟩
  | 9 => ⟨S1x4x8192x1280, .f32⟩
  | 10 => ⟨S4x8192x1280, .f32⟩
  | 11 => ⟨S1x4x8192x1280, .f32⟩
  | 12 => ⟨S4x8192x1280, .f32⟩
  | 13 => ⟨S4x8192x1280, .f32⟩
  | 14 => ⟨S4x8192x1280, .f32⟩
  | 15 => ⟨S4x8192x1280, .f32⟩
  | 16 => ⟨S4x8192x1280, .f32⟩
  | 17 => ⟨S_, .f32⟩
  | 18 => ⟨S4x8192x1280, .f32⟩
  | 19 => ⟨S4x8192x1280, .f32⟩
  | 20 => ⟨S4x8192x1280, .f32⟩
  | 21 => ⟨S_, .f32⟩
  | 22 => ⟨S4x8192x1280, .f32⟩
  | 23 => ⟨S4x8192x1280, .f32⟩
  | 24 => ⟨S4x8192x1280, .f32⟩
  | 25 => ⟨S_, .f32⟩
  | 26 => ⟨S4x8192x1280, .f32⟩
  | 27 => ⟨S4x8192x1280, .f32⟩
  | 28 => ⟨S_, .f32⟩
  | 29 => ⟨S4x8192x1280, .f32⟩
  | 30 => ⟨S4x8192x1280, .f32⟩
  | 31 => ⟨S4x8192x1280, .f32⟩
  | 32 => ⟨S4x8192x1280, .f32⟩
  | 33 => ⟨S4x8192x1024, .f32⟩
  | 34 => ⟨S1x4x256x1280, .f32⟩
  | 35 => ⟨S4x256x1280, .f32⟩
  | 36 => ⟨S1x4x256x1280, .f32⟩
  | 37 => ⟨S4x256x1280, .f32⟩
  | 38 => ⟨S4x256x1280, .f32⟩
  | 39 => ⟨S4x256x1280, .f32⟩
  | 40 => ⟨S4x256x1280, .f32⟩
  | 41 => ⟨S4x256x1280, .f32⟩
  | 42 => ⟨S_, .f32⟩
  | 43 => ⟨S4x256x1280, .f32⟩
  | 44 => ⟨S4x256x1280, .f32⟩
  | 45 => ⟨S4x256x1280, .f32⟩
  | 46 => ⟨S_, .f32⟩
  | 47 => ⟨S4x256x1280, .f32⟩
  | 48 => ⟨S4x256x1280, .f32⟩
  | 49 => ⟨S4x256x1280, .f32⟩
  | 50 => ⟨S_, .f32⟩
  | 51 => ⟨S4x256x1280, .f32⟩
  | 52 => ⟨S4x256x1280, .f32⟩
  | 53 => ⟨S_, .f32⟩
  | 54 => ⟨S4x256x1280, .f32⟩
  | 55 => ⟨S4x256x1280, .f32⟩
  | 56 => ⟨S4x256x1280, .f32⟩
  | 57 => ⟨S4x256x1280, .f32⟩
  | 58 => ⟨S4x256x1024, .f32⟩
  | 59 => ⟨S4x8192x1024, .f32⟩
  | 60 => ⟨S1x4x6144, .f32⟩
  | 61 => ⟨S4x6144, .f32⟩
  | 62 => ⟨S4x1x6144, .f32⟩
  | 63 => ⟨S4x1x1024, .f32⟩
  | 64 => ⟨S4x1x1024, .f32⟩
  | 65 => ⟨S4x1x1024, .f32⟩
  | 66 => ⟨S4x1x1024, .f32⟩
  | 67 => ⟨S4x1x1024, .f32⟩
  | 68 => ⟨S4x1x1024, .f32⟩
  | 69 => ⟨S4x8192x1024, .f32⟩
  | 70 => ⟨S4x8192x1024, .f32⟩
  | 71 => ⟨S4x8192x1024, .f32⟩
  | 72 => ⟨S4x8192x1024, .f32⟩
  | 73 => ⟨S_, .f32⟩
  | 74 => ⟨S4x8192, .f32⟩
  | 75 => ⟨S4x8192x1, .f32⟩
  | 76 => ⟨S_, .f32⟩
  | 77 => ⟨S4x8192x1, .f32⟩
  | 78 => ⟨S4x8192x1, .f32⟩
  | 79 => ⟨S_, .f32⟩
  | 80 => ⟨S4x8192x1, .f32⟩
  | 81 => ⟨S4x8192x1, .f32⟩
  | 82 => ⟨S4x8192x1, .f32⟩
  | 83 => ⟨S4x8192x1024, .f32⟩
  | 84 => ⟨S4x8192x1024, .f32⟩
  | 85 => ⟨S1x1x1024, .f32⟩
  | 86 => ⟨S4x8192x1024, .f32⟩
  | 87 => ⟨S4x8192x1024, .f32⟩
  | 88 => ⟨S_, .f32⟩
  | 89 => ⟨S4x1x1024, .f32⟩
  | 90 => ⟨S4x1x1024, .f32⟩
  | 91 => ⟨S4x8192x1024, .f32⟩
  | 92 => ⟨S4x8192x1024, .f32⟩
  | 93 => ⟨S4x8192x1024, .f32⟩
  | 94 => ⟨S4x8192x1024, .f32⟩
  | 95 => ⟨S4x8192x4096, .f32⟩
  | 96 => ⟨S_, .f32⟩
  | 97 => ⟨S4x8192x4096, .f32⟩
  | 98 => ⟨S4x8192x4096, .f32⟩
  | 99 => ⟨S4x8192x4096, .f32⟩
  | 100 => ⟨S4x8192x1024, .f32⟩
  | 101 => ⟨S4x8192x1024, .f32⟩
  | 102 => ⟨S4x8192x1024, .f32⟩
  | 103 => ⟨S4x8192x1024, .f32⟩
  | 104 => ⟨S4x256x1024, .f32⟩
  | 105 => ⟨S1x1x6144, .f32⟩
  | 106 => ⟨S6144, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1x1x1024, .f32⟩
  | 114 => ⟨S4x256x1024, .f32⟩
  | 115 => ⟨S4x256x1024, .f32⟩
  | 116 => ⟨S4x256x1024, .f32⟩
  | 117 => ⟨S4x256x1024, .f32⟩
  | 118 => ⟨S_, .f32⟩
  | 119 => ⟨S4x256, .f32⟩
  | 120 => ⟨S4x256x1, .f32⟩
  | 121 => ⟨S_, .f32⟩
  | 122 => ⟨S4x256x1, .f32⟩
  | 123 => ⟨S4x256x1, .f32⟩
  | 124 => ⟨S_, .f32⟩
  | 125 => ⟨S4x256x1, .f32⟩
  | 126 => ⟨S4x256x1, .f32⟩
  | 127 => ⟨S4x256x1, .f32⟩
  | _ => ⟨S4x8448x1024, .f32⟩

abbrev hbmTy0_1 (i : Nat) : BufTy := match i % 128 with
  | 0 => ⟨S4x256x1024, .f32⟩
  | 1 => ⟨S4x256x1024, .f32⟩
  | 2 => ⟨S1x1x1024, .f32⟩
  | 3 => ⟨S4x256x1024, .f32⟩
  | 4 => ⟨S4x256x1024, .f32⟩
  | 5 => ⟨S_, .f32⟩
  | 6 => ⟨S1024, .f32⟩
  | 7 => ⟨S1024, .f32⟩
  | 8 => ⟨S1x1x1024, .f32⟩
  | 9 => ⟨S4x256x1024, .f32⟩
  | 10 => ⟨S4x256x1024, .f32⟩
  | 11 => ⟨S1x1x1024, .f32⟩
  | 12 => ⟨S4x256x1024, .f32⟩
  | 13 => ⟨S4x256x1024, .f32⟩
  | 14 => ⟨S4x256x4096, .f32⟩
  | 15 => ⟨S_, .f32⟩
  | 16 => ⟨S4x256x4096, .f32⟩
  | 17 => ⟨S4x256x4096, .f32⟩
  | 18 => ⟨S4x256x4096, .f32⟩
  | 19 => ⟨S4x256x1024, .f32⟩
  | 20 => ⟨S1x1x1024, .f32⟩
  | 21 => ⟨S4x256x1024, .f32⟩
  | 22 => ⟨S4x256x1024, .f32⟩
  | 23 => ⟨S4x256x1024, .f32⟩
  | 24 => ⟨S4x8448x1024, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_cst_9 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_call0_cst : Ref sig .tc := ⟨.hbm, 96, rfl⟩
abbrev main_call0_v0 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_11 : Ref sig .tc := ⟨.hbm, 118, rfl⟩
abbrev main_v96 : Ref sig .tc := ⟨.hbm, 119, rfl⟩
abbrev main_v97 : Ref sig .tc := ⟨.hbm, 120, rfl⟩
abbrev main_cst_12 : Ref sig .tc := ⟨.hbm, 121, rfl⟩
abbrev main_v98 : Ref sig .tc := ⟨.hbm, 122, rfl⟩
abbrev main_v99 : Ref sig .tc := ⟨.hbm, 123, rfl⟩
abbrev main_cst_13 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_14 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_call1_cst : Ref sig .tc := ⟨.hbm, 143, rfl⟩
abbrev main_call1_v0 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩

abbrev nD : Nat := 1
abbrev τ : Topo := Topo.v7x

variable {F : FTy → Type} [FloatOps F]
-- ==== Kernel4.lean ====
abbrev S4x8448x1024 : Shape := ⟨3, ![4, 8448, 1024]⟩
abbrev S4x8192x512 : Shape := ⟨3, ![4, 8192, 512]⟩
abbrev S4x256x512 : Shape := ⟨3, ![4, 256, 512]⟩
abbrev S4x8x6144 : Shape := ⟨3, ![4, 8, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S32x1x6144 : Shape := ⟨3, ![32, 1, 6144]⟩
abbrev S1x1024 : Shape := ⟨2, ![1, 1024]⟩
abbrev S1x256x1024 : Shape := ⟨3, ![1, 256, 1024]⟩
abbrev S1x256x512 : Shape := ⟨3, ![1, 256, 512]⟩
abbrev S1x1x6144 : Shape := ⟨3, ![1, 1, 6144]⟩
abbrev S256x512 : Shape := ⟨2, ![256, 512]⟩
abbrev S512x1024 : Shape := ⟨2, ![512, 1024]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩

abbrev nBuf : Space → Nat
  | .hbm => 17
  | .vmem => 22
  | .smem => 0
  | _ => 0

abbrev bufTy : (tb : Table) → Fin (tcTables nBuf tb) → BufTy
  | .hbm, ⟨0, _⟩ => ⟨S4x8448x1024, .f32⟩
  | .hbm, ⟨1, _⟩ => ⟨S4x8192x512, .bf16⟩
  | .hbm, ⟨2, _⟩ => ⟨S4x8192x512, .bf16⟩
  | .hbm, ⟨3, _⟩ => ⟨S4x256x512, .bf16⟩
  | .hbm, ⟨4, _⟩ => ⟨S4x8192x512, .bf16⟩
  | .hbm, ⟨5, _⟩ => ⟨S4x256x512, .bf16⟩
  | .hbm, ⟨6, _⟩ => ⟨S4x8x6144, .f32⟩
  | .hbm, ⟨7, _⟩ => ⟨S1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S32x1x6144, .f32⟩
  | .hbm, ⟨12, _⟩ => ⟨S1x1024, .f32⟩
  | .hbm, ⟨13, _⟩ => ⟨S1024x1024, .bf16⟩
  | .hbm, ⟨14, _⟩ => ⟨S1024x4096, .bf16⟩
  | .hbm, ⟨15, _⟩ => ⟨S4096x1024, .bf16⟩
  | .hbm, ⟨16, _⟩ => ⟨S4x8448x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x1x6144, .f32⟩
  | .local _ .vmem, ⟨15, _⟩ => ⟨S1x1x6144, .f32⟩
  | .local _ .vmem, ⟨16, _⟩ => ⟨S1x1024, .f32⟩
  | .local _ .vmem, ⟨17, _⟩ => ⟨S1024x1024, .bf16⟩
  | .local _ .vmem, ⟨18, _⟩ => ⟨S1024x4096, .bf16⟩
  | .local _ .vmem, ⟨19, _⟩ => ⟨S4096x1024, .bf16⟩
  | .local _ .vmem, ⟨20, _⟩ => ⟨S1x256x1024, .f32⟩
  | .local _ .vmem, ⟨21, _⟩ => ⟨S1x256x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let c0_i32_0 : BitVec 32 := 0#32
  ![arg0.toNat, c32_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c4_i32 : BitVec 32 := 4#32
  let v1 : BitVec 32 := Scalar.select v0 c4_i32 arg0
  let c16_i32 : BitVec 32 := 16#32
  let v2 : BitVec 32 := Scalar.addi c16_i32 v1
  let c0_i32 : BitVec 32 := 0#32
  let c0_i32_0 : BitVec 32 := 0#32
  let c0_i32_1 : BitVec 32 := 0#32
  ![v2.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference4Ideal.lean ====
abbrev S4x8448x1024 : Shape := ⟨3, ![4, 8448, 1024]⟩
abbrev S4x8192x512 : Shape := ⟨3, ![4, 8192, 512]⟩
abbrev S4x256x512 : Shape := ⟨3, ![4, 256, 512]⟩
abbrev S4x8x6144 : Shape := ⟨3, ![4, 8, 6144]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S4x8192x1024 : Shape := ⟨3, ![4, 8192, 1024]⟩
abbrev S4x256x1024 : Shape := ⟨3, ![4, 256, 1024]⟩
abbrev S1x4x6144 : Shape := ⟨3, ![1, 4, 6144]⟩
abbrev S4x6144 : Shape := ⟨2, ![4, 6144]⟩
abbrev S4x1x6144 : Shape := ⟨3, ![4, 1, 6144]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩
abbrev S1x1x6144 : Shape := ⟨3, ![1, 1, 6144]⟩
abbrev S6144 : Shape := ⟨1, ![6144]⟩
abbrev S4x256 : Shape := ⟨2, ![4, 256]⟩
abbrev S4x256x1 : Shape := ⟨3, ![4, 256, 1]⟩
abbrev S4x256x4096 : Shape := ⟨3, ![4, 256, 4096]⟩

abbrev nBuf : Space → Nat
  | .hbm => 115
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x8192x512, .bf16⟩
  | .hbm, ⟨2, _⟩ => ⟨S4x8192x512, .bf16⟩
  | .hbm, ⟨3, _⟩ => ⟨S4x256x512, .bf16⟩
  | .hbm, ⟨4, _⟩ => ⟨S4x8192x512, .bf16⟩
  | .hbm, ⟨5, _⟩ => ⟨S4x256x512, .bf16⟩
  | .hbm, ⟨6, _⟩ => ⟨S4x8x6144, .f32⟩
  | .hbm, ⟨7, _⟩ => ⟨S1024, .f32⟩
  | .hbm, ⟨8, _⟩ => ⟨S1024x1024, .f32⟩
  | .hbm, ⟨9, _⟩ => ⟨S1024x4096, .f32⟩
  | .hbm, ⟨10, _⟩ => ⟨S4096x1024, .f32⟩
  | .hbm, ⟨11, _⟩ => ⟨S4x8192x512, .f32⟩
  | .hbm, ⟨12, _⟩ => ⟨S4x8192x512, .f32⟩
  | .hbm, ⟨13, _⟩ => ⟨S4x8192x512, .f32⟩
  | .hbm, ⟨14, _⟩ => ⟨S4x8192x512, .f32⟩
  | .hbm, ⟨15, _⟩ => ⟨S4x8192x1024, .f32⟩
  | .hbm, ⟨16, _⟩ => ⟨S4x8192x1024, .f32⟩
  | .hbm, ⟨17, _⟩ => ⟨S4x256x512, .f32⟩
  | .hbm, ⟨18, _⟩ => ⟨S4x256x512, .f32⟩
  | .hbm, ⟨19, _⟩ => ⟨S4x256x1024, .f32⟩
  | .hbm, ⟨20, _⟩ => ⟨S4x256x1024, .f32⟩
  | .hbm, ⟨21, _⟩ => ⟨S4x8192x1024, .f32⟩
  | .hbm, ⟨22, _⟩ => ⟨S1x4x6144, .f32⟩
  | .hbm, ⟨23, _⟩ => ⟨S4x6144, .f32⟩
  | .hbm, ⟨24, _⟩ => ⟨S4x1x6144, .f32⟩
  | .hbm, ⟨25, _⟩ => ⟨S4x1x1024, .f32⟩
  | .hbm, ⟨26, _⟩ => ⟨S4x1x1024, .f32⟩
  | .hbm, ⟨27, _⟩ => ⟨S4x1x1024, .f32⟩
  | .hbm, ⟨28, _⟩ => ⟨S4x1x1024, .f32⟩
  | .hbm, ⟨29, _⟩ => ⟨S4x1x1024, .f32⟩
  | .hbm, ⟨30, _⟩ => ⟨S4x1x1024, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S4x8192x1024, .f32⟩
  | .hbm, ⟨35, _⟩ => ⟨S_, .f32⟩
  | .hbm, ⟨36, _⟩ => ⟨S4x8192, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S_, .f32⟩
  | .hbm, ⟨42, _⟩ => ⟨S4x8192x1, .f32⟩
  | .hbm, ⟨43, _⟩ => ⟨S4x8192x1, .f32⟩
  | .hbm, ⟨44, _⟩ => ⟨S4x8192x1, .f32⟩
  | .hbm, ⟨45, _⟩ => ⟨S4x8192x1024, .f32⟩
  | .hbm, ⟨46, _⟩ => ⟨S4x8192x1024, .f32⟩
  | .hbm, ⟨47, _⟩ => ⟨S1x1x1024, .f32⟩
  | .hbm, ⟨48, _⟩ => ⟨S4x8192x1024, .f32⟩
  | .hbm, ⟨49, _⟩ => ⟨S4x8192x1024, .f32⟩
  | .hbm, ⟨50, _⟩ => ⟨S_, .f32⟩
  | .hbm, ⟨51, _⟩ => ⟨S4x1x1024, .f32⟩
  | .hbm, ⟨52, _⟩ => ⟨S4x1x1024, .f32⟩
  | .hbm, ⟨53, _⟩ => ⟨S4x8192x1024, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x4096, .f32⟩
  | .hbm, ⟨58, _⟩ => ⟨S_, .f32⟩
  | .hbm, ⟨59, _⟩ => ⟨S4x8192x4096, .f32⟩
  | .hbm, ⟨60, _⟩ => ⟨S4x8192x4096, .f32⟩
  | .hbm, ⟨61, _⟩ => ⟨S4x8192x4096, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S4x8192x1024, .f32⟩
  | .hbm, ⟨66, _⟩ => ⟨S4x256x1024, .f32⟩
  | .hbm, ⟨67, _⟩ => ⟨S1x1x6144, .f32⟩
  | .hbm, ⟨68, _⟩ => ⟨S6144, .f32⟩
  | .hbm, ⟨69, _⟩ => ⟨S1024, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S1024, .f32⟩
  | .hbm, ⟨74, _⟩ => ⟨S1024, .f32⟩
  | .hbm, ⟨75, _⟩ => ⟨S1x1x1024, .f32⟩
  | .hbm, ⟨76, _⟩ => ⟨S4x256x1024, .f32⟩
  | .hbm, ⟨77, _⟩ => ⟨S4x256x1024, .f32⟩
  | .hbm, ⟨78, _⟩ => ⟨S4x256x1024, .f32⟩
  | .hbm, ⟨79, _⟩ => ⟨S4x256x1024, .f32⟩
  | .hbm, ⟨80, _⟩ => ⟨S_, .f32⟩
  | .hbm, ⟨81, _⟩ => ⟨S4x256, .f32⟩
  | .hbm, ⟨82, _⟩ => ⟨S4x256x1, .f32⟩
  | .hbm, ⟨83, _⟩ => ⟨S_, .f32⟩
  | .hbm, ⟨84, _⟩ => ⟨S4x256x1, .f32⟩
  | .hbm, ⟨85, _⟩ => ⟨S4x256x1, .f32⟩
  | .hbm, ⟨86, _⟩ => ⟨S_, .f32⟩
  | .hbm, ⟨87, _⟩ => ⟨S4x256x1, .f32⟩
  | .hbm, ⟨88, _⟩ => ⟨S4x256x1, .f32⟩
  | .hbm, ⟨89, _⟩ => ⟨S4x256x1, .f32⟩
  | .hbm, ⟨90, _⟩ => ⟨S4x256x1024, .f32⟩
  | .hbm, ⟨91, _⟩ => ⟨S4x256x1024, .f32⟩
  | .hbm, ⟨92, _⟩ => ⟨S1x1x1024, .f32⟩
  | .hbm, ⟨93, _⟩ => ⟨S4x256x1024, .f32⟩
  | .hbm, ⟨94, _⟩ => ⟨S4x256x1024, .f32⟩
  | .hbm, ⟨95, _⟩ => ⟨S_, .f32⟩
  | .hbm, ⟨96, _⟩ => ⟨S1024, .f32⟩
  | .hbm, ⟨97, _⟩ => ⟨S1024, .f32⟩
  | .hbm, ⟨98, _⟩ => ⟨S1x1x1024, .f32⟩
  | .hbm, ⟨99, _⟩ => ⟨S4x256x1024, .f32⟩
  | .hbm, ⟨100, _⟩ => ⟨S4x256x1024, .f32⟩
  | .hbm, ⟨101, _⟩ => ⟨S1x1x1024, .f32⟩
  | .hbm, ⟨102, _⟩ => ⟨S4x256x1024, .f32⟩
  | .hbm, ⟨103, _⟩ => ⟨S4x256x1024, .f32⟩
  | .hbm, ⟨104, _⟩ => ⟨S4x256x4096, .f32⟩
  | .hbm, ⟨105, _⟩ => ⟨S_, .f32⟩
  | .hbm, ⟨106, _⟩ => ⟨S4x256x4096, .f32⟩
  | .hbm, ⟨107, _⟩ => ⟨S4x256x4096, .f32⟩
  | .hbm, ⟨108, _⟩ => ⟨S4x256x4096, .f32⟩
  | .hbm, ⟨109, _⟩ => ⟨S4x256x1024, .f32⟩
  | .hbm, ⟨110, _⟩ => ⟨S1x1x1024, .f32⟩
  | .hbm, ⟨111, _⟩ => ⟨S4x256x1024, .f32⟩
  | .hbm, ⟨112, _⟩ => ⟨S4x256x1024, .f32⟩
  | .hbm, ⟨113, _⟩ => ⟨S4x256x1024, .f32⟩
  | .hbm, ⟨114, _⟩ => ⟨S4x8448x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst : Ref sig .tc := ⟨.hbm, 35, rfl⟩
abbrev main_v24 : Ref sig .tc := ⟨.hbm, 36, rfl⟩
abbrev main_v25 : Ref sig .tc := ⟨.hbm, 37, rfl⟩
abbrev main_cst_0 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_2 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_cst : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_3 : Ref sig .tc := ⟨.hbm, 80, rfl⟩
abbrev main_v63 : Ref sig .tc := ⟨.hbm, 81, rfl⟩
abbrev main_v64 : Ref sig .tc := ⟨.hbm, 82, rfl⟩
abbrev main_cst_4 : Ref sig .tc := ⟨.hbm, 83, rfl⟩
abbrev main_v65 : Ref sig .tc := ⟨.hbm, 84, rfl⟩
abbrev main_v66 : Ref sig .tc := ⟨.hbm, 85, rfl⟩
abbrev main_cst_5 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_6 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_call1_cst : Ref sig .tc := ⟨.hbm, 105, rfl⟩
abbrev main_call1_v0 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩

abbrev nD : Nat := 1
abbrev τ : Topo := Topo.v7x

variable {F : FTy → Type} [FloatOps F]
-- ==== Kernel5.lean ====
abbrev S4x8448x1024 : Shape := ⟨3, ![4, 8448, 1024]⟩
abbrev S4x8x6144 : Shape := ⟨3, ![4, 8, 6144]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S32x1x6144 : Shape := ⟨3, ![32, 1, 6144]⟩
abbrev S1x1024 : Shape := ⟨2, ![1, 1024]⟩
abbrev S4x1056x8x1024 : Shape := ⟨4, ![4, 1056, 8, 1024]⟩
abbrev S1x1280 : Shape := ⟨2, ![1, 1280]⟩
abbrev S4x8448x1280 : Shape := ⟨3, ![4, 8448, 1280]⟩
abbrev S1x1x8x1024 : Shape := ⟨4, ![1, 1, 8, 1024]⟩
abbrev S1x256x1024 : Shape := ⟨3, ![1, 256, 1024]⟩
abbrev S1x1x6144 : Shape := ⟨3, ![1, 1, 6144]⟩
abbrev S1x256x1280 : Shape := ⟨3, ![1, 256, 1280]⟩
abbrev S1x6144 : Shape := ⟨2, ![1, 6144]⟩
abbrev S8x1024 : Shape := ⟨2, ![8, 1024]⟩
abbrev S256x1024 : Shape := ⟨2, ![256, 1024]⟩
abbrev S272x1024 : Shape := ⟨2, ![272, 1024]⟩
abbrev S272 : Shape := ⟨1, ![272]⟩
abbrev S272x1 : Shape := ⟨2, ![272, 1]⟩
abbrev S272x2560 : Shape := ⟨2, ![272, 2560]⟩
abbrev S256x1280 : Shape := ⟨2, ![256, 1280]⟩
abbrev S272x1280 : Shape := ⟨2, ![272, 1280]⟩

abbrev nBuf : Space → Nat
  | .hbm => 13
  | .vmem => 16
  | .smem => 0
  | _ => 0

abbrev bufTy : (tb : Table) → Fin (tcTables nBuf tb) → BufTy
  | .hbm, ⟨0, _⟩ => ⟨S4x8448x1024, .f32⟩
  | .hbm, ⟨1, _⟩ => ⟨S4x8x6144, .f32⟩
  | .hbm, ⟨2, _⟩ => ⟨S1024, .f32⟩
  | .hbm, ⟨3, _⟩ => ⟨S1024x2560, .f32⟩
  | .hbm, ⟨4, _⟩ => ⟨S4x1280, .f32⟩
  | .hbm, ⟨5, _⟩ => ⟨S1280, .f32⟩
  | .hbm, ⟨6, _⟩ => ⟨S32x1x6144, .f32⟩
  | .hbm, ⟨7, _⟩ => ⟨S1x1024, .f32⟩
  | .hbm, ⟨8, _⟩ => ⟨S1024x2560, .bf16⟩
  | .hbm, ⟨9, _⟩ => ⟨S4x1056x8x1024, .f32⟩
  | .hbm, ⟨10, _⟩ => ⟨S1x1280, .f32⟩
  | .hbm, ⟨11, _⟩ => ⟨S4x8448x1280, .bf16⟩
  | .hbm, ⟨12, _⟩ => ⟨S4x8448x1280, .f32⟩
  | .local _ .vmem, ⟨0, _⟩ => ⟨S1x1x8x1024, .f32⟩
  | .local _ .vmem, ⟨1, _⟩ => ⟨S1x1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x8x1024, .f32⟩
  | .local _ .vmem, ⟨5, _⟩ => ⟨S1x1x8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x2560, .bf16⟩
  | .local _ .vmem, ⟨10, _⟩ => ⟨S4x1280, .f32⟩
  | .local _ .vmem, ⟨11, _⟩ => ⟨S1x1280, .f32⟩
  | .local _ .vmem, ⟨12, _⟩ => ⟨S1x256x1280, .bf16⟩
  | .local _ .vmem, ⟨13, _⟩ => ⟨S1x256x1280, .bf16⟩
  | .local _ .vmem, ⟨14, _⟩ => ⟨S1x256x1280, .f32⟩
  | .local _ .vmem, ⟨15, _⟩ => ⟨S1x256x1280, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 33], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let c0_i32_0 : BitVec 32 := 0#32
  let c0_i32_1 : BitVec 32 := 0#32
  ![arg0.toNat, v2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c4_i32 : BitVec 32 := 4#32
  let v1 : BitVec 32 := Scalar.select v0 c4_i32 arg0
  let c8_i32 : BitVec 32 := 8#32
  let v2 : BitVec 32 := Scalar.addi c8_i32 v1
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1280 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1280 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S4x8448x1024 : Shape := ⟨3, ![4, 8448, 1024]⟩
abbrev S4x8x6144 : Shape := ⟨3, ![4, 8, 6144]⟩
abbrev S1024 : Shape := ⟨1, ![1024]⟩
abbrev S1024x2560 : Shape := ⟨2, ![1024, 2560]⟩
abbrev S4x1280 : Shape := ⟨2, ![4, 1280]⟩
abbrev S1280 : Shape := ⟨1, ![1280]⟩
abbrev S1x8x6144 : Shape := ⟨3, ![1, 8, 6144]⟩
abbrev S8x6144 : Shape := ⟨2, ![8, 6144]⟩
abbrev S4x2048 : Shape := ⟨2, ![4, 2048]⟩
abbrev S4x1x2048 : Shape := ⟨3, ![4, 1, 2048]⟩
abbrev S4x8192x2048 : Shape := ⟨3, ![4, 8192, 2048]⟩
abbrev S1x2048 : Shape := ⟨2, ![1, 2048]⟩
abbrev S2048 : Shape := ⟨1, ![2048]⟩
abbrev S4x256x2048 : Shape := ⟨3, ![4, 256, 2048]⟩
abbrev S4x8448x2048 : Shape := ⟨3, ![4, 8448, 2048]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x8448x2560 : Shape := ⟨3, ![4, 8448, 2560]⟩
abbrev S4x8448x1280 : Shape := ⟨3, ![4, 8448, 1280]⟩
abbrev S4x8192x1280 : Shape := ⟨3, ![4, 8192, 1280]⟩
abbrev S4x8195x1280 : Shape := ⟨3, ![4, 8195, 1280]⟩
abbrev S1x1280 : Shape := ⟨2, ![1, 1280]⟩
abbrev S1x1x1280 : Shape := ⟨3, ![1, 1, 1280]⟩
abbrev S4x256x1280 : Shape := ⟨3, ![4, 256, 1280]⟩
abbrev S4x259x1280 : Shape := ⟨3, ![4, 259, 1280]⟩

abbrev nBuf : Space → Nat
  | .hbm => 117
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x8x6144, .f32⟩
  | .hbm, ⟨2, _⟩ => ⟨S1024, .f32⟩
  | .hbm, ⟨3, _⟩ => ⟨S1024x2560, .f32⟩
  | .hbm, ⟨4, _⟩ => ⟨S4x1280, .f32⟩
  | .hbm, ⟨5, _⟩ => ⟨S1280, .f32⟩
  | .hbm, ⟨6, _⟩ => ⟨S1x8x6144, .f32⟩
  | .hbm, ⟨7, _⟩ => ⟨S8x6144, .f32⟩
  | .hbm, ⟨8, _⟩ => ⟨S4x2048, .f32⟩
  | .hbm, ⟨9, _⟩ => ⟨S4x1x2048, .f32⟩
  | .hbm, ⟨10, _⟩ => ⟨S4x8192x2048, .f32⟩
  | .hbm, ⟨11, _⟩ => ⟨S1x2048, .f32⟩
  | .hbm, ⟨12, _⟩ => ⟨S2048, .f32⟩
  | .hbm, ⟨13, _⟩ => ⟨S4x256x2048, .f32⟩
  | .hbm, ⟨14, _⟩ => ⟨S4x8448x2048, .f32⟩
  | .hbm, ⟨15, _⟩ => ⟨S4x8448x1024, .f32⟩
  | .hbm, ⟨16, _⟩ => ⟨S4x8448x1024, .f32⟩
  | .hbm, ⟨17, _⟩ => ⟨S4x8448x1024, .f32⟩
  | .hbm, ⟨18, _⟩ => ⟨S_, .f32⟩
  | .hbm, ⟨19, _⟩ => ⟨S4x8448, .f32⟩
  | .hbm, ⟨20, _⟩ => ⟨S4x8448x1, .f32⟩
  | .hbm, ⟨21, _⟩ => ⟨S_, .f32⟩
  | .hbm, ⟨22, _⟩ => ⟨S4x8448x1, .f32⟩
  | .hbm, ⟨23, _⟩ => ⟨S4x8448x1, .f32⟩
  | .hbm, ⟨24, _⟩ => ⟨S_, .f32⟩
  | .hbm, ⟨25, _⟩ => ⟨S4x8448x1, .f32⟩
  | .hbm, ⟨26, _⟩ => ⟨S4x8448x1, .f32⟩
  | .hbm, ⟨27, _⟩ => ⟨S4x8448x1, .f32⟩
  | .hbm, ⟨28, _⟩ => ⟨S4x8448x1024, .f32⟩
  | .hbm, ⟨29, _⟩ => ⟨S4x8448x1024, .f32⟩
  | .hbm, ⟨30, _⟩ => ⟨S1x1x1024, .f32⟩
  | .hbm, ⟨31, _⟩ => ⟨S4x8448x1024, .f32⟩
  | .hbm, ⟨32, _⟩ => ⟨S4x8448x1024, .f32⟩
  | .hbm, ⟨33, _⟩ => ⟨S_, .f32⟩
  | .hbm, ⟨34, _⟩ => ⟨S4x8448x1024, .f32⟩
  | .hbm, ⟨35, _⟩ => ⟨S4x8448x1024, .f32⟩
  | .hbm, ⟨36, _⟩ => ⟨S4x8448x1024, .f32⟩
  | .hbm, ⟨37, _⟩ => ⟨S4x8448x1024, .f32⟩
  | .hbm, ⟨38, _⟩ => ⟨S4x8448x2560, .f32⟩
  | .hbm, ⟨39, _⟩ => ⟨S4x8448x1280, .f32⟩
  | .hbm, ⟨40, _⟩ => ⟨S4x8448x1280, .f32⟩
  | .hbm, ⟨41, _⟩ => ⟨S4x8192x1280, .f32⟩
  | .hbm, ⟨42, _⟩ => ⟨S_, .i32⟩
  | .hbm, ⟨43, _⟩ => ⟨S_, .f32⟩
  | .hbm, ⟨44, _⟩ => ⟨S4x8195x1280, .f32⟩
  | .hbm, ⟨45, _⟩ => ⟨S1x1280, .f32⟩
  | .hbm, ⟨46, _⟩ => ⟨S1280, .f32⟩
  | .hbm, ⟨47, _⟩ => ⟨S4x8192x1280, .f32⟩
  | .hbm, ⟨48, _⟩ => ⟨S1x1x1280, .f32⟩
  | .hbm, ⟨49, _⟩ => ⟨S4x8192x1280, .f32⟩
  | .hbm, ⟨50, _⟩ => ⟨S4x8192x1280, .f32⟩
  | .hbm, ⟨51, _⟩ => ⟨S_, .f32⟩
  | .hbm, ⟨52, _⟩ => ⟨S4x8192x1280, .f32⟩
  | .hbm, ⟨53, _⟩ => ⟨S4x8192x1280, .f32⟩
  | .hbm, ⟨54, _⟩ => ⟨S1x1280, .f32⟩
  | .hbm, ⟨55, _⟩ => ⟨S1280, .f32⟩
  | .hbm, ⟨56, _⟩ => ⟨S4x8192x1280, .f32⟩
  | .hbm, ⟨57, _⟩ => ⟨S1x1x1280, .f32⟩
  | .hbm, ⟨58, _⟩ => ⟨S4x8192x1280, .f32⟩
  | .hbm, ⟨59, _⟩ => ⟨S4x8192x1280, .f32⟩
  | .hbm, ⟨60, _⟩ => ⟨S4x8192x1280, .f32⟩
  | .hbm, ⟨61, _⟩ => ⟨S1x1280, .f32⟩
  | .hbm, ⟨62, _⟩ => ⟨S1280, .f32⟩
  | .hbm, ⟨63, _⟩ => ⟨S4x8192x1280, .f32⟩
  | .hbm, ⟨64, _⟩ => ⟨S1x1x1280, .f32⟩
  | .hbm, ⟨65, _⟩ => ⟨S4x8192x1280, .f32⟩
  | .hbm, ⟨66, _⟩ => ⟨S4x8192x1280, .f32⟩
  | .hbm, ⟨67, _⟩ => ⟨S4x8192x1280, .f32⟩
  | .hbm, ⟨68, _⟩ => ⟨S1x1280, .f32⟩
  | .hbm, ⟨69, _⟩ => ⟨S1280, .f32⟩
  | .hbm, ⟨70, _⟩ => ⟨S4x8192x1280, .f32⟩
  | .hbm, ⟨71, _⟩ => ⟨S1x1x1280, .f32⟩
  | .hbm, ⟨72, _⟩ => ⟨S4x8192x1280, .f32⟩
  | .hbm, ⟨73, _⟩ => ⟨S4x8192x1280, .f32⟩
  | .hbm, ⟨74, _⟩ => ⟨S4x8192x1280, .f32⟩
  | .hbm, ⟨75, _⟩ => ⟨S1x1x1280, .f32⟩
  | .hbm, ⟨76, _⟩ => ⟨S4x8192x1280, .f32⟩
  | .hbm, ⟨77, _⟩ => ⟨S4x8192x1280, .f32⟩
  | .hbm, ⟨78, _⟩ => ⟨S4x256x1280, .f32⟩
  | .hbm, ⟨79, _⟩ => ⟨S_, .i32⟩
  | .hbm, ⟨80, _⟩ => ⟨S_, .f32⟩
  | .hbm, ⟨81, _⟩ => ⟨S4x259x1280, .f32⟩
  | .hbm, ⟨82, _⟩ => ⟨S1x1280, .f32⟩
  | .hbm, ⟨83, _⟩ => ⟨S1280, .f32⟩
  | .hbm, ⟨84, _⟩ => ⟨S4x256x1280, .f32⟩
  | .hbm, ⟨85, _⟩ => ⟨S1x1x1280, .f32⟩
  | .hbm, ⟨86, _⟩ => ⟨S4x256x1280, .f32⟩
  | .hbm, ⟨87, _⟩ => ⟨S4x256x1280, .f32⟩
  | .hbm, ⟨88, _⟩ => ⟨S_, .f32⟩
  | .hbm, ⟨89, _⟩ => ⟨S4x256x1280, .f32⟩
  | .hbm, ⟨90, _⟩ => ⟨S4x256x1280, .f32⟩
  | .hbm, ⟨91, _⟩ => ⟨S1x1280, .f32⟩
  | .hbm, ⟨92, _⟩ => ⟨S1280, .f32⟩
  | .hbm, ⟨93, _⟩ => ⟨S4x256x1280, .f32⟩
  | .hbm, ⟨94, _⟩ => ⟨S1x1x1280, .f32⟩
  | .hbm, ⟨95, _⟩ => ⟨S4x256x1280, .f32⟩
  | .hbm, ⟨96, _⟩ => ⟨S4x256x1280, .f32⟩
  | .hbm, ⟨97, _⟩ => ⟨S4x256x1280, .f32⟩
  | .hbm, ⟨98, _⟩ => ⟨S1x1280, .f32⟩
  | .hbm, ⟨99, _⟩ => ⟨S1280, .f32⟩
  | .hbm, ⟨100, _⟩ => ⟨S4x256x1280, .f32⟩
  | .hbm, ⟨101, _⟩ => ⟨S1x1x1280, .f32⟩
  | .hbm, ⟨102, _⟩ => ⟨S4x256x1280, .f32⟩
  | .hbm, ⟨103, _⟩ => ⟨S4x256x1280, .f32⟩
  | .hbm, ⟨104, _⟩ => ⟨S4x256x1280, .f32⟩
  | .hbm, ⟨105, _⟩ => ⟨S1x1280, .f32⟩
  | .hbm, ⟨106, _⟩ => ⟨S1280, .f32⟩
  | .hbm, ⟨107, _⟩ => ⟨S4x256x1280, .f32⟩
  | .hbm, ⟨108, _⟩ => ⟨S1x1x1280, .f32⟩
  | .hbm, ⟨109, _⟩ => ⟨S4x256x1280, .f32⟩
  | .hbm, ⟨110, _⟩ => ⟨S4x256x1280, .f32⟩
  | .hbm, ⟨111, _⟩ => ⟨S4x256x1280, .f32⟩
  | .hbm, ⟨112, _⟩ => ⟨S1x1x1280, .f32⟩
  | .hbm, ⟨113, _⟩ => ⟨S4x256x1280, .f32⟩
  | .hbm, ⟨114, _⟩ => ⟨S4x256x1280, .f32⟩
  | .hbm, ⟨115, _⟩ => ⟨S4x8448x1280, .bf16⟩
  | .hbm, ⟨116, _⟩ => ⟨S4x8448x1280, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c : Ref sig .tc := ⟨.hbm, 42, rfl⟩
abbrev main_call0_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_c_4 : Ref sig .tc := ⟨.hbm, 79, rfl⟩
abbrev main_call1_v0 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_5 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩

abbrev nD : Nat := 1
abbrev τ : Topo := Topo.v7x

variable {F : FTy → Type} [FloatOps F]
-- ==== Kernel6.lean ====
abbrev S4x8192x1024 : Shape := ⟨3, ![4, 8192, 1024]⟩
abbrev S4x256x1024 : Shape := ⟨3, ![4, 256, 1024]⟩
abbrev S4x8x6144 : Shape := ⟨3, ![4, 8, 6144]⟩
abbrev S1024 : Shape := ⟨1, ![1024]⟩
abbrev S1024x3072 : Shape := ⟨2, ![1024, 3072]⟩
abbrev S8192x16 : Shape := ⟨2, ![8192, 16]⟩
abbrev S8192x64 : Shape := ⟨2, ![8192, 64]⟩
abbrev S_ : Shape := ⟨0, ![]⟩
abbrev S256x64 : Shape := ⟨2, ![256, 64]⟩
abbrev S8448x64 : Shape := ⟨2, ![8448, 64]⟩
abbrev S8448x128 : Shape := ⟨2, ![8448, 128]⟩
abbrev S32x1x6144 : Shape := ⟨3, ![32, 1, 6144]⟩
abbrev S1x1024 : Shape := ⟨2, ![1, 1024]⟩
abbrev S4x8448x1536 : Shape := ⟨3, ![4, 8448, 1536]⟩
abbrev S4x4x128x8448 : Shape := ⟨4, ![4, 4, 128, 8448]⟩
abbrev S4x8448x512 : Shape := ⟨3, ![4, 8448, 512]⟩
abbrev S4x4x11x144x768 : Shape := ⟨5, ![4, 4, 11, 144, 768]⟩
abbrev S1x256x1024 : Shape := ⟨3, ![1, 256, 1024]⟩
abbrev S1x1x6144 : Shape := ⟨3, ![1, 1, 6144]⟩
abbrev S256x128 : Shape := ⟨2, ![256, 128]⟩
abbrev S1x256x1536 : Shape := ⟨3, ![1, 256, 1536]⟩
abbrev S1x4x128x256 : Shape := ⟨4, ![1, 4, 128, 256]⟩
abbrev S1x256x512 : Shape := ⟨3, ![1, 256, 512]⟩
abbrev S1x4x1x144x256 : Shape := ⟨5, ![1, 4, 1, 144, 256]⟩
abbrev S1x6144 : Shape := ⟨2, ![1, 6144]⟩
abbrev S256x1024 : Shape := ⟨2, ![256, 1024]⟩
abbrev S256 : Shape := ⟨1, ![256]⟩
abbrev S256x1 : Shape := ⟨2, ![256, 1]⟩
abbrev S16x256 : Shape := ⟨2, ![16, 256]⟩
abbrev S1024x512 : Shape := ⟨2, ![1024, 512]⟩
abbrev S256x512 : Shape := ⟨2, ![256, 512]⟩
abbrev S128x256 : Shape := ⟨2, ![128, 256]⟩
abbrev S1x1x128x256 : Shape := ⟨4, ![1, 1, 128, 256]⟩
abbrev S1x256x128 : Shape := ⟨3, ![1, 256, 128]⟩
abbrev S1x1x1x128x256 : Shape := ⟨5, ![1, 1, 1, 128, 256]⟩
abbrev S1x1x1x16x256 : Shape := ⟨5, ![1, 1, 1, 16, 256]⟩
abbrev S1024x1536 : Shape := ⟨2, ![1024, 1536]⟩
abbrev S256x1536 : Shape := ⟨2, ![256, 1536]⟩

abbrev nBuf : Space → Nat
  | .hbm => 28
  | .vmem => 20
  | .smem => 0
  | _ => 0

abbrev bufTy : (tb : Table) → Fin (tcTables nBuf tb) → BufTy
  | .hbm, ⟨0, _⟩ => ⟨S4x8192x1024, .f32⟩
  | .hbm, ⟨1, _⟩ => ⟨S4x256x1024, .f32⟩
  | .hbm, ⟨2, _⟩ => ⟨S4x8x6144, .f32⟩
  | .hbm, ⟨3, _⟩ => ⟨S1024, .f32⟩
  | .hbm, ⟨4, _⟩ => ⟨S1024x3072, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x16, .f32⟩
  | .hbm, ⟨9, _⟩ => ⟨S8192x64, .f32⟩
  | .hbm, ⟨10, _⟩ => ⟨S8192x16, .f32⟩
  | .hbm, ⟨11, _⟩ => ⟨S8192x16, .f32⟩
  | .hbm, ⟨12, _⟩ => ⟨S8192x64, .f32⟩
  | .hbm, ⟨13, _⟩ => ⟨S_, .f32⟩
  | .hbm, ⟨14, _⟩ => ⟨S256x64, .f32⟩
  | .hbm, ⟨15, _⟩ => ⟨S8448x64, .f32⟩
  | .hbm, ⟨16, _⟩ => ⟨S_, .f32⟩
  | .hbm, ⟨17, _⟩ => ⟨S256x64, .f32⟩
  | .hbm, ⟨18, _⟩ => ⟨S8448x64, .f32⟩
  | .hbm, ⟨19, _⟩ => ⟨S8448x128, .f32⟩
  | .hbm, ⟨20, _⟩ => ⟨S8448x128, .f32⟩
  | .hbm, ⟨21, _⟩ => ⟨S32x1x6144, .f32⟩
  | .hbm, ⟨22, _⟩ => ⟨S1x1024, .f32⟩
  | .hbm, ⟨23, _⟩ => ⟨S1024x3072, .bf16⟩
  | .hbm, ⟨24, _⟩ => ⟨S4x8448x1536, .bf16⟩
  | .hbm, ⟨25, _⟩ => ⟨S4x4x128x8448, .bf16⟩
  | .hbm, ⟨26, _⟩ => ⟨S4x8448x512, .bf16⟩
  | .hbm, ⟨27, _⟩ => ⟨S4x4x11x144x768, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1024x3072, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x1536, .bf16⟩
  | .local _ .vmem, ⟨13, _⟩ => ⟨S1x256x1536, .bf16⟩
  | .local _ .vmem, ⟨14, _⟩ => ⟨S1x4x128x256, .bf16⟩
  | .local _ .vmem, ⟨15, _⟩ => ⟨S1x4x128x256, .bf16⟩
  | .local _ .vmem, ⟨16, _⟩ => ⟨S1x256x512, .bf16⟩
  | .local _ .vmem, ⟨17, _⟩ => ⟨S1x256x512, .bf16⟩
  | .local _ .vmem, ⟨18, _⟩ => ⟨S1x4x1x144x256, .bf16⟩
  | .local _ .vmem, ⟨19, _⟩ => ⟨S1x4x1x144x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v13_2 : Ref sig .tc := ⟨.hbm, 26, rfl⟩
abbrev main_v13_3 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c4_i32 : BitVec 32 := 4#32
  let v1 : BitVec 32 := Scalar.select v0 c4_i32 arg0
  let c0_i32 : BitVec 32 := 0#32
  let v2 : BitVec 32 := Scalar.addi c0_i32 v1
  let c0_i32_0 : BitVec 32 := 0#32
  let c0_i32_1 : BitVec 32 := 0#32
  let c0_i32_2 : BitVec 32 := 0#32
  ![v2.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, c0_i32_10.toNat, v16.toNat, c0_i32_11.toNat, v26.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x1x144x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S4x8192x1024 : Shape := ⟨3, ![4, 8192, 1024]⟩
abbrev S4x256x1024 : Shape := ⟨3, ![4, 256, 1024]⟩
abbrev S4x8x6144 : Shape := ⟨3, ![4, 8, 6144]⟩
abbrev S1024 : Shape := ⟨1, ![1024]⟩
abbrev S1024x3072 : Shape := ⟨2, ![1024, 3072]⟩
abbrev S8192x16 : Shape := ⟨2, ![8192, 16]⟩
abbrev S1x8x6144 : Shape := ⟨3, ![1, 8, 6144]⟩
abbrev S8x6144 : Shape := ⟨2, ![8, 6144]⟩
abbrev S4x2048 : Shape := ⟨2, ![4, 2048]⟩
abbrev S4x1x2048 : Shape := ⟨3, ![4, 1, 2048]⟩
abbrev S4x8192x2048 : Shape := ⟨3, ![4, 8192, 2048]⟩
abbrev S1x2048 : Shape := ⟨2, ![1, 2048]⟩
abbrev S2048 : Shape := ⟨1, ![2048]⟩
abbrev S4x256x2048 : Shape := ⟨3, ![4, 256, 2048]⟩
abbrev S4x8448x2048 : Shape := ⟨3, ![4, 8448, 2048]⟩
abbrev S4x8448x1024 : Shape := ⟨3, ![4, 8448, 1024]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x8448x3072 : Shape := ⟨3, ![4, 8448, 3072]⟩
abbrev S4x8448x1536 : Shape := ⟨3, ![4, 8448, 1536]⟩
abbrev S4x8448x512 : Shape := ⟨3, ![4, 8448, 512]⟩
abbrev S4x8448x4x2x64 : Shape := ⟨5, ![4, 8448, 4, 2, 64]⟩
abbrev S4x8192x4x2x64 : Shape := ⟨5, ![4, 8192, 4, 2, 64]⟩
abbrev S4x8192x4x2x32 : Shape := ⟨5, ![4, 8192, 4, 2, 32]⟩
abbrev S8192x1x1x16 : Shape := ⟨4, ![8192, 1, 1, 16]⟩
abbrev S4x8192x4x2x16 : Shape := ⟨5, ![4, 8192, 4, 2, 16]⟩
abbrev S1x8192x1x1x16 : Shape := ⟨5, ![1, 8192, 1, 1, 16]⟩
abbrev S4x256x4x2x64 : Shape := ⟨5, ![4, 256, 4, 2, 64]⟩
abbrev S4x8448x4x128 : Shape := ⟨4, ![4, 8448, 4, 128]⟩
abbrev S4x4x128x8448 : Shape := ⟨4, ![4, 4, 128, 8448]⟩
abbrev S4x11x768x4x128 : Shape := ⟨5, ![4, 11, 768, 4, 128]⟩
abbrev S4x4x11x128x768 : Shape := ⟨5, ![4, 4, 11, 128, 768]⟩
abbrev S4x4x11x1x768 : Shape := ⟨5, ![4, 4, 11, 1, 768]⟩
abbrev S4x4x11x15x768 : Shape := ⟨5, ![4, 4, 11, 15, 768]⟩
abbrev S4x4x11x144x768 : Shape := ⟨5, ![4, 4, 11, 144, 768]⟩

abbrev nBuf : Space → Nat
  | .hbm => 154
  | .vmem => 0
  | .smem => 0
  | _ => 0

abbrev hbmTy0_0 (i : Nat) : BufTy := match i % 128 with
  | 0 => ⟨S4x8192x1024, .f32⟩
  | 1 => ⟨S4x256x1024, .f32⟩
  | 2 => ⟨S4x8x6144, .f32⟩
  | 3 => ⟨S1024, .f32⟩
  | 4 => ⟨S1024x3072, .f32⟩
  | 5 => ⟨S8192x16, .f32⟩
  | 6 => ⟨S8192x16, .f32⟩
  | 7 => ⟨S8192x16, .f32⟩
  | 8 => ⟨S8192x16, .f32⟩
  | 9 => ⟨S1x8x6144, .f32⟩
  | 10 => ⟨S8x6144, .f32⟩
  | 11 => ⟨S4x2048, .f32⟩
  | 12 => ⟨S4x1x2048, .f32⟩
  | 13 => ⟨S4x8192x2048, .f32⟩
  | 14 => ⟨S1x2048, .f32⟩
  | 15 => ⟨S2048, .f32⟩
  | 16 => ⟨S4x256x2048, .f32⟩
  | 17 => ⟨S4x8448x2048, .f32⟩
  | 18 => ⟨S4x8448x1024, .f32⟩
  | 19 => ⟨S4x8448x1024, .f32⟩
  | 20 => ⟨S4x8448x1024, .f32⟩
  | 21 => ⟨S4x8448x1024, .f32⟩
  | 22 => ⟨S_, .f32⟩
  | 23 => ⟨S4x8448, .f32⟩
  | 24 => ⟨S4x8448x1, .f32⟩
  | 25 => ⟨S_, .f32⟩
  | 26 => ⟨S4x8448x1, .f32⟩
  | 27 => ⟨S4x8448x1, .f32⟩
  | 28 => ⟨S_, .f32⟩
  | 29 => ⟨S4x8448x1, .f32⟩
  | 30 => ⟨S4x8448x1, .f32⟩
  | 31 => ⟨S4x8448x1, .f32⟩
  | 32 => ⟨S4x8448x1024, .f32⟩
  | 33 => ⟨S4x8448x1024, .f32⟩
  | 34 => ⟨S1x1x1024, .f32⟩
  | 35 => ⟨S4x8448x1024, .f32⟩
  | 36 => ⟨S4x8448x1024, .f32⟩
  | 37 => ⟨S_, .f32⟩
  | 38 => ⟨S4x8448x1024, .f32⟩
  | 39 => ⟨S4x8448x1024, .f32⟩
  | 40 => ⟨S4x8448x1024, .f32⟩
  | 41 => ⟨S4x8448x1024, .f32⟩
  | 42 => ⟨S4x8448x3072, .f32⟩
  | 43 => ⟨S4x8448x1536, .f32⟩
  | 44 => ⟨S4x8448x512, .f32⟩
  | 45 => ⟨S4x8448x512, .f32⟩
  | 46 => ⟨S4x8448x512, .f32⟩
  | 47 => ⟨S4x8448x4x2x64, .f32⟩
  | 48 => ⟨S4x8448x4x2x64, .f32⟩
  | 49 => ⟨S4x8192x4x2x64, .f32⟩
  | 50 => ⟨S4x8192x4x2x32, .f32⟩
  | 51 => ⟨S8192x1x1x16, .f32⟩
  | 52 => ⟨S8192x1x1x16, .f32⟩
  | 53 => ⟨S4x8192x4x2x16, .f32⟩
  | 54 => ⟨S4x8192x4x2x16, .f32⟩
  | 55 => ⟨S1x8192x1x1x16, .f32⟩
  | 56 => ⟨S4x8192x4x2x16, .f32⟩
  | 57 => ⟨S4x8192x4x2x16, .f32⟩
  | 58 => ⟨S1x8192x1x1x16, .f32⟩
  | 59 => ⟨S4x8192x4x2x16, .f32⟩
  | 60 => ⟨S4x8192x4x2x16, .f32⟩
  | 61 => ⟨S4x8192x4x2x16, .f32⟩
  | 62 => ⟨S1x8192x1x1x16, .f32⟩
  | 63 => ⟨S4x8192x4x2x16, .f32⟩
  | 64 => ⟨S4x8192x4x2x16, .f32⟩
  | 65 => ⟨S1x8192x1x1x16, .f32⟩
  | 66 => ⟨S4x8192x4x2x16, .f32⟩
  | 67 => ⟨S4x8192x4x2x16, .f32⟩
  | 68 => ⟨S4x8192x4x2x16, .f32⟩
  | 69 => ⟨S4x8192x4x2x32, .f32⟩
  | 70 => ⟨S4x8192x4x2x32, .f32⟩
  | 71 => ⟨S8192x1x1x16, .f32⟩
  | 72 => ⟨S8192x1x1x16, .f32⟩
  | 73 => ⟨S4x8192x4x2x16, .f32⟩
  | 74 => ⟨S4x8192x4x2x16, .f32⟩
  | 75 => ⟨S1x8192x1x1x16, .f32⟩
  | 76 => ⟨S4x8192x4x2x16, .f32⟩
  | 77 => ⟨S4x8192x4x2x16, .f32⟩
  | 78 => ⟨S1x8192x1x1x16, .f32⟩
  | 79 => ⟨S4x8192x4x2x16, .f32⟩
  | 80 => ⟨S4x8192x4x2x16, .f32⟩
  | 81 => ⟨S4x8192x4x2x16, .f32⟩
  | 82 => ⟨S1x8192x1x1x16, .f32⟩
  | 83 => ⟨S4x8192x4x2x16, .f32⟩
  | 84 => ⟨S4x8192x4x2x16, .f32⟩
  | 85 => ⟨S1x8192x1x1x16, .f32⟩
  | 86 => ⟨S4x8192x4x2x16, .f32⟩
  | 87 => ⟨S4x8192x4x2x16, .f32⟩
  | 88 => ⟨S4x8192x4x2x16, .f32⟩
  | 89 => ⟨S4x8192x4x2x32, .f32⟩
  | 90 => ⟨S4x8192x4x2x64, .f32⟩
  | 91 => ⟨S4x256x4x2x64, .f32⟩
  | 92 => ⟨S4x8448x4x2x64, .f32⟩
  | 93 => ⟨S4x8192x4x2x64, .f32⟩
  | 94 => ⟨S4x8192x4x2x32, .f32⟩
  | 95 => ⟨S8192x1x1x16, .f32⟩
  | 96 => ⟨S8192x1x1x16, .f32⟩
  | 97 => ⟨S4x8192x4x2x16, .f32⟩
  | 98 => ⟨S4x8192x4x2x16, .f32⟩
  | 99 => ⟨S1x8192x1x1x16, .f32⟩
  | 100 => ⟨S4x8192x4x2x16, .f32⟩
  | 101 => ⟨S4x8192x4x2x16, .f32⟩
  | 102 => ⟨S1x8192x1x1x16, .f32⟩
  | 103 => ⟨S4x8192x4x2x16, .f32⟩
  | 104 => ⟨S4x8192x4x2x16, .f32⟩
  | 105 => ⟨S4x8192x4x2x16, .f32⟩
  | 106 => ⟨S1x8192x1x1x16, .f32⟩
  | 107 => ⟨S4x8192x4x2x16, .f32⟩
  | 108 => ⟨S4x8192x4x2x16, .f32⟩
  | 109 => ⟨S1x8192x1x1x16, .f32⟩
  | 110 => ⟨S4x8192x4x2x16, .f32⟩
  | 111 => ⟨S4x8192x4x2x16, .f32⟩
  | 112 => ⟨S4x8192x4x2x16, .f32⟩
  | 113 => ⟨S4x8192x4x2x32, .f32⟩
  | 114 => ⟨S4x8192x4x2x32, .f32⟩
  | 115 => ⟨S8192x1x1x16, .f32⟩
  | 116 => ⟨S8192x1x1x16, .f32⟩
  | 117 => ⟨S4x8192x4x2x16, .f32⟩
  | 118 => ⟨S4x8192x4x2x16, .f32⟩
  | 119 => ⟨S1x8192x1x1x16, .f32⟩
  | 120 => ⟨S4x8192x4x2x16, .f32⟩
  | 121 => ⟨S4x8192x4x2x16, .f32⟩
  | 122 => ⟨S1x8192x1x1x16, .f32⟩
  | 123 => ⟨S4x8192x4x2x16, .f32⟩
  | 124 => ⟨S4x8192x4x2x16, .f32⟩
  | 125 => ⟨S4x8192x4x2x16, .f32⟩
  | 126 => ⟨S1x8192x1x1x16, .f32⟩
  | 127 => ⟨S4x8192x4x2x16, .f32⟩
  | _ => ⟨S4x8192x1024, .f32⟩

abbrev hbmTy0_1 (i : Nat) : BufTy := match i % 128 with
  | 0 => ⟨S4x8192x4x2x16, .f32⟩
  | 1 => ⟨S1x8192x1x1x16, .f32⟩
  | 2 => ⟨S4x8192x4x2x16, .f32⟩
  | 3 => ⟨S4x8192x4x2x16, .f32⟩
  | 4 => ⟨S4x8192x4x2x16, .f32⟩
  | 5 => ⟨S4x8192x4x2x32, .f32⟩
  | 6 => ⟨S4x8192x4x2x64, .f32⟩
  | 7 => ⟨S4x256x4x2x64, .f32⟩
  | 8 => ⟨S4x8448x4x2x64, .f32⟩
  | 9 => ⟨S_, .f32⟩
  | 10 => ⟨S4x8448x4x2x64, .f32⟩
  | 11 => ⟨S4x8448x4x2x64, .f32⟩
  | 12 => ⟨S4x8448x4x128, .f32⟩
  | 13 => ⟨S4x4x128x8448, .f32⟩
  | 14 => ⟨S4x11x768x4x128, .f32⟩
  | 15 => ⟨S4x4x11x128x768, .f32⟩
  | 16 => ⟨S_, .f32⟩
  | 17 => ⟨S4x4x11x1x768, .f32⟩
  | 18 => ⟨S_, .f32⟩
  | 19 => ⟨S4x4x11x15x768, .f32⟩
  | 20 => ⟨S4x4x11x144x768, .f32⟩
  | 21 => ⟨S4x8448x1536, .bf16⟩
  | 22 => ⟨S4x4x128x8448, .bf16⟩
  | 23 => ⟨S4x8448x512, .f32⟩
  | 24 => ⟨S4x8448x512, .bf16⟩
  | 25 => ⟨S4x4x11x144x768, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_cst_3 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_cst_4 : Ref sig .tc := ⟨.hbm, 144, rfl⟩
abbrev main_v130 : Ref sig .tc := ⟨.hbm, 145, rfl⟩
abbrev main_cst_5 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩

abbrev nD : Nat := 1
abbrev τ : Topo := Topo.v7x

variable {F : FTy → Type} [FloatOps F]
-- ==== Kernel7.lean ====
abbrev S4x8448x1024 : Shape := ⟨3, ![4, 8448, 1024]⟩
abbrev S4x8x6144 : Shape := ⟨3, ![4, 8, 6144]⟩
abbrev S1024 : Shape := ⟨1, ![1024]⟩
abbrev S1024x3072 : Shape := ⟨2, ![1024, 3072]⟩
abbrev S8192x16 : Shape := ⟨2, ![8192, 16]⟩
abbrev S8192x64 : Shape := ⟨2, ![8192, 64]⟩
abbrev S_ : Shape := ⟨0, ![]⟩
abbrev S256x64 : Shape := ⟨2, ![256, 64]⟩
abbrev S8448x64 : Shape := ⟨2, ![8448, 64]⟩
abbrev S8448x128 : Shape := ⟨2, ![8448, 128]⟩
abbrev S32x1x6144 : Shape := ⟨3, ![32, 1, 6144]⟩
abbrev S1x1024 : Shape := ⟨2, ![1, 1024]⟩
abbrev S4x8448x1536 : Shape := ⟨3, ![4, 8448, 1536]⟩
abbrev S4x4x128x8448 : Shape := ⟨4, ![4, 4, 128, 8448]⟩
abbrev S4x8448x512 : Shape := ⟨3, ![4, 8448, 512]⟩
abbrev S4x4x11x144x768 : Shape := ⟨5, ![4, 4, 11, 144, 768]⟩
abbrev S1x256x1024 : Shape := ⟨3, ![1, 256, 1024]⟩
abbrev S1x1x6144 : Shape := ⟨3, ![1, 1, 6144]⟩
abbrev S256x128 : Shape := ⟨2, ![256, 128]⟩
abbrev S1x256x1536 : Shape := ⟨3, ![1, 256, 1536]⟩
abbrev S1x4x128x256 : Shape := ⟨4, ![1, 4, 128, 256]⟩
abbrev S1x256x512 : Shape := ⟨3, ![1, 256, 512]⟩
abbrev S1x4x1x144x256 : Shape := ⟨5, ![1, 4, 1, 144, 256]⟩
abbrev S1x6144 : Shape := ⟨2, ![1, 6144]⟩
abbrev S256x1024 : Shape := ⟨2, ![256, 1024]⟩
abbrev S256 : Shape := ⟨1, ![256]⟩
abbrev S256x1 : Shape := ⟨2, ![256, 1]⟩
abbrev S16x256 : Shape := ⟨2, ![16, 256]⟩
abbrev S1024x512 : Shape := ⟨2, ![1024, 512]⟩
abbrev S256x512 : Shape := ⟨2, ![256, 512]⟩
abbrev S128x256 : Shape := ⟨2, ![128, 256]⟩
abbrev S1x1x128x256 : Shape := ⟨4, ![1, 1, 128, 256]⟩
abbrev S1x256x128 : Shape := ⟨3, ![1, 256, 128]⟩
abbrev S1x1x1x128x256 : Shape := ⟨5, ![1, 1, 1, 128, 256]⟩
abbrev S1x1x1x16x256 : Shape := ⟨5, ![1, 1, 1, 16, 256]⟩
abbrev S1024x1536 : Shape := ⟨2, ![1024, 1536]⟩
abbrev S256x1536 : Shape := ⟨2, ![256, 1536]⟩

abbrev nBuf : Space → Nat
  | .hbm => 27
  | .vmem => 20
  | .smem => 0
  | _ => 0

abbrev bufTy : (tb : Table) → Fin (tcTables nBuf tb) → BufTy
  | .hbm, ⟨0, _⟩ => ⟨S4x8448x1024, .f32⟩
  | .hbm, ⟨1, _⟩ => ⟨S4x8x6144, .f32⟩
  | .hbm, ⟨2, _⟩ => ⟨S1024, .f32⟩
  | .hbm, ⟨3, _⟩ => ⟨S1024x3072, .f32⟩
  | .hbm, ⟨4, _⟩ => ⟨S8192x16, .f32⟩
  | .hbm, ⟨5, _⟩ => ⟨S8192x16, .f32⟩
  | .hbm, ⟨6, _⟩ => ⟨S8192x16, .f32⟩
  | .hbm, ⟨7, _⟩ => ⟨S8192x16, .f32⟩
  | .hbm, ⟨8, _⟩ => ⟨S8192x64, .f32⟩
  | .hbm, ⟨9, _⟩ => ⟨S8192x16, .f32⟩
  | .hbm, ⟨10, _⟩ => ⟨S8192x16, .f32⟩
  | .hbm, ⟨11, _⟩ => ⟨S8192x64, .f32⟩
  | .hbm, ⟨12, _⟩ => ⟨S_, .f32⟩
  | .hbm, ⟨13, _⟩ => ⟨S256x64, .f32⟩
  | .hbm, ⟨14, _⟩ => ⟨S8448x64, .f32⟩
  | .hbm, ⟨15, _⟩ => ⟨S_, .f32⟩
  | .hbm, ⟨16, _⟩ => ⟨S256x64, .f32⟩
  | .hbm, ⟨17, _⟩ => ⟨S8448x64, .f32⟩
  | .hbm, ⟨18, _⟩ => ⟨S8448x128, .f32⟩
  | .hbm, ⟨19, _⟩ => ⟨S8448x128, .f32⟩
  | .hbm, ⟨20, _⟩ => ⟨S32x1x6144, .f32⟩
  | .hbm, ⟨21, _⟩ => ⟨S1x1024, .f32⟩
  | .hbm, ⟨22, _⟩ => ⟨S1024x3072, .bf16⟩
  | .hbm, ⟨23, _⟩ => ⟨S4x8448x1536, .bf16⟩
  | .hbm, ⟨24, _⟩ => ⟨S4x4x128x8448, .bf16⟩
  | .hbm, ⟨25, _⟩ => ⟨S4x8448x512, .bf16⟩
  | .hbm, ⟨26, _⟩ => ⟨S4x4x11x144x768, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1x6144, .f32⟩
  | .local _ .vmem, ⟨5, _⟩ => ⟨S1x1x6144, .f32⟩
  | .local _ .vmem, ⟨6, _⟩ => ⟨S1x1024, .f32⟩
  | .local _ .vmem, ⟨7, _⟩ => ⟨S1024x3072, .bf16⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256x1536, .bf16⟩
  | .local _ .vmem, ⟨13, _⟩ => ⟨S1x256x1536, .bf16⟩
  | .local _ .vmem, ⟨14, _⟩ => ⟨S1x4x128x256, .bf16⟩
  | .local _ .vmem, ⟨15, _⟩ => ⟨S1x4x128x256, .bf16⟩
  | .local _ .vmem, ⟨16, _⟩ => ⟨S1x256x512, .bf16⟩
  | .local _ .vmem, ⟨17, _⟩ => ⟨S1x256x512, .bf16⟩
  | .local _ .vmem, ⟨18, _⟩ => ⟨S1x4x1x144x256, .bf16⟩
  | .local _ .vmem, ⟨19, _⟩ => ⟨S1x4x1x144x256, .bf16⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 33], ![false, false]⟩

def cc0_transform_0 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  let c0_i32_0 : BitVec 32 := 0#32
  ![arg0.toNat, c32_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .sge arg1 c32_i32
  let c4_i32 : BitVec 32 := 4#32
  let v1 : BitVec 32 := Scalar.select v0 c4_i32 arg0
  let c16_i32 : BitVec 32 := 16#32
  let v2 : BitVec 32 := Scalar.addi c16_i32 v1
  let c0_i32 : BitVec 32 := 0#32
  let c0_i32_0 : BitVec 32 := 0#32
  let c0_i32_1 : BitVec 32 := 0#32
  ![v2.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 5 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![arg0.toNat, c0_i32_10.toNat, v16.toNat, c0_i32_11.toNat, v26.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x1x144x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S4x8448x1024 : Shape := ⟨3, ![4, 8448, 1024]⟩
abbrev S4x8x6144 : Shape := ⟨3, ![4, 8, 6144]⟩
abbrev S1024 : Shape := ⟨1, ![1024]⟩
abbrev S1024x3072 : Shape := ⟨2, ![1024, 3072]⟩
abbrev S8192x16 : Shape := ⟨2, ![8192, 16]⟩
abbrev S1x8x6144 : Shape := ⟨3, ![1, 8, 6144]⟩
abbrev S8x6144 : Shape := ⟨2, ![8, 6144]⟩
abbrev S4x2048 : Shape := ⟨2, ![4, 2048]⟩
abbrev S4x1x2048 : Shape := ⟨3, ![4, 1, 2048]⟩
abbrev S4x8192x2048 : Shape := ⟨3, ![4, 8192, 2048]⟩
abbrev S1x2048 : Shape := ⟨2, ![1, 2048]⟩
abbrev S2048 : Shape := ⟨1, ![2048]⟩
abbrev S4x256x2048 : Shape := ⟨3, ![4, 256, 2048]⟩
abbrev S4x8448x2048 : Shape := ⟨3, ![4, 8448, 2048]⟩
abbrev S_ : Shape := ⟨0, ![]⟩
abbrev S4x8448 : Shape := ⟨2, ![4, 8448]⟩
abbrev S4x8448x1 : Shape := ⟨3, ![4, 8448, 1]⟩
abbrev S1x1x1024 : Shape := ⟨3, ![1, 1, 1024]⟩
abbrev S4x8448x3072 : Shape := ⟨3, ![4, 8448, 3072]⟩
abbrev S4x8448x1536 : Shape := ⟨3, ![4, 8448, 1536]⟩
abbrev S4x8448x512 : Shape := ⟨3, ![4, 8448, 512]⟩
abbrev S4x8448x4x2x64 : Shape := ⟨5, ![4, 8448, 4, 2, 64]⟩
abbrev S4x8192x4x2x64 : Shape := ⟨5, ![4, 8192, 4, 2, 64]⟩
abbrev S4x8192x4x2x32 : Shape := ⟨5, ![4, 8192, 4, 2, 32]⟩
abbrev S8192x1x1x16 : Shape := ⟨4, ![8192, 1, 1, 16]⟩
abbrev S4x8192x4x2x16 : Shape := ⟨5, ![4, 8192, 4, 2, 16]⟩
abbrev S1x8192x1x1x16 : Shape := ⟨5, ![1, 8192, 1, 1, 16]⟩
abbrev S4x256x4x2x64 : Shape := ⟨5, ![4, 256, 4, 2, 64]⟩
abbrev S4x8448x4x128 : Shape := ⟨4, ![4, 8448, 4, 128]⟩
abbrev S4x4x128x8448 : Shape := ⟨4, ![4, 4, 128, 8448]⟩
abbrev S4x11x768x4x128 : Shape := ⟨5, ![4, 11, 768, 4, 128]⟩
abbrev S4x4x11x128x768 : Shape := ⟨5, ![4, 4, 11, 128, 768]⟩
abbrev S4x4x11x1x768 : Shape := ⟨5, ![4, 4, 11, 1, 768]⟩
abbrev S4x4x11x15x768 : Shape := ⟨5, ![4, 4, 11, 15, 768]⟩
abbrev S4x4x11x144x768 : Shape := ⟨5, ![4, 4, 11, 144, 768]⟩

abbrev nBuf : Space → Nat
  | .hbm => 152
  | .vmem => 0
  | .smem => 0
  | _ => 0

abbrev hbmTy0_0 (i : Nat) : BufTy := match i % 128 with
  | 0 => ⟨S4x8448x1024, .f32⟩
  | 1 => ⟨S4x8x6144, .f32⟩
  | 2 => ⟨S1024, .f32⟩
  | 3 => ⟨S1024x3072, .f32⟩
  | 4 => ⟨S8192x16, .f32⟩
  | 5 => ⟨S8192x16, .f32⟩
  | 6 => ⟨S8192x16, .f32⟩
  | 7 => ⟨S8192x16, .f32⟩
  | 8 => ⟨S1x8x6144, .f32⟩
  | 9 => ⟨S8x6144, .f32⟩
  | 10 => ⟨S4x2048, .f32⟩
  | 11 => ⟨S4x1x2048, .f32⟩
  | 12 => ⟨S4x8192x2048, .f32⟩
  | 13 => ⟨S1x2048, .f32⟩
  | 14 => ⟨S2048, .f32⟩
  | 15 => ⟨S4x256x2048, .f32⟩
  | 16 => ⟨S4x8448x2048, .f32⟩
  | 17 => ⟨S4x8448x1024, .f32⟩
  | 18 => ⟨S4x8448x1024, .f32⟩
  | 19 => ⟨S4x8448x1024, .f32⟩
  | 20 => ⟨S_, .f32⟩
  | 21 => ⟨S4x8448, .f32⟩
  | 22 => ⟨S4x8448x1, .f32⟩
  | 23 => ⟨S_, .f32⟩
  | 24 => ⟨S4x8448x1, .f32⟩
  | 25 => ⟨S4x8448x1, .f32⟩
  | 26 => ⟨S_, .f32⟩
  | 27 => ⟨S4x8448x1, .f32⟩
  | 28 => ⟨S4x8448x1, .f32⟩
  | 29 => ⟨S4x8448x1, .f32⟩
  | 30 => ⟨S4x8448x1024, .f32⟩
  | 31 => ⟨S4x8448x1024, .f32⟩
  | 32 => ⟨S1x1x1024, .f32⟩
  | 33 => ⟨S4x8448x1024, .f32⟩
  | 34 => ⟨S4x8448x1024, .f32⟩
  | 35 => ⟨S_, .f32⟩
  | 36 => ⟨S4x8448x1024, .f32⟩
  | 37 => ⟨S4x8448x1024, .f32⟩
  | 38 => ⟨S4x8448x1024, .f32⟩
  | 39 => ⟨S4x8448x1024, .f32⟩
  | 40 => ⟨S4x8448x3072, .f32⟩
  | 41 => ⟨S4x8448x1536, .f32⟩
  | 42 => ⟨S4x8448x512, .f32⟩
  | 43 => ⟨S4x8448x512, .f32⟩
  | 44 => ⟨S4x8448x512, .f32⟩
  | 45 => ⟨S4x8448x4x2x64, .f32⟩
  | 46 => ⟨S4x8448x4x2x64, .f32⟩
  | 47 => ⟨S4x8192x4x2x64, .f32⟩
  | 48 => ⟨S4x8192x4x2x32, .f32⟩
  | 49 => ⟨S8192x1x1x16, .f32⟩
  | 50 => ⟨S8192x1x1x16, .f32⟩
  | 51 => ⟨S4x8192x4x2x16, .f32⟩
  | 52 => ⟨S4x8192x4x2x16, .f32⟩
  | 53 => ⟨S1x8192x1x1x16, .f32⟩
  | 54 => ⟨S4x8192x4x2x16, .f32⟩
  | 55 => ⟨S4x8192x4x2x16, .f32⟩
  | 56 => ⟨S1x8192x1x1x16, .f32⟩
  | 57 => ⟨S4x8192x4x2x16, .f32⟩
  | 58 => ⟨S4x8192x4x2x16, .f32⟩
  | 59 => ⟨S4x8192x4x2x16, .f32⟩
  | 60 => ⟨S1x8192x1x1x16, .f32⟩
  | 61 => ⟨S4x8192x4x2x16, .f32⟩
  | 62 => ⟨S4x8192x4x2x16, .f32⟩
  | 63 => ⟨S1x8192x1x1x16, .f32⟩
  | 64 => ⟨S4x8192x4x2x16, .f32⟩
  | 65 => ⟨S4x8192x4x2x16, .f32⟩
  | 66 => ⟨S4x8192x4x2x16, .f32⟩
  | 67 => ⟨S4x8192x4x2x32, .f32⟩
  | 68 => ⟨S4x8192x4x2x32, .f32⟩
  | 69 => ⟨S8192x1x1x16, .f32⟩
  | 70 => ⟨S8192x1x1x16, .f32⟩
  | 71 => ⟨S4x8192x4x2x16, .f32⟩
  | 72 => ⟨S4x8192x4x2x16, .f32⟩
  | 73 => ⟨S1x8192x1x1x16, .f32⟩
  | 74 => ⟨S4x8192x4x2x16, .f32⟩
  | 75 => ⟨S4x8192x4x2x16, .f32⟩
  | 76 => ⟨S1x8192x1x1x16, .f32⟩
  | 77 => ⟨S4x8192x4x2x16, .f32⟩
  | 78 => ⟨S4x8192x4x2x16, .f32⟩
  | 79 => ⟨S4x8192x4x2x16, .f32⟩
  | 80 => ⟨S1x8192x1x1x16, .f32⟩
  | 81 => ⟨S4x8192x4x2x16, .f32⟩
  | 82 => ⟨S4x8192x4x2x16, .f32⟩
  | 83 => ⟨S1x8192x1x1x16, .f32⟩
  | 84 => ⟨S4x8192x4x2x16, .f32⟩
  | 85 => ⟨S4x8192x4x2x16, .f32⟩
  | 86 => ⟨S4x8192x4x2x16, .f32⟩
  | 87 => ⟨S4x8192x4x2x32, .f32⟩
  | 88 => ⟨S4x8192x4x2x64, .f32⟩
  | 89 => ⟨S4x256x4x2x64, .f32⟩
  | 90 => ⟨S4x8448x4x2x64, .f32⟩
  | 91 => ⟨S4x8192x4x2x64, .f32⟩
  | 92 => ⟨S4x8192x4x2x32, .f32⟩
  | 93 => ⟨S8192x1x1x16, .f32⟩
  | 94 => ⟨S8192x1x1x16, .f32⟩
  | 95 => ⟨S4x8192x4x2x16, .f32⟩
  | 96 => ⟨S4x8192x4x2x16, .f32⟩
  | 97 => ⟨S1x8192x1x1x16, .f32⟩
  | 98 => ⟨S4x8192x4x2x16, .f32⟩
  | 99 => ⟨S4x8192x4x2x16, .f32⟩
  | 100 => ⟨S1x8192x1x1x16, .f32⟩
  | 101 => ⟨S4x8192x4x2x16, .f32⟩
  | 102 => ⟨S4x8192x4x2x16, .f32⟩
  | 103 => ⟨S4x8192x4x2x16, .f32⟩
  | 104 => ⟨S1x8192x1x1x16, .f32⟩
  | 105 => ⟨S4x8192x4x2x16, .f32⟩
  | 106 => ⟨S4x8192x4x2x16, .f32⟩
  | 107 => ⟨S1x8192x1x1x16, .f32⟩
  | 108 => ⟨S4x8192x4x2x16, .f32⟩
  | 109 => ⟨S4x8192x4x2x16, .f32⟩
  | 110 => ⟨S4x8192x4x2x16, .f32⟩
  | 111 => ⟨S4x8192x4x2x32, .f32⟩
  | 112 => ⟨S4x8192x4x2x32, .f32⟩
  | 113 => ⟨S8192x1x1x16, .f32⟩
  | 114 => ⟨S8192x1x1x16, .f32⟩
  | 115 => ⟨S4x8192x4x2x16, .f32⟩
  | 116 => ⟨S4x8192x4x2x16, .f32⟩
  | 117 => ⟨S1x8192x1x1x16, .f32⟩
  | 118 => ⟨S4x8192x4x2x16, .f32⟩
  | 119 => ⟨S4x8192x4x2x16, .f32⟩
  | 120 => ⟨S1x8192x1x1x16, .f32⟩
  | 121 => ⟨S4x8192x4x2x16, .f32⟩
  | 122 => ⟨S4x8192x4x2x16, .f32⟩
  | 123 => ⟨S4x8192x4x2x16, .f32⟩
  | 124 => ⟨S1x8192x1x1x16, .f32⟩
  | 125 => ⟨S4x8192x4x2x16, .f32⟩
  | 126 => ⟨S4x8192x4x2x16, .f32⟩
  | 127 => ⟨S1x8192x1x1x16, .f32⟩
  | _ => ⟨S4x8448x1024, .f32⟩

abbrev hbmTy0_1 (i : Nat) : BufTy := match i % 128 with
  | 0 => ⟨S4x8192x4x2x16, .f32⟩
  | 1 => ⟨S4x8192x4x2x16, .f32⟩
  | 2 => ⟨S4x8192x4x2x16, .f32⟩
  | 3 => ⟨S4x8192x4x2x32, .f32⟩
  | 4 => ⟨S4x8192x4x2x64, .f32⟩
  | 5 => ⟨S4x256x4x2x64, .f32⟩
  | 6 => ⟨S4x8448x4x2x64, .f32⟩
  | 7 => ⟨S_, .f32⟩
  | 8 => ⟨S4x8448x4x2x64, .f32⟩
  | 9 => ⟨S4x8448x4x2x64, .f32⟩
  | 10 => ⟨S4x8448x4x128, .f32⟩
  | 11 => ⟨S4x4x128x8448, .f32⟩
  | 12 => ⟨S4x11x768x4x128, .f32⟩
  | 13 => ⟨S4x4x11x128x768, .f32⟩
  | 14 => ⟨S_, .f32⟩
  | 15 => ⟨S4x4x11x1x768, .f32⟩
  | 16 => ⟨S_, .f32⟩
  | 17 => ⟨S4x4x11x15x768, .f32⟩
  | 18 => ⟨S4x4x11x144x768, .f32⟩
  | 19 => ⟨S4x8448x1536, .bf16⟩
  | 20 => ⟨S4x4x128x8448, .bf16⟩
  | 21 => ⟨S4x8448x512, .f32⟩
  | 22 => ⟨S4x8448x512, .bf16⟩
  | 23 => ⟨S4x4x11x144x768, .bf16⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_cst_3 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_cst_4 : Ref sig .tc := ⟨.hbm, 142, rfl⟩
abbrev main_v129 : Ref sig .tc := ⟨.hbm, 143, rfl⟩
abbrev main_cst_5 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩

abbrev nD : Nat := 1
abbrev τ : Topo := Topo.v7x

variable {F : FTy → Type} [FloatOps F]
-- ==== Proof.Rows.lean ====
/- The row functions of the layers: what one row of the stream becomes, over the extended reals. They mention no program;
   each program's value is stated in them. -/
module

public import Idealize.ShloMosaic.Lib.Pointwise

@[expose] public section

noncomputable section

namespace Cert.Rows

open Idealize.ShloMosaic

/-- The tanh approximation of gelu, with the four constants as the programs write them. -/
def gelu (x : EReal) : EReal :=
  Ideal.ofBits .f32 0x3F000000#32 * x
    * (1 + Ideal.tanh (Ideal.ofBits .f32 0x3F4C422A#32 * (x + Ideal.ofBits .f32 0x3D372713#32 * (x * x * x))))

/-- The reciprocal root mean square of a row of 1024 elements, with the constant 1e-6 added to the mean. -/
def rinv (x : Fin 1024 → EReal) : EReal :=
  Ideal.rsqrt (Ideal.div (∑ k, x k * x k) (Ideal.ofBits .f32 0x44800000#32) + Ideal.ofBits .f32 0x358637BD#32)

/-- The root mean square norm of a row, times a gain. -/
def norm (x g : Fin 1024 → EReal) (j : Fin 1024) : EReal := x j * rinv x * g j

/-- The norm scaled by one plus `sc` and shifted by `sh`. -/
def modNorm (x g sc sh : Fin 1024 → EReal) (j : Fin 1024) : EReal := norm x g j * (1 + sc j) + sh j

/-- A row times a matrix. -/
def rowMul {K N : ℕ} (x : Fin K → EReal) (w : Fin K → Fin N → EReal) (j : Fin N) : EReal := ∑ k, x k * w k j

/-- The square of the positive part. -/
def relu2 (x : EReal) : EReal := max x 0 * max x 0

/-- The two-matrix feed-forward with the squared positive part between. -/
def ff (n : Fin 1024 → EReal) (w1 : Fin 1024 → Fin 4096 → EReal) (w2 : Fin 4096 → Fin 1024 → EReal) (j : Fin 1024) :
    EReal := rowMul (fun f => relu2 (rowMul n w1 f)) w2 j

/-- Piece `o / 1024` of a row of six modulations. -/
def piece (md : Fin 6144 → EReal) (o : ℕ) (ho : o + 1024 ≤ 6144) (j : Fin 1024) : EReal := md ⟨o + j.val, by omega⟩

/-- The row `h` with the gated mixer row `y` added. -/
def mixed (h y : Fin 1024 → EReal) (md : Fin 6144 → EReal) (j : Fin 1024) : EReal :=
  h j + piece md 2048 (by omega) j * y j

/-- The modulated norm the feed-forward reads. -/
def ffIn (h1 g : Fin 1024 → EReal) (md : Fin 6144 → EReal) : Fin 1024 → EReal :=
  modNorm h1 g (piece md 4096 (by omega)) (piece md 3072 (by omega))

/-- A layer's second half on one row: the gated mixer row added, then the gated feed-forward of the modulated norm. -/
def postRow (h y : Fin 1024 → EReal) (md : Fin 6144 → EReal) (g : Fin 1024 → EReal) (w1 : Fin 1024 → Fin 4096 → EReal)
    (w2 : Fin 4096 → Fin 1024 → EReal) (j : Fin 1024) : EReal :=
  mixed h y md j + piece md 5120 (by omega) j * ff (ffIn (mixed h y md) g md) w1 w2 j

/-- Two rows of 512 elements, one after the other. -/
def cat (z o : Fin 512 → EReal) (k : Fin 1024) : EReal :=
  if h : k.val < 512 then z ⟨k.val, h⟩ else o ⟨k.val - 512, by omega⟩

/-- A row of two halves times a matrix is the sum of the halves' products with the matrix's halves. -/
theorem rowMul_cat {N : ℕ} (z o : Fin 512 → EReal) (w : Fin 1024 → Fin N → EReal) (j : Fin N) :
    rowMul (cat z o) w j = (∑ k : Fin 512, z k * w ⟨k.val, by omega⟩ j) + ∑ k : Fin 512, o k * w ⟨512 + k.val, by omega⟩ j := by
  unfold rowMul
  rw [Fin.sum_univ_two_halves 512 512 rfl]
  simp [cat]

/-- The rows of a stream kept as two arrays: the latent rows, and the context's rows after them. -/
def pairRow {n : ℕ} (lat : (⟨3, ![4, 8192, n]⟩ : Shape).Idx → EReal) (ctx : (⟨3, ![4, 256, n]⟩ : Shape).Idx → EReal)
    (b : Fin 4) (s : Fin 8448) (k : Fin n) : EReal :=
  if h : s.val < 8192 then lat (ix3 b ⟨s.val, h⟩ k) else ctx (ix3 b ⟨s.val - 8192, by omega⟩ k)

/-- A latent row of the stream. -/
theorem pairRow_lat {n : ℕ} (lat : (⟨3, ![4, 8192, n]⟩ : Shape).Idx → EReal) (ctx : (⟨3, ![4, 256, n]⟩ : Shape).Idx → EReal)
    (b : Fin 4) (s : Fin 8448) (h : s.val < 8192) : pairRow lat ctx b s = fun k => lat (ix3 b ⟨s.val, h⟩ k) :=
  funext fun _ => dif_pos h

/-- A row of the context. -/
theorem pairRow_ctx {n : ℕ} (lat : (⟨3, ![4, 8192, n]⟩ : Shape).Idx → EReal) (ctx : (⟨3, ![4, 256, n]⟩ : Shape).Idx → EReal)
    (b : Fin 4) (s : Fin 8448) (h : ¬s.val < 8192) :
    pairRow lat ctx b s = fun k => ctx (ix3 b ⟨s.val - 8192, by omega⟩ k) :=
  funext fun _ => dif_neg h

/-- The elementwise product of two arrays of latent rows. -/
def prodRow {n : ℕ} (x w : (⟨3, ![4, 8192, n]⟩ : Shape).Idx → EReal) (i : (⟨3, ![4, 8192, n]⟩ : Shape).Idx) : EReal :=
  x i * w i

/-- The row of modulations of a stream's row: the member's own for a latent row, row 4 for a row of the context. -/
def modOf (b : Fin 4) (s : Fin 8448) : Fin 8 := if s.val < 8192 then ⟨b.val, by omega⟩ else 4

/-- The comparison that tells the context's tile from the latent ones. -/
theorem sge_32 (n : ℕ) (hn : n < 33) :
    Scalar.cmpi .sge (BitVec.ofNat 32 n) 32#32 = if 32 ≤ n then 1#1 else 0#1 := by
  interval_cases n <;> rfl

/-- A sum over 4096 positions as the four sums over a quarter of them, added from the left. -/
theorem sum_quarters (f : Fin 4096 → EReal) :
    ∑ k, f k = (∑ k : Fin 1024, f ⟨k.val, by omega⟩) + (∑ k : Fin 1024, f ⟨1024 + k.val, by omega⟩)
      + (∑ k : Fin 1024, f ⟨2048 + k.val, by omega⟩) + ∑ k : Fin 1024, f ⟨3072 + k.val, by omega⟩ := by
  rw [Fin.sum_univ_two_halves 3072 1024 rfl f]
  rw [Fin.sum_univ_two_halves 2048 1024 rfl fun k : Fin 3072 => f ⟨k.val, by omega⟩]
  rw [Fin.sum_univ_two_halves 1024 1024 rfl fun k : Fin 2048 => f ⟨k.val, by omega⟩]

/-- Gelu with the half multiplied in last. -/
theorem gelu_comm (x : EReal) :
    x * (Ideal.ofBits .f32 0x3F000000#32
      * (1 + Ideal.tanh (Ideal.ofBits .f32 0x3F4C422A#32 * (x + Ideal.ofBits .f32 0x3D372713#32 * (x * x * x))))) = gelu x := by
  unfold gelu
  rw [← mul_assoc, mul_comm x]

end Cert.Rows

end
-- ==== Proof.OddRows.lean ====
/- The kernel of the last layer's second half: what the body stores, read at an index. -/
module

public import proofs.«01_k».proof.Proof.Gen.KernelIdeal.Value
public import proofs.«01_k».proof.Proof.Rows

@[expose] public section

set_option maxRecDepth 16384

noncomputable section

namespace Cert.KernelIdeal.OddRows

open Cert.KernelIdeal Cert.KernelIdeal.Gen Idealize.ShloMosaic Cert.Rows

/-- The mixer row of row `r`: both directions' states added, times the gelu of the gate. -/
def mix (x2 : Vec Ideal S2x1x256x1280 .f32) (x3 : Vec Ideal S1x256x1280 .bf16) (r : Fin 256) (k : Fin 1280) : EReal :=
  (x2 (ix4 0 0 r k) + x2 (ix4 1 0 r k)) * gelu (x3 (ix3 0 r k))

variable (i : grid0.Coords) (x0 x1 : Vec Ideal S1x256x1024 .f32) (x2 : Vec Ideal S2x1x256x1280 .f32)
  (x3 : Vec Ideal S1x256x1280 .bf16) (x4 : Vec Ideal S1x1x6144 .f32) (x5 : Vec Ideal S1x1024 .f32)
  (x6 : Vec Ideal S1280x1024 .bf16) (x7 : Vec Ideal S1024x4096 .bf16) (x8 : Vec Ideal S4096x1024 .bf16)
  (x9 : Vec Ideal S1x1024 .f32)

/-- The output projection of the mixer row. -/
theorem pay10_apply (r : Fin 256) (j : Fin 1024) :
    k0_pay10 i x0 x1 x2 x3 x4 x5 x6 x7 x8 x9 (ix2 r j) = rowMul (mix x2 x3 r) (fun k n => x6 (ix2 k n)) j := by
  unfold k0_pay10
  pointwise [k0_pay2, r0_0, r0_1, r0_2, r0_3]
  rfl

/-- The modulations of the point. -/
theorem pay11_apply (k : Fin 6144) : k0_pay11 i x0 x1 x2 x3 x4 x5 x6 x7 x8 x9 (ix2 0 k) = x4 (ix3 0 0 k) := by
  unfold k0_pay11
  pointwise [k0_pay3, r0_4]

/-- The stream with the gated mixer row added, at a point of the latent tiles. -/
theorem pay13_apply (hi : (i 1).val < 32) (r : Fin 256) (j : Fin 1024) :
    k0_pay13 i x0 x1 x2 x3 x4 x5 x6 x7 x8 x9 (ix2 r j) = mixed (fun k => x0 (ix3 0 r k))
      (rowMul (mix x2 x3 r) (fun k n => x6 (ix2 k n))) (fun k => x4 (ix3 0 0 k)) j := by
  have hs : Scalar.cmpi .sge (BitVec.ofNat 32 (i 1).val) 32#32 = 0#1 := by
    generalize (i 1).val = n at hi
    interval_cases n <;> rfl
  unfold k0_pay13
  pointwise [k0_pay5, r0_5, hs, pay10_apply, pay11_apply]
  rfl

/-- The row with the gated mixer row added, at row `r` of the point's block. -/
def row1 (x0 : Vec Ideal S1x256x1024 .f32) (x2 : Vec Ideal S2x1x256x1280 .f32) (x3 : Vec Ideal S1x256x1280 .bf16)
    (x4 : Vec Ideal S1x1x6144 .f32) (x6 : Vec Ideal S1280x1024 .bf16) (r : Fin 256) : Fin 1024 → EReal :=
  mixed (fun k => x0 (ix3 0 r k)) (rowMul (mix x2 x3 r) (fun k n => x6 (ix2 k n))) (fun k => x4 (ix3 0 0 k))

/-- The feed-forward's input. -/
theorem pay14_apply (hi : (i 1).val < 32) (r : Fin 256) (j : Fin 1024) :
    k0_pay14 i x0 x1 x2 x3 x4 x5 x6 x7 x8 x9 (ix2 r j)
      = ffIn (row1 x0 x2 x3 x4 x6 r) (fun k => x5 (ix2 0 k)) (fun k => x4 (ix3 0 0 k)) j := by
  have h (k : Fin 1024) := pay13_apply i x0 x1 x2 x3 x4 x5 x6 x7 x8 x9 hi r k
  unfold k0_pay13 at h
  unfold k0_pay14
  pointwise [k0_pay6, r0_6, h, pay11_apply]
  rfl

/-- The feed-forward's first quarter. -/
theorem pay15_apply (r : Fin 256) (j : Fin 1024) :
    k0_pay15 i x0 x1 x2 x3 x4 x5 x6 x7 x8 x9 (ix2 r j)
      = ∑ f : Fin 1024, relu2 (∑ k : Fin 1024, k0_pay14 i x0 x1 x2 x3 x4 x5 x6 x7 x8 x9 (ix2 r k) * x7 (ix2 k ⟨f.val, by omega⟩))
          * x8 (ix2 ⟨f.val, by omega⟩ j) := by
  unfold k0_pay15 k0_pay14
  pointwise [k0_pay7, r0_7, r0_8]
  rfl

/-- The stream after the feed-forward. -/
theorem pay8_apply (hi : (i 1).val < 32) (r : Fin 256) (j : Fin 1024) :
    k0_pay8 (k0_pay11 i x0 x1 x2 x3 x4 x5 x6 x7 x8 x9) (k0_pay13 i x0 x1 x2 x3 x4 x5 x6 x7 x8 x9)
        (k0_pay14 i x0 x1 x2 x3 x4 x5 x6 x7 x8 x9) (k0_pay15 i x0 x1 x2 x3 x4 x5 x6 x7 x8 x9)
        (View.ld x7 r0_9) (View.ld x8 r0_10) (View.ld x7 r0_11) (View.ld x8 r0_12) (View.ld x7 r0_13) (View.ld x8 r0_14) (ix2 r j)
      = postRow (fun k => x0 (ix3 0 r k)) (rowMul (mix x2 x3 r) (fun k n => x6 (ix2 k n))) (fun k => x4 (ix3 0 0 k))
          (fun k => x5 (ix2 0 k)) (fun k f => x7 (ix2 k f)) (fun f n => x8 (ix2 f n)) j := by
  unfold postRow ff rowMul
  rw [sum_quarters]
  pointwise [k0_pay8, r0_9, r0_10, r0_11, r0_12, r0_13, r0_14, pay11_apply, pay13_apply i x0 x1 x2 x3 x4 x5 x6 x7 x8 x9 hi,
    pay14_apply i x0 x1 x2 x3 x4 x5 x6 x7 x8 x9 hi, pay15_apply]
  rfl

/-- What the body stores at row `r`, element `j`: the final norm of the layer's second half. -/
theorem out_apply (hi : (i 1).val < 32) (r : Fin 256) (j : Fin 1024) :
    out0_10 i x0 x1 x2 x3 x4 x5 x6 x7 x8 x9 (ix3 0 r j)
      = norm (postRow (fun k => x0 (ix3 0 r k)) (rowMul (mix x2 x3 r) (fun k n => x6 (ix2 k n))) (fun k => x4 (ix3 0 0 k))
          (fun k => x5 (ix2 0 k)) (fun k f => x7 (ix2 k f)) (fun f n => x8 (ix2 f n))) (fun k => x9 (ix2 0 k)) j := by
  have hz : (![0, 0, 0] : Fin 3 → Nat) = fun _ => 0 := funext fun a => by fin_cases a <;> rfl
  unfold out0_10
  rw [View.canon_unit_zero hz]
  pointwise [k0_pay1, k0_pay9, r0_6, pay8_apply i x0 x1 x2 x3 x4 x5 x6 x7 x8 x9 hi]
  rfl

end Cert.KernelIdeal.OddRows

end
-- ==== Proof.OddSpec.lean ====
/- The second half of the last layer as one function of the arrays. -/
module

public import proofs.«01_k».proof.Proof.Rows

@[expose] public section

noncomputable section

namespace Cert.Rows

open Idealize.ShloMosaic

/-- The mixer row of an odd layer: both directions' states added, times the gelu of the gate. -/
def oddMix (hd : (⟨4, ![2, 4, 8448, 1280]⟩ : Shape).Idx → EReal) (gate : (⟨3, ![4, 8448, 1280]⟩ : Shape).Idx → EReal)
    (b : Fin 4) (s : Fin 8448) (k : Fin 1280) : EReal :=
  (hd (ix4 0 b s k) + hd (ix4 1 b s k)) * gelu (gate (ix3 b s k))

/-- Element `j` of row `s` of member `b` after an odd layer's second half, with the modulations of layer `l` at row `q`. -/
def oddPost (h : (⟨3, ![4, 8448, 1024]⟩ : Shape).Idx → EReal) (hd : (⟨4, ![2, 4, 8448, 1280]⟩ : Shape).Idx → EReal)
    (gate : (⟨3, ![4, 8448, 1280]⟩ : Shape).Idx → EReal) (mods : (⟨3, ![4, 8, 6144]⟩ : Shape).Idx → EReal)
    (g : (⟨1, ![1024]⟩ : Shape).Idx → EReal) (wo : (⟨2, ![1280, 1024]⟩ : Shape).Idx → EReal)
    (w1 : (⟨2, ![1024, 4096]⟩ : Shape).Idx → EReal) (w2 : (⟨2, ![4096, 1024]⟩ : Shape).Idx → EReal)
    (l : Fin 4) (q : Fin 8) (b : Fin 4) (s : Fin 8448) : Fin 1024 → EReal :=
  postRow (fun k => h (ix3 b s k)) (rowMul (oddMix hd gate b s) (fun k n => wo (ix2 k n))) (fun k => mods (ix3 l q k))
    (fun k => g (ix1 k)) (fun k f => w1 (ix2 k f)) (fun f n => w2 (ix2 f n))

/-- The last layer's result: the final norm of the latent rows. -/
def lastOut (h : (⟨3, ![4, 8448, 1024]⟩ : Shape).Idx → EReal) (hd : (⟨4, ![2, 4, 8448, 1280]⟩ : Shape).Idx → EReal)
    (gate : (⟨3, ![4, 8448, 1280]⟩ : Shape).Idx → EReal) (mods : (⟨3, ![4, 8, 6144]⟩ : Shape).Idx → EReal)
    (g : (⟨1, ![1024]⟩ : Shape).Idx → EReal) (wo : (⟨2, ![1280, 1024]⟩ : Shape).Idx → EReal)
    (w1 : (⟨2, ![1024, 4096]⟩ : Shape).Idx → EReal) (w2 : (⟨2, ![4096, 1024]⟩ : Shape).Idx → EReal)
    (fg : (⟨1, ![1024]⟩ : Shape).Idx → EReal) (i : (⟨3, ![4, 8192, 1024]⟩ : Shape).Idx) : EReal :=
  norm (oddPost h hd gate mods g wo w1 w2 3 ⟨(i 0).val, lt_trans (i 0).isLt (show 4 < 8 by omega)⟩ (i 0)
    ⟨(i 1).val, lt_trans (i 1).isLt (show 8192 < 8448 by omega)⟩) (fun k => fg (ix1 k)) (i 2)

end Cert.Rows

end
-- ==== Proof.OddValue.lean ====
/- The kernel of the last layer's second half: its result array is `lastOut` of the arguments. -/
module

public import proofs.«01_k».proof.Proof.OddRows
public import proofs.«01_k».proof.Proof.OddSpec
public import Idealize.ShloMosaic.Lib.Pipeline.ValueKit
public import Idealize.ShloMosaic.Lib.Claim

@[expose] public section

set_option maxRecDepth 16384

noncomputable section

namespace Cert.KernelIdeal.OddValue

open Cert.KernelIdeal Cert.KernelIdeal.Gen Cert.KernelIdeal.OddRows Idealize.ShloMosaic Idealize.ShloMosaic.TcCoe
  Idealize.SL.Sem Cert.Rows
open Idealize.ShloMosaic.Pipeline (Dat)

variable (m : (ℓ : Loc nD τ sig) → Buf (Elt Ideal) ℓ) (ρ : Dev nD → PrngReg)

/-- The second grid coordinate is the point's number modulo 32. -/
theorem coord_lt : ∀ t : Fin cfg0.N, (grid0.coords t 1).val < 32 :=
  (by decide +kernel : ∀ t : Fin grid0.N, _)

/-- Where each window's block lies at each point. -/
theorem idx_facts : ∀ t : Fin cfg0.N, win0_0.index t = ![t.val / 32, t.val % 32, 0]
    ∧ win0_2.index t = ![0, t.val / 32, t.val % 32, 0] ∧ win0_3.index t = ![t.val / 32, t.val % 32, 0]
    ∧ win0_4.index t = ![24 + t.val / 32, 0, 0] ∧ win0_5.index t = ![0, 0] ∧ win0_6.index t = ![0, 0]
    ∧ win0_7.index t = ![0, 0] ∧ win0_8.index t = ![0, 0] ∧ win0_9.index t = ![0, 0]
    ∧ win0_10.index t = ![t.val / 32, t.val % 32, 0] :=
  (by decide +kernel : ∀ t : Fin grid0.N, _)

/-- What the result array of device `c` is shown to hold. -/
abbrev G (c : Dev nD) : Buf (Elt Ideal) ((c : Thread nD τ).loc main_v6) :=
  lastOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

section Blocks
variable (c : Dev nD) (t : Fin cfg0.N) (r : Fin 256)

/-- The grid has 128 points. -/
theorem hN : t.val < 128 := t.isLt

/-- The stream's block. -/
theorem blk0 (k : Fin 1024) (b : Fin 4) (s : Fin 8448) (hb : b.val = t.val / 32) (hs : s.val = t.val % 32 * 256 + r.val) :
    iblk m c 0 t (ix3 0 r k) = m ((c : Thread nD τ).loc main_arg0) (ix3 b s k) := by
  blk_ext [iblk, V, idx_facts t]
/-- The modulations' block. -/
theorem blk4 (k : Fin 6144) (q : Fin 8) (hq : q.val = t.val / 32) :
    iblk m c 4 t (ix3 0 0 k) = m ((c : Thread nD τ).loc main_arg3) (ix3 3 q k) := by
  have := hN t
  blk_ext! [iblk, V, idx_facts t]
/-- The norm's gain. -/
theorem blk5 (k : Fin 1024) :
    iblk m c 5 t (ix2 0 k) = m ((c : Thread nD τ).loc main_arg4) (ix1 k) := by
  blk_ext! [iblk, V, idx_facts t]
/-- The output projection's matrix. -/
theorem blk6 (k : Fin 1280) (n : Fin 1024) :
    iblk m c 6 t (ix2 k n) = m ((c : Thread nD τ).loc main_arg5) (ix2 k n) := by
  blk_ext! [iblk, V, idx_facts t]

/-- The mixer's states' block. -/
theorem blk2 (d : Fin 2) (k : Fin 1280) (b : Fin 4) (s : Fin 8448) (hb : b.val = t.val / 32)
    (hs : s.val = t.val % 32 * 256 + r.val) :
    iblk m c 2 t (ix4 d 0 r k) = m ((c : Thread nD τ).loc main_arg1) (ix4 d b s k) := by
  blk_ext [iblk, V, idx_facts t]
/-- The gate's block. -/
theorem blk3 (k : Fin 1280) (b : Fin 4) (s : Fin 8448) (hb : b.val = t.val / 32) (hs : s.val = t.val % 32 * 256 + r.val) :
    iblk m c 3 t (ix3 0 r k) = m ((c : Thread nD τ).loc main_arg2) (ix3 b s k) := by
  blk_ext [iblk, V, idx_facts t]
/-- The feed-forward's first matrix. -/
theorem blk7 (k : Fin 1024) (n : Fin 4096) :
    iblk m c 7 t (ix2 k n) = m ((c : Thread nD τ).loc main_arg6) (ix2 k n) := by
  blk_ext! [iblk, V, idx_facts t]
/-- The feed-forward's second matrix. -/
theorem blk8 (k : Fin 4096) (n : Fin 1024) :
    iblk m c 8 t (ix2 k n) = m ((c : Thread nD τ).loc main_arg7) (ix2 k n) := by
  blk_ext! [iblk, V, idx_facts t]
/-- The final norm's gain. -/
theorem blk9 (k : Fin 1024) :
    iblk m c 9 t (ix2 0 k) = m ((c : Thread nD τ).loc main_arg8) (ix1 k) := by
  blk_ext! [iblk, V, idx_facts t]

/-- The mixer row of the block is that of the arrays. -/
theorem mix_eq (k : Fin 1280) (b : Fin 4) (s : Fin 8448) (hb : b.val = t.val / 32) (hs : s.val = t.val % 32 * 256 + r.val) :
    mix (iblk m c 2 t) (iblk m c 3 t) r k
      = oddMix (m ((c : Thread nD τ).loc main_arg1)) (m ((c : Thread nD τ).loc main_arg2)) b s k := by
  unfold mix oddMix
  rw [blk2 m c t r 0 k b s hb hs, blk2 m c t r 1 k b s hb hs, blk3 m c t r k b s hb hs]

/-- What the body stores at row `r` of point `t`, over the argument arrays. -/
theorem out_eq (j : Fin 1024) (b : Fin 4) (q : Fin 8) (s : Fin 8448) (hb : b.val = t.val / 32) (hq : q.val = t.val / 32)
    (hs : s.val = t.val % 32 * 256 + r.val) :
    out0_10 (grid0.coords t) (iblk m c 0 t) (iblk m c 1 t) (iblk m c 2 t) (iblk m c 3 t) (iblk m c 4 t) (iblk m c 5 t)
        (iblk m c 6 t) (iblk m c 7 t) (iblk m c 8 t) (iblk m c 9 t) (ix3 0 r j)
      = norm (oddPost (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          3 q b s) (fun k => m ((c : Thread nD τ).loc main_arg8) (ix1 k)) j := by
  rw [out_apply _ _ _ _ _ _ _ _ _ _ _ (coord_lt t)]
  have e0 := funext fun k => blk0 m c t r k b s hb hs
  have e2 := funext fun k => mix_eq m c t r k b s hb hs
  have e4 := funext fun k => blk4 m c t k q hq
  have e5 := funext fun k => blk5 m c t k
  have e6 := funext fun k => funext fun n => blk6 m c t k n
  have e7 := funext fun k => funext fun n => blk7 m c t k n
  have e8 := funext fun k => funext fun n => blk8 m c t k n
  have e9 := funext fun k => blk9 m c t k
  unfold oddPost
  rw [e0, e2, e4, e5, e6, e7, e8, e9]
end Blocks

/-- The result array after the run: the blocks tile it and each holds its part of `G`. -/
theorem final (c : Dev nD) : (dats m 0 c).arrAt 10 cfg0.N = G m c := by
  refine (dats m 0 c).arrAt_eq_of_covers 10 _ (by decide +kernel) fun t hf y => ?_
  blk_simp
  rw [after0_10]
  have ht := hN t
  idx_vars y
  obtain rfl : y0 = 0 := Subsingleton.elim _ _
  rw [out_eq m c t y1 y2 ⟨t.val / 32, by omega⟩ ⟨t.val / 32, by omega⟩ ⟨t.val % 32 * 256 + y1.val, by omega⟩ rfl rfl rfl]
  have e : ((View.whole main_v6).slice (win0_10.rect t)).emb (ix3 0 y1 y2)
      = (ix3 ⟨t.val / 32, by omega⟩ ⟨t.val % 32 * 256 + y1.val, by omega⟩ y2 : S4x8192x1024.Idx) := by
    blk_ext [idx_facts t]
  rw [e]
  rfl

/-- The run, read: the result array at `G`, the arguments unchanged. -/
theorem run : θ_run defs (onTc (τ := τ) (main (F := Ideal))) ⟨m, fun _ => 0, ρ⟩ fun r => ∀ c : Dev nD,
      r.2.mem ((c : Thread nD τ).loc main_v6) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (Value.run_blocks m ρ)

end Cert.KernelIdeal.OddValue

end
-- ==== Proof.OddRef.lean ====
/- The reference of the last layer's second half: its result as one function of the arguments. -/
module

public import proofs.«01_k».proof.Proof.Gen.ReferenceIdeal.Read
public import proofs.«01_k».proof.Proof.OddSpec

@[expose] public section

set_option maxRecDepth 16384

noncomputable section

namespace Cert.ReferenceIdeal.OddRef

open Cert.ReferenceIdeal Cert.ReferenceIdeal.Read Idealize.ShloMosaic Cert.Rows

variable (x0 : FVec Ideal S4x8448x1024 .f32) (x1 : FVec Ideal S2x4x8448x1280 .f32) (x2 : FVec Ideal S4x8448x1280 .bf16)
  (x3 : FVec Ideal S4x8x6144 .f32) (x4 : FVec Ideal S1024 .f32) (x5 : FVec Ideal S1280x1024 .f32)
  (x6 : FVec Ideal S1024x4096 .f32) (x7 : FVec Ideal S4096x1024 .f32)
  (x8 : FVec Ideal S1024 .f32) (b : Fin 4)

/-- The modulations of the latent rows. -/
theorem modL_apply (k : Fin 6144) : val_main_v25 (F := Ideal) x3 (ix3 b 0 k) = x3 (ix3 3 ⟨b.val, by omega⟩ k) := by
  unfold val_main_v25 val_main_v24 val_main_v23
  pointwise

/-- The output projection of a latent row. -/
theorem projL_apply (s : Fin 8192) (j : Fin 1024) : val_main_v21 (F := Ideal) x1 x2 x5 (ix3 b s j)
      = rowMul (oddMix x1 x2 b ⟨s.val, by omega⟩) (fun k n => x5 (ix2 k n)) j := by
  unfold val_main_v21 val_main_v20 val_main_v19 val_main_v18 val_main_v17 val_main_cst_2 val_main_v16 val_main_v15
    val_main_cst_1 val_main_v14 val_main_v13 val_main_v12 val_main_cst_0 val_main_v11 val_main_v10 val_main_v9
    val_main_cst val_main_v8 val_main_v7 val_main_v6 val_main_v5 val_main_v4 val_main_v3 val_main_v2 val_main_v1
    val_main_v0
  pointwise [rowMul]
  simp only [gelu_comm]
  rfl

/-- A latent row with the gated mixer row added. -/
theorem row1L_apply (s : Fin 8192) (j : Fin 1024) : val_main_v34 (F := Ideal) x0 x1 x2 x3 x5 (ix3 b s j)
      = mixed (fun k => x0 (ix3 b ⟨s.val, by omega⟩ k)) (rowMul (oddMix x1 x2 b ⟨s.val, by omega⟩) (fun k n => x5 (ix2 k n))) (fun k => x3 (ix3 3 ⟨b.val, by omega⟩ k)) j := by
  unfold val_main_v34 val_main_v33 val_main_v32 val_main_v28 val_main_v22
  pointwise [projL_apply, modL_apply]
  rfl

/-- The feed-forward's input at a latent row. -/
theorem ffInL_apply (s : Fin 8192) (j : Fin 1024) : val_main_v53 (F := Ideal) x0 x1 x2 x3 x4 x5 (ix3 b s j)
      = ffIn (mixed (fun k => x0 (ix3 b ⟨s.val, by omega⟩ k)) (rowMul (oddMix x1 x2 b ⟨s.val, by omega⟩) (fun k n => x5 (ix2 k n))) (fun k => x3 (ix3 3 ⟨b.val, by omega⟩ k))) (fun k => x4 (ix1 k)) (fun k => x3 (ix3 3 ⟨b.val, by omega⟩ k)) j := by
  unfold val_main_v53 val_main_v52 val_main_v51 val_main_v50 val_main_v49 val_main_v48 val_main_cst_6 val_main_v47
    val_main_v46 val_main_v45 val_main_v44 val_main_v43 val_main_v42 val_main_v41 val_main_v40 val_main_cst_5
    val_main_v39 val_main_v38 val_main_cst_4 val_main_v37 val_main_v36 val_main_cst_3 val_main_v35 val_main_v30
    val_main_v29
  pointwise [row1L_apply, modL_apply]
  rfl

/-- A latent row after the feed-forward. -/
theorem row2L_apply (s : Fin 8192) (j : Fin 1024) : val_main_v60 (F := Ideal) x0 x1 x2 x3 x4 x5 x6 x7 (ix3 b s j)
      = postRow (fun k => x0 (ix3 b ⟨s.val, by omega⟩ k)) (rowMul (oddMix x1 x2 b ⟨s.val, by omega⟩) (fun k n => x5 (ix2 k n))) (fun k => x3 (ix3 3 ⟨b.val, by omega⟩ k)) (fun k => x4 (ix1 k)) (fun k f => x6 (ix2 k f)) (fun f n => x7 (ix2 f n)) j := by
  unfold val_main_v60 val_main_v59 val_main_v58 val_main_v57 val_main_v56 val_main_v55 val_main_call0_v0
    val_main_call0_cst val_main_v54 val_main_v31
  pointwise [row1L_apply, ffInL_apply, modL_apply]
  rfl

/-- The reference's result. -/
theorem result_eq : val_main_v73 (F := Ideal) x0 x1 x2 x3 x4 x5 x6 x7 x8 = lastOut x0 x1 x2 x3 x4 x5 x6 x7 x8 := by
  funext i
  idx_vars i
  unfold val_main_v73 val_main_v72 val_main_v71 val_main_v70 val_main_v69 val_main_v68 val_main_v67 val_main_v66
    val_main_cst_9 val_main_v65 val_main_v64 val_main_cst_8 val_main_v63 val_main_v62 val_main_cst_7 val_main_v61
  pointwise [row2L_apply]
  rfl

end Cert.ReferenceIdeal.OddRef

end
-- ==== Proof.OddClaims.lean ====
/- The claims about the last layer's second half. -/
module

public import proofs.«01_k».proof.Defs
public import proofs.«01_k».proof.Proof.Gen.Kernel.Frame
public import proofs.«01_k».proof.Proof.OddValue
public import proofs.«01_k».proof.Proof.OddRef
public import proofs.«01_k».proof.Proof.Gen.ReferenceIdeal.Run
public import Idealize.ShloMosaic.Lib.Quiescent

@[expose] public section

noncomputable section

namespace Cert.Proof.Odd

open Idealize.ShloMosaic Idealize.ShloMosaic.TcCoe Idealize.SL.Sem

/-- The kernel runs, leaves its arguments and returns every counter to zero. -/
theorem frame_k : Cert.quiescent_Kernel := fun m ρ _ => Cert.Kernel.Gen.frame m ρ

/-- The same of its idealization. -/
theorem frame_ki : Cert.quiescent_KernelIdeal := fun m ρ _ => Cert.KernelIdeal.Gen.frame m ρ

/-- The reference runs and leaves its arguments; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Idealization rewrote nothing. -/
theorem preserves : Cert.preserves_Kernel_KernelIdeal := trivial

/-- Over the extended reals the kernel's result is the reference's, on all arguments. -/
theorem algebraic : Cert.algebraic_KernelIdeal_ReferenceIdeal := by
  intro m ρ m' ρ' _ hag
  refine ⟨fun c => Cert.KernelIdeal.OddValue.G m c, Cert.KernelIdeal.OddValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hag c
  refine (Cert.ReferenceIdeal.Read.val_main_v73_eq m' c).trans ?_
  rw [a0, a1, a2, a3, a4, a5, a6, a7, a8]
  exact Cert.ReferenceIdeal.OddRef.result_eq _ _ _ _ _ _ _ _ _

end Cert.Proof.Odd

end
-- ==== Proof.EvenRows.lean ====
/- The kernel of the first layer's second half: what the body stores, read at an index. -/
module

public import proofs.«01_k».proof.Proof.Gen.Kernel2Ideal.Value
public import proofs.«01_k».proof.Proof.Rows

@[expose] public section

set_option maxRecDepth 16384

noncomputable section

namespace Cert.Kernel2Ideal.EvenRows

open Cert.Kernel2Ideal Cert.Kernel2Ideal.Gen Idealize.ShloMosaic Cert.Rows

variable (i : grid0.Coords) (x0 x1 : Vec Ideal S1x256x1024 .f32) (x2 x3 x4 x5 x6 : Vec Ideal S1x256x512 .bf16)
  (x7 : Vec Ideal S1x1x6144 .f32) (x8 : Vec Ideal S1x1024 .f32) (x9 : Vec Ideal S1024x1024 .bf16)
  (x10 : Vec Ideal S1024x4096 .bf16) (x11 : Vec Ideal S4096x1024 .bf16)

/-- The first mixer's row `r` of the block: a product in the latent tiles, given in the context's. -/
def zRow (i : grid0.Coords) (x2 x3 x4 : Vec Ideal S1x256x512 .bf16) (r : Fin 256) (k : Fin 512) : EReal :=
  if 32 ≤ (i 1).val then x4 (ix3 0 r k) else x2 (ix3 0 r k) * x3 (ix3 0 r k)

/-- Row `r` of the block chosen by the tile. -/
def selRow {n : ℕ} (i : grid0.Coords) (lat ctx : (⟨3, ![1, 256, n]⟩ : Shape).Idx → EReal) (r : Fin 256) (k : Fin n) : EReal :=
  if 32 ≤ (i 1).val then ctx (ix3 0 r k) else lat (ix3 0 r k)

/-- The tile's comparison. -/
theorem cmp_eq : Scalar.cmpi .sge (BitVec.ofNat 32 (i 1).val) 32#32 = if 32 ≤ (i 1).val then 1#1 else 0#1 :=
  sge_32 _ (i 1).isLt

/-- The output projection of the two mixers' rows. -/
theorem pay9_apply (r : Fin 256) (j : Fin 1024) :
    k0_pay9 i x0 x1 x2 x3 x4 x5 x6 x7 x8 x9 x10 x11 (ix2 r j)
      = rowMul (cat (zRow i x2 x3 x4 r) (selRow i x5 x6 r)) (fun k n => x9 (ix2 k n)) j := by
  rw [rowMul_cat]
  unfold k0_pay9 zRow selRow
  have h := cmp_eq i
  split_ifs at h ⊢ with hi <;> (pointwise [k0_pay2, r0_0, r0_1, r0_2, h]) <;> rfl

/-- The modulations of the point. -/
theorem pay10_apply (k : Fin 6144) : k0_pay10 i x0 x1 x2 x3 x4 x5 x6 x7 x8 x9 x10 x11 (ix2 0 k) = x7 (ix3 0 0 k) := by
  unfold k0_pay10
  pointwise [k0_pay3, r0_3]

/-- The stream's row with the gated mixer row added. -/
def row1 (i : grid0.Coords) (x0 x1 : Vec Ideal S1x256x1024 .f32) (x2 x3 x4 x5 x6 : Vec Ideal S1x256x512 .bf16)
    (x7 : Vec Ideal S1x1x6144 .f32) (x9 : Vec Ideal S1024x1024 .bf16) (r : Fin 256) : Fin 1024 → EReal :=
  mixed (selRow i x0 x1 r) (rowMul (cat (zRow i x2 x3 x4 r) (selRow i x5 x6 r)) (fun k n => x9 (ix2 k n)))
    (fun k => x7 (ix3 0 0 k))

/-- The stream after the mixers, as the body computes it. -/
def st (i : grid0.Coords) (x0 x1 : Vec Ideal S1x256x1024 .f32) (x2 x3 x4 x5 x6 : Vec Ideal S1x256x512 .bf16)
    (x7 : Vec Ideal S1x1x6144 .f32) (x8 : Vec Ideal S1x1024 .f32) (x9 : Vec Ideal S1024x1024 .bf16)
    (x10 : Vec Ideal S1024x4096 .bf16) (x11 : Vec Ideal S4096x1024 .bf16) : FVec Ideal S256x1024 .f32 :=
  k0_pay5 (k0_pay9 i x0 x1 x2 x3 x4 x5 x6 x7 x8 x9 x10 x11) (k0_pay10 i x0 x1 x2 x3 x4 x5 x6 x7 x8 x9 x10 x11) (Scalar.cmpi .sge (BitVec.ofNat 32 (i 1).val) 32#32)
    (k0_pay11 i x0 x1 x2 x3 x4 x5 x6 x7 x8 x9 x10 x11) (View.ld x0 r0_4)

/-- It is `row1` row by row. -/
theorem st_apply (r : Fin 256) (j : Fin 1024) :
    st i x0 x1 x2 x3 x4 x5 x6 x7 x8 x9 x10 x11 (ix2 r j) = row1 i x0 x1 x2 x3 x4 x5 x6 x7 x9 r j := by
  unfold st row1 mixed k0_pay11
  conv_rhs => unfold selRow
  have h := cmp_eq i
  split_ifs at h ⊢ with hi <;> (pointwise [k0_pay5, k0_pay4, r0_4, h, pay9_apply, pay10_apply]) <;>
    (unfold selRow; simp only [hi]) <;> rfl

/-- The feed-forward's input. -/
theorem pay6_apply (r : Fin 256) (j : Fin 1024) :
    k0_pay6 (k0_pay9 i x0 x1 x2 x3 x4 x5 x6 x7 x8 x9 x10 x11) (k0_pay10 i x0 x1 x2 x3 x4 x5 x6 x7 x8 x9 x10 x11) (Scalar.cmpi .sge (BitVec.ofNat 32 (i 1).val) 32#32)
        (k0_pay11 i x0 x1 x2 x3 x4 x5 x6 x7 x8 x9 x10 x11) (View.ld x0 r0_4) (View.ld x8 r0_5) (ix2 r j)
      = ffIn (row1 i x0 x1 x2 x3 x4 x5 x6 x7 x9 r) (fun k => x8 (ix2 0 k)) (fun k => x7 (ix3 0 0 k)) j := by
  have h (k : Fin 1024) := st_apply i x0 x1 x2 x3 x4 x5 x6 x7 x8 x9 x10 x11 r k
  unfold st at h
  unfold k0_pay6
  pointwise [r0_5, h, pay10_apply]
  rfl

/-- The feed-forward's first quarter. -/
theorem pay7_apply (r : Fin 256) (j : Fin 1024) :
    k0_pay7 (k0_pay9 i x0 x1 x2 x3 x4 x5 x6 x7 x8 x9 x10 x11) (k0_pay10 i x0 x1 x2 x3 x4 x5 x6 x7 x8 x9 x10 x11) (Scalar.cmpi .sge (BitVec.ofNat 32 (i 1).val) 32#32)
        (k0_pay11 i x0 x1 x2 x3 x4 x5 x6 x7 x8 x9 x10 x11) (View.ld x0 r0_4) (View.ld x8 r0_5) (View.ld x10 r0_6) (View.ld x11 r0_7) (ix2 r j)
      = ∑ f : Fin 1024, relu2 (∑ k : Fin 1024, ffIn (row1 i x0 x1 x2 x3 x4 x5 x6 x7 x9 r) (fun k => x8 (ix2 0 k))
          (fun k => x7 (ix3 0 0 k)) k * x10 (ix2 k ⟨f.val, by omega⟩)) * x11 (ix2 ⟨f.val, by omega⟩ j) := by
  unfold k0_pay7
  pointwise [r0_6, r0_7, pay6_apply]
  rfl

/-- What the body stores at row `r`, element `j`: the layer's second half on that row. -/
theorem out_apply (r : Fin 256) (j : Fin 1024) :
    out0_12 i x0 x1 x2 x3 x4 x5 x6 x7 x8 x9 x10 x11 (ix3 0 r j)
      = postRow (selRow i x0 x1 r) (rowMul (cat (zRow i x2 x3 x4 r) (selRow i x5 x6 r)) (fun k n => x9 (ix2 k n)))
          (fun k => x7 (ix3 0 0 k)) (fun k => x8 (ix2 0 k)) (fun k f => x10 (ix2 k f)) (fun f n => x11 (ix2 f n)) j := by
  have hz : (![0, 0, 0] : Fin 3 → Nat) = fun _ => 0 := funext fun a => by fin_cases a <;> rfl
  have h (k : Fin 1024) := st_apply i x0 x1 x2 x3 x4 x5 x6 x7 x8 x9 x10 x11 r k
  unfold st at h
  unfold out0_12
  rw [View.canon_unit_zero hz]
  unfold postRow ff rowMul
  rw [sum_quarters]
  pointwise [k0_pay1, k0_pay8, r0_8, r0_9, r0_10, r0_11, r0_12, r0_13, h, pay10_apply, pay6_apply, pay7_apply]
  rfl

end Cert.Kernel2Ideal.EvenRows

end
-- ==== Proof.EvenSpec.lean ====
/- The second half of an even layer as one function of the arrays. -/
module

public import proofs.«01_k».proof.Proof.Rows

@[expose] public section

noncomputable section

namespace Cert.Rows

open Idealize.ShloMosaic

/-- Row `s` of member `b` after an even layer's second half: `h` is the stream, `x2` and `w` the factors of the first
    mixer's latent rows, `zc` its rows of the context, `ol` and `oc` the second mixer's rows; `l` the layer. -/
def evenPost (h : Fin 4 → Fin 8448 → Fin 1024 → EReal) (x2 w : (⟨3, ![4, 8192, 512]⟩ : Shape).Idx → EReal)
    (zc : (⟨3, ![4, 256, 512]⟩ : Shape).Idx → EReal) (ol : (⟨3, ![4, 8192, 512]⟩ : Shape).Idx → EReal)
    (oc : (⟨3, ![4, 256, 512]⟩ : Shape).Idx → EReal) (mods : (⟨3, ![4, 8, 6144]⟩ : Shape).Idx → EReal)
    (g : (⟨1, ![1024]⟩ : Shape).Idx → EReal) (wo : (⟨2, ![1024, 1024]⟩ : Shape).Idx → EReal)
    (w1 : (⟨2, ![1024, 4096]⟩ : Shape).Idx → EReal) (w2 : (⟨2, ![4096, 1024]⟩ : Shape).Idx → EReal)
    (l : Fin 4) (b : Fin 4) (s : Fin 8448) : Fin 1024 → EReal :=
  postRow (h b s) (rowMul (cat (pairRow (prodRow x2 w) zc b s) (pairRow ol oc b s)) (fun k n => wo (ix2 k n)))
    (fun k => mods (ix3 l (modOf b s) k)) (fun k => g (ix1 k)) (fun k f => w1 (ix2 k f)) (fun f n => w2 (ix2 f n))

end Cert.Rows

end
-- ==== Proof.EvenValue.lean ====
/- The kernel of the first layer's second half: its result array as one function of the arguments. -/
module

public import proofs.«01_k».proof.Proof.EvenRows
public import proofs.«01_k».proof.Proof.EvenSpec
public import Idealize.ShloMosaic.Lib.Pipeline.ValueKit
public import Idealize.ShloMosaic.Lib.Claim

@[expose] public section

set_option maxRecDepth 16384

noncomputable section

namespace Cert.Kernel2Ideal.EvenValue

open Cert.Kernel2Ideal Cert.Kernel2Ideal.Gen Cert.Kernel2Ideal.EvenRows Idealize.ShloMosaic Idealize.ShloMosaic.TcCoe
  Idealize.SL.Sem Cert.Rows
open Idealize.ShloMosaic.Pipeline (Dat)

variable (m : (ℓ : Loc nD τ sig) → Buf (Elt Ideal) ℓ) (ρ : Dev nD → PrngReg)

/-- The second grid coordinate is the point's number modulo 33. -/
theorem coord_eq : ∀ t : Fin cfg0.N, (grid0.coords t 1).val = t.val % 33 :=
  (by decide +kernel : ∀ t : Fin grid0.N, _)

/-- Where each window's block lies at each point. -/
theorem idx_facts : ∀ t : Fin cfg0.N, win0_0.index t = ![t.val / 33, min (t.val % 33) 31, 0]
    ∧ win0_1.index t = ![t.val / 33, 0, 0]
    ∧ win0_2.index t = ![t.val / 33, min (t.val % 33) 31, 0]
    ∧ win0_3.index t = ![t.val / 33, min (t.val % 33) 31, 0]
    ∧ win0_4.index t = ![t.val / 33, 0, 0]
    ∧ win0_5.index t = ![t.val / 33, min (t.val % 33) 31, 0]
    ∧ win0_6.index t = ![t.val / 33, 0, 0]
    ∧ win0_7.index t = ![0 + (if 32 ≤ t.val % 33 then 4 else t.val / 33), 0, 0]
    ∧ win0_8.index t = ![0, 0]
    ∧ win0_9.index t = ![0, 0]
    ∧ win0_10.index t = ![0, 0]
    ∧ win0_11.index t = ![0, 0]
    ∧ win0_12.index t = ![t.val / 33, t.val % 33, 0] :=
  (by decide +kernel : ∀ t : Fin grid0.N, _)

/-- What the result array of device `c` is shown to hold. -/
abbrev G (c : Dev nD) : Buf (Elt Ideal) ((c : Thread nD τ).loc main_v5) := fun i : (⟨3, ![4, 8448, 1024]⟩ : Shape).Idx =>
  evenPost (pairRow (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) 0 (i 0) (i 1) (i 2)

section Blocks
variable (c : Dev nD) (t : Fin cfg0.N) (r : Fin 256)

/-- The grid has 132 points. -/
theorem hN : t.val < 132 := t.isLt

/-- Window 0's block at a latent tile. -/
theorem blk0 (hi : t.val % 33 < 32) (k : Fin 1024) (b : Fin 4) (s : Fin 8192) (hb : b.val = t.val / 33)
    (hs : s.val = t.val % 33 * 256 + r.val) :
    iblk m c 0 t (ix3 0 r k) = m ((c : Thread nD τ).loc main_arg0) (ix3 b s k) := by
  blk_ext [iblk, V, idx_facts t]

/-- Window 1's block. -/
theorem blk1 (k : Fin 1024) (b : Fin 4) (s : Fin 256) (hb : b.val = t.val / 33) (hs : s.val = r.val) :
    iblk m c 1 t (ix3 0 r k) = m ((c : Thread nD τ).loc main_arg1) (ix3 b s k) := by
  blk_ext [iblk, V, idx_facts t]

/-- Window 2's block at a latent tile. -/
theorem blk2 (hi : t.val % 33 < 32) (k : Fin 512) (b : Fin 4) (s : Fin 8192) (hb : b.val = t.val / 33)
    (hs : s.val = t.val % 33 * 256 + r.val) :
    iblk m c 2 t (ix3 0 r k) = m ((c : Thread nD τ).loc main_arg2) (ix3 b s k) := by
  blk_ext [iblk, V, idx_facts t]

/-- Window 3's block at a latent tile. -/
theorem blk3 (hi : t.val % 33 < 32) (k : Fin 512) (b : Fin 4) (s : Fin 8192) (hb : b.val = t.val / 33)
    (hs : s.val = t.val % 33 * 256 + r.val) :
    iblk m c 3 t (ix3 0 r k) = m ((c : Thread nD τ).loc main_arg3) (ix3 b s k) := by
  blk_ext [iblk, V, idx_facts t]

/-- Window 4's block. -/
theorem blk4 (k : Fin 512) (b : Fin 4) (s : Fin 256) (hb : b.val = t.val / 33) (hs : s.val = r.val) :
    iblk m c 4 t (ix3 0 r k) = m ((c : Thread nD τ).loc main_arg4) (ix3 b s k) := by
  blk_ext [iblk, V, idx_facts t]

/-- Window 5's block at a latent tile. -/
theorem blk5 (hi : t.val % 33 < 32) (k : Fin 512) (b : Fin 4) (s : Fin 8192) (hb : b.val = t.val / 33)
    (hs : s.val = t.val % 33 * 256 + r.val) :
    iblk m c 5 t (ix3 0 r k) = m ((c : Thread nD τ).loc main_arg5) (ix3 b s k) := by
  blk_ext [iblk, V, idx_facts t]

/-- Window 6's block. -/
theorem blk6 (k : Fin 512) (b : Fin 4) (s : Fin 256) (hb : b.val = t.val / 33) (hs : s.val = r.val) :
    iblk m c 6 t (ix3 0 r k) = m ((c : Thread nD τ).loc main_arg6) (ix3 b s k) := by
  blk_ext [iblk, V, idx_facts t]

/-- The modulations' block. -/
theorem blk7 (k : Fin 6144) (q : Fin 8) (hq : q.val = if 32 ≤ t.val % 33 then 4 else t.val / 33) :
    iblk m c 7 t (ix3 0 0 k) = m ((c : Thread nD τ).loc main_arg7) (ix3 0 q k) := by
  have := hN t
  blk_ext! [iblk, V, idx_facts t] <;> (split_ifs at hq ⊢ <;> omega)

/-- The norm's gain. -/
theorem blk8 (k : Fin 1024) : iblk m c 8 t (ix2 0 k) = m ((c : Thread nD τ).loc main_arg8) (ix1 k) := by
  blk_ext! [iblk, V, idx_facts t]

/-- Window 9's block. -/
theorem blk9 (k : Fin 1024) (n : Fin 1024) : iblk m c 9 t (ix2 k n) = m ((c : Thread nD τ).loc main_arg9) (ix2 k n) := by
  blk_ext! [iblk, V, idx_facts t]

/-- Window 10's block. -/
theorem blk10 (k : Fin 1024) (n : Fin 4096) : iblk m c 10 t (ix2 k n) = m ((c : Thread nD τ).loc main_arg10) (ix2 k n) := by
  blk_ext! [iblk, V, idx_facts t]

/-- Window 11's block. -/
theorem blk11 (k : Fin 4096) (n : Fin 1024) : iblk m c 11 t (ix2 k n) = m ((c : Thread nD τ).loc main_arg11) (ix2 k n) := by
  blk_ext! [iblk, V, idx_facts t]

/-- The stream's row of the block is that of the arrays. -/
theorem stream_eq (b : Fin 4) (s : Fin 8448) (hb : b.val = t.val / 33) (hs : s.val = t.val % 33 * 256 + r.val) :
    selRow (grid0.coords t) (iblk m c 0 t) (iblk m c 1 t) r = (pairRow (m ((c : Thread nD τ).loc main_arg0)) (m ((c : Thread nD τ).loc main_arg1))) b s := by
  have hr := r.isLt
  funext k
  unfold selRow pairRow
  rw [coord_eq t]
  split_ifs with h1 h2
  · omega
  · exact blk1 m c t r k b _ hb (by simp; omega)
  · exact blk0 m c t r (by omega) k b _ hb hs
  · omega

/-- The first mixer's row of the block is that of the arrays. -/
theorem z_eq (b : Fin 4) (s : Fin 8448) (hb : b.val = t.val / 33) (hs : s.val = t.val % 33 * 256 + r.val) :
    zRow (grid0.coords t) (iblk m c 2 t) (iblk m c 3 t) (iblk m c 4 t) r
      = pairRow (prodRow (m ((c : Thread nD τ).loc main_arg2)) (m ((c : Thread nD τ).loc main_arg3))) (m ((c : Thread nD τ).loc main_arg4)) b s := by
  have hr := r.isLt
  funext k
  unfold zRow pairRow prodRow
  rw [coord_eq t]
  split_ifs with h1 h2
  · omega
  · exact blk4 m c t r k b _ hb (by simp; omega)
  · rw [blk2 m c t r (by omega) k b ⟨s.val, by omega⟩ hb hs, blk3 m c t r (by omega) k b ⟨s.val, by omega⟩ hb hs]
  · omega

/-- The second mixer's row of the block is that of the arrays. -/
theorem o_eq (b : Fin 4) (s : Fin 8448) (hb : b.val = t.val / 33) (hs : s.val = t.val % 33 * 256 + r.val) :
    selRow (grid0.coords t) (iblk m c 5 t) (iblk m c 6 t) r
      = pairRow (m ((c : Thread nD τ).loc main_arg5)) (m ((c : Thread nD τ).loc main_arg6)) b s := by
  have hr := r.isLt
  funext k
  unfold selRow pairRow
  rw [coord_eq t]
  split_ifs with h1 h2
  · omega
  · exact blk6 m c t r k b _ hb (by simp; omega)
  · exact blk5 m c t r (by omega) k b _ hb hs
  · omega

/-- The modulations' row of the block is the stream row's. -/
theorem mod_eq (b : Fin 4) (s : Fin 8448) (hb : b.val = t.val / 33) (hs : s.val = t.val % 33 * 256 + r.val) (k : Fin 6144) :
    iblk m c 7 t (ix3 0 0 k) = m ((c : Thread nD τ).loc main_arg7) (ix3 0 (modOf b s) k) := by
  have hr := r.isLt
  refine blk7 m c t k _ ?_
  unfold modOf
  split_ifs with h1 h2
  · omega
  · exact hb
  · rfl
  · omega

/-- What the body stores at row `r` of point `t`, over the argument arrays. -/
theorem out_eq (j : Fin 1024) (b : Fin 4) (s : Fin 8448) (hb : b.val = t.val / 33) (hs : s.val = t.val % 33 * 256 + r.val) :
    out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r j)
      = evenPost (pairRow (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) 0 b s j := by
  rw [out_apply]
  have e0 := stream_eq m c t r b s hb hs
  have e2 := z_eq m c t r b s hb hs
  have e3 := o_eq m c t r b s hb hs
  have e4 := funext fun k => mod_eq m c t r b s hb hs k
  have e5 := funext fun k => blk8 m c t k
  have e6 := funext fun k => funext fun n => blk9 m c t k n
  have e7 := funext fun k => funext fun n => blk10 m c t k n
  have e8 := funext fun k => funext fun n => blk11 m c t k n
  unfold evenPost
  rw [e0, e2, e3, e4, e5, e6, e7, e8]
end Blocks

/-- The result array after the run: the blocks tile it and each holds its part of `G`. -/
theorem final (c : Dev nD) : (dats m 0 c).arrAt 12 cfg0.N = G m c := by
  refine (dats m 0 c).arrAt_eq_of_covers 12 _ (by decide +kernel) fun t hf y => ?_
  blk_simp
  rw [after0_12]
  have ht := hN t
  idx_vars y
  obtain rfl : y0 = 0 := Subsingleton.elim _ _
  rw [out_eq m c t y1 y2 ⟨t.val / 33, by omega⟩ ⟨t.val % 33 * 256 + y1.val, by omega⟩ rfl rfl]
  have e : ((View.whole main_v5).slice (win0_12.rect t)).emb (ix3 0 y1 y2)
      = (ix3 ⟨t.val / 33, by omega⟩ ⟨t.val % 33 * 256 + y1.val, by omega⟩ y2 : S4x8448x1024.Idx) := by
    blk_ext [idx_facts t]
  rw [e]
  rfl

/-- The run, read: the result array at `G`, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c => ⟨(h c).1.trans (final m c), (h c).2⟩) (Value.run_blocks m ρ)

end Cert.Kernel2Ideal.EvenValue

end
-- ==== Proof.EvenRef.lean ====
/- The reference of the first layer's second half: its result as one function of the arguments. -/
module

public import proofs.«01_k».proof.Proof.Gen.Reference2Ideal.Read
public import proofs.«01_k».proof.Proof.EvenSpec

@[expose] public section

set_option maxRecDepth 16384

noncomputable section

namespace Cert.Reference2Ideal.EvenRef

open Cert.Reference2Ideal Cert.Reference2Ideal.Read Idealize.ShloMosaic Cert.Rows

variable (x0 : FVec Ideal S4x8192x1024 .f32) (x1 : FVec Ideal S4x256x1024 .f32) (x2 x3 : FVec Ideal S4x8192x512 .bf16)
  (x4 : FVec Ideal S4x256x512 .bf16) (x5 : FVec Ideal S4x8192x512 .bf16) (x6 : FVec Ideal S4x256x512 .bf16)
  (x7 : FVec Ideal S4x8x6144 .f32) (x8 : FVec Ideal S1024 .f32) (x9 : FVec Ideal S1024x1024 .f32)
  (x10 : FVec Ideal S1024x4096 .f32) (x11 : FVec Ideal S4096x1024 .f32)
  (b : Fin 4)

/-- The modulations of the latent rows. -/
theorem modL_apply (k : Fin 6144) : val_main_v12 (F := Ideal) x7 (ix3 b 0 k) = x7 (ix3 0 ⟨b.val, by omega⟩ k) := by
  unfold val_main_v12 val_main_v11 val_main_v10
  pointwise

/-- The modulations of the context's rows. -/
theorem modC_apply (k : Fin 6144) : val_main_v49 (F := Ideal) x7 (ix1 k) = x7 (ix3 0 4 k) := by
  unfold val_main_v49 val_main_v48
  pointwise

/-- The output projection of a latent row. -/
theorem projL_apply (s : Fin 8192) (j : Fin 1024) : val_main_v5 (F := Ideal) x2 x3 x5 x9 (ix3 b s j)
      = rowMul (cat (fun k => x2 (ix3 b s k) * x3 (ix3 b s k)) (fun k => x5 (ix3 b s k))) (fun k n => x9 (ix2 k n)) j := by
  rw [rowMul_cat]
  unfold val_main_v5 val_main_v4 val_main_v3 val_main_v2 val_main_v1 val_main_v0
  pointwise

/-- A latent row with the gated mixer row added. -/
theorem row1L_apply (s : Fin 8192) (j : Fin 1024) : val_main_v21 (F := Ideal) x0 x2 x3 x5 x7 x9 (ix3 b s j)
      = mixed (fun k => x0 (ix3 b s k)) (rowMul (cat (fun k => x2 (ix3 b s k) * x3 (ix3 b s k)) (fun k => x5 (ix3 b s k))) (fun k n => x9 (ix2 k n))) (fun k => x7 (ix3 0 ⟨b.val, by omega⟩ k)) j := by
  unfold val_main_v21 val_main_v20 val_main_v19 val_main_v15
  pointwise [projL_apply, modL_apply]
  rfl

/-- The feed-forward's input at a latent row. -/
theorem ffInL_apply (s : Fin 8192) (j : Fin 1024) : val_main_v40 (F := Ideal) x0 x2 x3 x5 x7 x8 x9 (ix3 b s j)
      = ffIn (mixed (fun k => x0 (ix3 b s k)) (rowMul (cat (fun k => x2 (ix3 b s k) * x3 (ix3 b s k)) (fun k => x5 (ix3 b s k))) (fun k n => x9 (ix2 k n))) (fun k => x7 (ix3 0 ⟨b.val, by omega⟩ k))) (fun k => x8 (ix1 k)) (fun k => x7 (ix3 0 ⟨b.val, by omega⟩ k)) j := by
  unfold val_main_v40 val_main_v39 val_main_v38 val_main_v37 val_main_v36 val_main_v35 val_main_cst_2 val_main_v34
    val_main_v33 val_main_v32 val_main_v31 val_main_v30 val_main_v29 val_main_v28 val_main_v27 val_main_cst_1
    val_main_v26 val_main_v25 val_main_cst_0 val_main_v24 val_main_v23 val_main_cst val_main_v22 val_main_v17
    val_main_v16
  pointwise [row1L_apply, modL_apply]
  rfl

/-- A latent row after the feed-forward. -/
theorem row2L_apply (s : Fin 8192) (j : Fin 1024) : val_main_v47 (F := Ideal) x0 x2 x3 x5 x7 x8 x9 x10 x11 (ix3 b s j)
      = postRow (fun k => x0 (ix3 b s k)) (rowMul (cat (fun k => x2 (ix3 b s k) * x3 (ix3 b s k)) (fun k => x5 (ix3 b s k))) (fun k n => x9 (ix2 k n))) (fun k => x7 (ix3 0 ⟨b.val, by omega⟩ k)) (fun k => x8 (ix1 k)) (fun k f => x10 (ix2 k f)) (fun f n => x11 (ix2 f n)) j := by
  unfold val_main_v47 val_main_v46 val_main_v45 val_main_v44 val_main_v43 val_main_v42 val_main_call0_v0
    val_main_call0_cst val_main_v41 val_main_v18
  pointwise [row1L_apply, ffInL_apply, modL_apply]
  rfl

/-- The output projection of a context row. -/
theorem projC_apply (s : Fin 256) (j : Fin 1024) : val_main_v9 (F := Ideal) x4 x6 x9 (ix3 b s j)
      = rowMul (cat (fun k => x4 (ix3 b s k)) (fun k => x6 (ix3 b s k))) (fun k n => x9 (ix2 k n)) j := by
  rw [rowMul_cat]
  unfold val_main_v9 val_main_v8 val_main_v7 val_main_v6
  pointwise

/-- A context row with the gated mixer row added. -/
theorem row1C_apply (s : Fin 256) (j : Fin 1024) : val_main_v59 (F := Ideal) x1 x4 x6 x7 x9 (ix3 b s j)
      = mixed (fun k => x1 (ix3 b s k)) (rowMul (cat (fun k => x4 (ix3 b s k)) (fun k => x6 (ix3 b s k))) (fun k n => x9 (ix2 k n))) (fun k => x7 (ix3 0 4 k)) j := by
  unfold val_main_v59 val_main_v58 val_main_v57 val_main_v56 val_main_v52
  pointwise [projC_apply, modC_apply]
  rfl

/-- The feed-forward's input at a context row. -/
theorem ffInC_apply (s : Fin 256) (j : Fin 1024) : val_main_v80 (F := Ideal) x1 x4 x6 x7 x8 x9 (ix3 b s j)
      = ffIn (mixed (fun k => x1 (ix3 b s k)) (rowMul (cat (fun k => x4 (ix3 b s k)) (fun k => x6 (ix3 b s k))) (fun k n => x9 (ix2 k n))) (fun k => x7 (ix3 0 4 k))) (fun k => x8 (ix1 k)) (fun k => x7 (ix3 0 4 k)) j := by
  unfold val_main_v80 val_main_v79 val_main_v78 val_main_v77 val_main_v76 val_main_v75 val_main_v74 val_main_v73
    val_main_cst_6 val_main_v72 val_main_v71 val_main_v70 val_main_v69 val_main_v68 val_main_v67 val_main_v66
    val_main_v65 val_main_cst_5 val_main_v64 val_main_v63 val_main_cst_4 val_main_v62 val_main_v61 val_main_cst_3
    val_main_v60 val_main_v54 val_main_v53
  pointwise [row1C_apply, modC_apply]
  rfl

/-- A context row after the feed-forward. -/
theorem row2C_apply (s : Fin 256) (j : Fin 1024) : val_main_v88 (F := Ideal) x1 x4 x6 x7 x8 x9 x10 x11 (ix3 b s j)
      = postRow (fun k => x1 (ix3 b s k)) (rowMul (cat (fun k => x4 (ix3 b s k)) (fun k => x6 (ix3 b s k))) (fun k n => x9 (ix2 k n))) (fun k => x7 (ix3 0 4 k)) (fun k => x8 (ix1 k)) (fun k f => x10 (ix2 k f)) (fun f n => x11 (ix2 f n)) j := by
  unfold val_main_v88 val_main_v87 val_main_v86 val_main_v85 val_main_v84 val_main_v83 val_main_v82 val_main_call1_v0
    val_main_call1_cst val_main_v81 val_main_v55
  pointwise [row1C_apply, ffInC_apply, modC_apply]
  rfl

/-- The reference's result. -/
theorem result_eq : val_main_v89 (F := Ideal) x0 x1 x2 x3 x4 x5 x6 x7 x8 x9 x10 x11
    = fun i : (⟨3, ![4, 8448, 1024]⟩ : Shape).Idx => evenPost (pairRow x0 x1) x2 x3 x4 x5 x6 x7 x8 x9 x10 x11 0 (i 0) (i 1) (i 2) := by
  funext i
  idx_vars i
  unfold val_main_v89
  by_cases h : i1.val < 8192
  · pointwise [row2L_apply, h]
    simp [evenPost, pairRow_lat _ _ _ _ h, prodRow, modOf, h]
  · pointwise [row2C_apply, h]
    simp [evenPost, pairRow_ctx _ _ _ _ h, modOf, h]

end Cert.Reference2Ideal.EvenRef

end
-- ==== Proof.EvenClaims.lean ====
/- The claims about the first layer's second half. -/
module

public import proofs.«01_k».proof.Defs
public import proofs.«01_k».proof.Proof.Gen.Kernel2.Frame
public import proofs.«01_k».proof.Proof.EvenValue
public import proofs.«01_k».proof.Proof.EvenRef
public import proofs.«01_k».proof.Proof.Gen.Reference2Ideal.Run
public import Idealize.ShloMosaic.Lib.Quiescent

@[expose] public section

noncomputable section

namespace Cert.Proof.Even

open Idealize.ShloMosaic Idealize.ShloMosaic.TcCoe Idealize.SL.Sem

/-- The kernel runs, leaves its arguments and returns every counter to zero. -/
theorem frame_k : Cert.quiescent_Kernel2 := fun m ρ _ => Cert.Kernel2.Gen.frame m ρ

/-- The same of its idealization. -/
theorem frame_ki : Cert.quiescent_Kernel2Ideal := fun m ρ _ => Cert.Kernel2Ideal.Gen.frame m ρ

/-- The reference runs and leaves its arguments; it declares no semaphore. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Idealization rewrote nothing. -/
theorem preserves : Cert.preserves_Kernel2_Kernel2Ideal := trivial

/-- Over the extended reals the kernel's result is the reference's, on all arguments. -/
theorem algebraic : Cert.algebraic_Kernel2Ideal_Reference2Ideal := by
  intro m ρ m' ρ' _ hag
  refine ⟨fun c => Cert.Kernel2Ideal.EvenValue.G m c, Cert.Kernel2Ideal.EvenValue.run m ρ, ?_⟩
  refine (θ_run Cert.Reference2Ideal.defs _ _).mono (fun _ h c => ⟨(h c).1.trans ?_, (h c).2⟩)
    (Cert.Reference2Ideal.Value.run (F := Ideal) m' ρ')
  obtain ⟨a0, a1, a2, a3, a4, a5, a6, a7, a8, a9, a10, a11⟩ := hag c
  refine (Cert.Reference2Ideal.Read.val_main_v89_eq m' c).trans ?_
  rw [a0, a1, a2, a3, a4, a5, a6, a7, a8, a9, a10, a11]
  exact Cert.Reference2Ideal.EvenRef.result_eq _ _ _ _ _ _ _ _ _ _ _ _

end Cert.Proof.Even

end
-- ==== Proof.EvenRows4.lean ====
/- The kernel of the third layer's second half: what the body stores, read at an index. -/
module

public import proofs.«01_k».proof.Proof.Gen.Kernel4Ideal.Value
public import proofs.«01_k».proof.Proof.Rows

@[expose] public section

set_option maxRecDepth 16384

noncomputable section

namespace Cert.Kernel4Ideal.EvenRows

open Cert.Kernel4Ideal Cert.Kernel4Ideal.Gen Idealize.ShloMosaic Cert.Rows

variable (i : grid0.Coords) (x0 x1 : Vec Ideal S1x256x1024 .f32) (x2 x3 x4 x5 x6 : Vec Ideal S1x256x512 .bf16)
  (x7 : Vec Ideal S1x1x6144 .f32) (x8 : Vec Ideal S1x1024 .f32) (x9 : Vec Ideal S1024x1024 .bf16)
  (x10 : Vec Ideal S1024x4096 .bf16) (x11 : Vec Ideal S4096x1024 .bf16)

/-- The first mixer's row `r` of the block: a product in the latent tiles, given in the context's. -/
def zRow (i : grid0.Coords) (x2 x3 x4 : Vec Ideal S1x256x512 .bf16) (r : Fin 256) (k : Fin 512) : EReal :=
  if 32 ≤ (i 1).val then x4 (ix3 0 r k) else x2 (ix3 0 r k) * x3 (ix3 0 r k)

/-- Row `r` of the block chosen by the tile. -/
def selRow {n : ℕ} (i : grid0.Coords) (lat ctx : (⟨3, ![1, 256, n]⟩ : Shape).Idx → EReal) (r : Fin 256) (k : Fin n) : EReal :=
  if 32 ≤ (i 1).val then ctx (ix3 0 r k) else lat (ix3 0 r k)

/-- The tile's comparison. -/
theorem cmp_eq : Scalar.cmpi .sge (BitVec.ofNat 32 (i 1).val) 32#32 = if 32 ≤ (i 1).val then 1#1 else 0#1 :=
  sge_32 _ (i 1).isLt

/-- The output projection of the two mixers' rows. -/
theorem pay9_apply (r : Fin 256) (j : Fin 1024) :
    k0_pay9 i x0 x1 x2 x3 x4 x5 x6 x7 x8 x9 x10 x11 (ix2 r j)
      = rowMul (cat (zRow i x2 x3 x4 r) (selRow i x5 x6 r)) (fun k n => x9 (ix2 k n)) j := by
  rw [rowMul_cat]
  unfold k0_pay9 zRow selRow
  have h := cmp_eq i
  split_ifs at h ⊢ with hi <;> (pointwise [k0_pay2, r0_0, r0_1, r0_2, h]) <;> rfl

/-- The modulations of the point. -/
theorem pay10_apply (k : Fin 6144) : k0_pay10 i x0 x1 x2 x3 x4 x5 x6 x7 x8 x9 x10 x11 (ix2 0 k) = x7 (ix3 0 0 k) := by
  unfold k0_pay10
  pointwise [k0_pay3, r0_3]

/-- The stream's row with the gated mixer row added. -/
def row1 (i : grid0.Coords) (x0 x1 : Vec Ideal S1x256x1024 .f32) (x2 x3 x4 x5 x6 : Vec Ideal S1x256x512 .bf16)
    (x7 : Vec Ideal S1x1x6144 .f32) (x9 : Vec Ideal S1024x1024 .bf16) (r : Fin 256) : Fin 1024 → EReal :=
  mixed (selRow i x0 x1 r) (rowMul (cat (zRow i x2 x3 x4 r) (selRow i x5 x6 r)) (fun k n => x9 (ix2 k n)))
    (fun k => x7 (ix3 0 0 k))

/-- The stream after the mixers, as the body computes it. -/
def st (i : grid0.Coords) (x0 x1 : Vec Ideal S1x256x1024 .f32) (x2 x3 x4 x5 x6 : Vec Ideal S1x256x512 .bf16)
    (x7 : Vec Ideal S1x1x6144 .f32) (x8 : Vec Ideal S1x1024 .f32) (x9 : Vec Ideal S1024x1024 .bf16)
    (x10 : Vec Ideal S1024x4096 .bf16) (x11 : Vec Ideal S4096x1024 .bf16) : FVec Ideal S256x1024 .f32 :=
  k0_pay5 (k0_pay9 i x0 x1 x2 x3 x4 x5 x6 x7 x8 x9 x10 x11) (k0_pay10 i x0 x1 x2 x3 x4 x5 x6 x7 x8 x9 x10 x11) (Scalar.cmpi .sge (BitVec.ofNat 32 (i 1).val) 32#32)
    (k0_pay11 i x0 x1 x2 x3 x4 x5 x6 x7 x8 x9 x10 x11) (View.ld x0 r0_4)

/-- It is `row1` row by row. -/
theorem st_apply (r : Fin 256) (j : Fin 1024) :
    st i x0 x1 x2 x3 x4 x5 x6 x7 x8 x9 x10 x11 (ix2 r j) = row1 i x0 x1 x2 x3 x4 x5 x6 x7 x9 r j := by
  unfold st row1 mixed k0_pay11
  conv_rhs => unfold selRow
  have h := cmp_eq i
  split_ifs at h ⊢ with hi <;> (pointwise [k0_pay5, k0_pay4, r0_4, h, pay9_apply, pay10_apply]) <;>
    (unfold selRow; simp only [hi]) <;> rfl

/-- The feed-forward's input. -/
theorem pay6_apply (r : Fin 256) (j : Fin 1024) :
    k0_pay6 (k0_pay9 i x0 x1 x2 x3 x4 x5 x6 x7 x8 x9 x10 x11) (k0_pay10 i x0 x1 x2 x3 x4 x5 x6 x7 x8 x9 x10 x11) (Scalar.cmpi .sge (BitVec.ofNat 32 (i 1).val) 32#32)
        (k0_pay11 i x0 x1 x2 x3 x4 x5 x6 x7 x8 x9 x10 x11) (View.ld x0 r0_4) (View.ld x8 r0_5) (ix2 r j)
      = ffIn (row1 i x0 x1 x2 x3 x4 x5 x6 x7 x9 r) (fun k => x8 (ix2 0 k)) (fun k => x7 (ix3 0 0 k)) j := by
  have h (k : Fin 1024) := st_apply i x0 x1 x2 x3 x4 x5 x6 x7 x8 x9 x10 x11 r k
  unfold st at h
  unfold k0_pay6
  pointwise [r0_5, h, pay10_apply]
  rfl

/-- The feed-forward's first quarter. -/
theorem pay7_apply (r : Fin 256) (j : Fin 1024) :
    k0_pay7 (k0_pay9 i x0 x1 x2 x3 x4 x5 x6 x7 x8 x9 x10 x11) (k0_pay10 i x0 x1 x2 x3 x4 x5 x6 x7 x8 x9 x10 x11) (Scalar.cmpi .sge (BitVec.ofNat 32 (i 1).val) 32#32)
        (k0_pay11 i x0 x1 x2 x3 x4 x5 x6 x7 x8 x9 x10 x11) (View.ld x0 r0_4) (View.ld x8 r0_5) (View.ld x10 r0_6) (View.ld x11 r0_7) (ix2 r j)
      = ∑ f : Fin 1024, relu2 (∑ k : Fin 1024, ffIn (row1 i x0 x1 x2 x3 x4 x5 x6 x7 x9 r) (fun k => x8 (ix2 0 k))
          (fun k => x7 (ix3 0 0 k)) k * x10 (ix2 k ⟨f.val, by omega⟩)) * x11 (ix2 ⟨f.val, by omega⟩ j) := by
  unfold k0_pay7
  pointwise [r0_6, r0_7, pay6_apply]
  rfl

/-- What the body stores at row `r`, element `j`: the layer's second half on that row. -/
theorem out_apply (r : Fin 256) (j : Fin 1024) :
    out0_12 i x0 x1 x2 x3 x4 x5 x6 x7 x8 x9 x10 x11 (ix3 0 r j)
      = postRow (selRow i x0 x1 r) (rowMul (cat (zRow i x2 x3 x4 r) (selRow i x5 x6 r)) (fun k n => x9 (ix2 k n)))
          (fun k => x7 (ix3 0 0 k)) (fun k => x8 (ix2 0 k)) (fun k f => x10 (ix2 k f)) (fun f n => x11 (ix2 f n)) j := by
  have hz : (![0, 0, 0] : Fin 3 → Nat) = fun _ => 0 := funext fun a => by fin_cases a <;> rfl
  have h (k : Fin 1024) := st_apply i x0 x1 x2 x3 x4 x5 x6 x7 x8 x9 x10 x11 r k
  unfold st at h
  unfold out0_12
  rw [View.canon_unit_zero hz]
  unfold postRow ff rowMul
  rw [sum_quarters]
  pointwise [k0_pay1, k0_pay8, r0_8, r0_9, r0_10, r0_11, r0_12, r0_13, h, pay10_apply, pay6_apply, pay7_apply]
  rfl

end Cert.Kernel4Ideal.EvenRows

end
-- ==== Proof.EvenValue4.lean ====
/- The kernel of the third layer's second half: its result array as one function of the arguments. -/
module

public import proofs.«01_k».proof.Proof.EvenRows4
public import proofs.«01_k».proof.Proof.EvenSpec
public import Idealize.ShloMosaic.Lib.Pipeline.ValueKit
public import Idealize.ShloMosaic.Lib.Claim

@[expose] public section

set_option maxRecDepth 16384

noncomputable section

namespace Cert.Kernel4Ideal.EvenValue

open Cert.Kernel4Ideal Cert.Kernel4Ideal.Gen Cert.Kernel4Ideal.EvenRows Idealize.ShloMosaic Idealize.ShloMosaic.TcCoe
  Idealize.SL.Sem Cert.Rows
open Idealize.ShloMosaic.Pipeline (Dat)

variable (m : (ℓ : Loc nD τ sig) → Buf (Elt Ideal) ℓ) (ρ : Dev nD → PrngReg)

/-- The second grid coordinate is the point's number modulo 33. -/
theorem coord_eq : ∀ t : Fin cfg0.N, (grid0.coords t 1).val = t.val % 33 :=
  (by decide +kernel : ∀ t : Fin grid0.N, _)

/-- Where each window's block lies at each point. -/
theorem idx_facts : ∀ t : Fin cfg0.N, win0_0.index t = ![t.val / 33, min (t.val % 33) 31, 0]
    ∧ win0_1.index t = ![t.val / 33, 32, 0]
    ∧ win0_2.index t = ![t.val / 33, min (t.val % 33) 31, 0]
    ∧ win0_3.index t = ![t.val / 33, min (t.val % 33) 31, 0]
    ∧ win0_4.index t = ![t.val / 33, 0, 0]
    ∧ win0_5.index t = ![t.val / 33, min (t.val % 33) 31, 0]
    ∧ win0_6.index t = ![t.val / 33, 0, 0]
    ∧ win0_7.index t = ![16 + (if 32 ≤ t.val % 33 then 4 else t.val / 33), 0, 0]
    ∧ win0_8.index t = ![0, 0]
    ∧ win0_9.index t = ![0, 0]
    ∧ win0_10.index t = ![0, 0]
    ∧ win0_11.index t = ![0, 0]
    ∧ win0_12.index t = ![t.val / 33, t.val % 33, 0] :=
  (by decide +kernel : ∀ t : Fin grid0.N, _)

/-- What the result array of device `c` is shown to hold. -/
abbrev G (c : Dev nD) : Buf (Elt Ideal) ((c : Thread nD τ).loc main_v5) := fun i : (⟨3, ![4, 8448, 1024]⟩ : Shape).Idx =>
  evenPost (fun b s k => m ((c : Thread nD τ).loc main_arg0) (ix3 b s k)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) 2 (i 0) (i 1) (i 2)

section Blocks
variable (c : Dev nD) (t : Fin cfg0.N) (r : Fin 256)

/-- The grid has 132 points. -/
theorem hN : t.val < 132 := t.isLt

/-- Window 0's block at a latent tile. -/
theorem blk0 (hi : t.val % 33 < 32) (k : Fin 1024) (b : Fin 4) (s : Fin 8448) (hb : b.val = t.val / 33)
    (hs : s.val = t.val % 33 * 256 + r.val) :
    iblk m c 0 t (ix3 0 r k) = m ((c : Thread nD τ).loc main_arg0) (ix3 b s k) := by
  blk_ext [iblk, V, idx_facts t]

/-- Window 1's block. -/
theorem blk1 (k : Fin 1024) (b : Fin 4) (s : Fin 8448) (hb : b.val = t.val / 33) (hs : s.val = 8192 + r.val) :
    iblk m c 1 t (ix3 0 r k) = m ((c : Thread nD τ).loc main_arg0) (ix3 b s k) := by
  blk_ext [iblk, V, idx_facts t]

/-- Window 2's block at a latent tile. -/
theorem blk2 (hi : t.val % 33 < 32) (k : Fin 512) (b : Fin 4) (s : Fin 8192) (hb : b.val = t.val / 33)
    (hs : s.val = t.val % 33 * 256 + r.val) :
    iblk m c 2 t (ix3 0 r k) = m ((c : Thread nD τ).loc main_arg1) (ix3 b s k) := by
  blk_ext [iblk, V, idx_facts t]

/-- Window 3's block at a latent tile. -/
theorem blk3 (hi : t.val % 33 < 32) (k : Fin 512) (b : Fin 4) (s : Fin 8192) (hb : b.val = t.val / 33)
    (hs : s.val = t.val % 33 * 256 + r.val) :
    iblk m c 3 t (ix3 0 r k) = m ((c : Thread nD τ).loc main_arg2) (ix3 b s k) := by
  blk_ext [iblk, V, idx_facts t]

/-- Window 4's block. -/
theorem blk4 (k : Fin 512) (b : Fin 4) (s : Fin 256) (hb : b.val = t.val / 33) (hs : s.val = r.val) :
    iblk m c 4 t (ix3 0 r k) = m ((c : Thread nD τ).loc main_arg3) (ix3 b s k) := by
  blk_ext [iblk, V, idx_facts t]

/-- Window 5's block at a latent tile. -/
theorem blk5 (hi : t.val % 33 < 32) (k : Fin 512) (b : Fin 4) (s : Fin 8192) (hb : b.val = t.val / 33)
    (hs : s.val = t.val % 33 * 256 + r.val) :
    iblk m c 5 t (ix3 0 r k) = m ((c : Thread nD τ).loc main_arg4) (ix3 b s k) := by
  blk_ext [iblk, V, idx_facts t]

/-- Window 6's block. -/
theorem blk6 (k : Fin 512) (b : Fin 4) (s : Fin 256) (hb : b.val = t.val / 33) (hs : s.val = r.val) :
    iblk m c 6 t (ix3 0 r k) = m ((c : Thread nD τ).loc main_arg5) (ix3 b s k) := by
  blk_ext [iblk, V, idx_facts t]

/-- The modulations' block. -/
theorem blk7 (k : Fin 6144) (q : Fin 8) (hq : q.val = if 32 ≤ t.val % 33 then 4 else t.val / 33) :
    iblk m c 7 t (ix3 0 0 k) = m ((c : Thread nD τ).loc main_arg6) (ix3 2 q k) := by
  have := hN t
  blk_ext! [iblk, V, idx_facts t] <;> (split_ifs at hq ⊢ <;> omega)

/-- The norm's gain. -/
theorem blk8 (k : Fin 1024) : iblk m c 8 t (ix2 0 k) = m ((c : Thread nD τ).loc main_arg7) (ix1 k) := by
  blk_ext! [iblk, V, idx_facts t]

/-- Window 9's block. -/
theorem blk9 (k : Fin 1024) (n : Fin 1024) : iblk m c 9 t (ix2 k n) = m ((c : Thread nD τ).loc main_arg8) (ix2 k n) := by
  blk_ext! [iblk, V, idx_facts t]

/-- Window 10's block. -/
theorem blk10 (k : Fin 1024) (n : Fin 4096) : iblk m c 10 t (ix2 k n) = m ((c : Thread nD τ).loc main_arg9) (ix2 k n) := by
  blk_ext! [iblk, V, idx_facts t]

/-- Window 11's block. -/
theorem blk11 (k : Fin 4096) (n : Fin 1024) : iblk m c 11 t (ix2 k n) = m ((c : Thread nD τ).loc main_arg10) (ix2 k n) := by
  blk_ext! [iblk, V, idx_facts t]

/-- The stream's row of the block is that of the arrays. -/
theorem stream_eq (b : Fin 4) (s : Fin 8448) (hb : b.val = t.val / 33) (hs : s.val = t.val % 33 * 256 + r.val) :
    selRow (grid0.coords t) (iblk m c 0 t) (iblk m c 1 t) r = fun k => m ((c : Thread nD τ).loc main_arg0) (ix3 b s k) := by
  have hr := r.isLt
  funext k
  unfold selRow
  rw [coord_eq t]
  split_ifs with h1
  · exact blk1 m c t r k b s hb (by omega)
  · exact blk0 m c t r (by omega) k b s hb hs

/-- The first mixer's row of the block is that of the arrays. -/
theorem z_eq (b : Fin 4) (s : Fin 8448) (hb : b.val = t.val / 33) (hs : s.val = t.val % 33 * 256 + r.val) :
    zRow (grid0.coords t) (iblk m c 2 t) (iblk m c 3 t) (iblk m c 4 t) r
      = pairRow (prodRow (m ((c : Thread nD τ).loc main_arg1)) (m ((c : Thread nD τ).loc main_arg2))) (m ((c : Thread nD τ).loc main_arg3)) b s := by
  have hr := r.isLt
  funext k
  unfold zRow pairRow prodRow
  rw [coord_eq t]
  split_ifs with h1 h2
  · omega
  · exact blk4 m c t r k b _ hb (by simp; omega)
  · rw [blk2 m c t r (by omega) k b ⟨s.val, by omega⟩ hb hs, blk3 m c t r (by omega) k b ⟨s.val, by omega⟩ hb hs]
  · omega

/-- The second mixer's row of the block is that of the arrays. -/
theorem o_eq (b : Fin 4) (s : Fin 8448) (hb : b.val = t.val / 33) (hs : s.val = t.val % 33 * 256 + r.val) :
    selRow (grid0.coords t) (iblk m c 5 t) (iblk m c 6 t) r
      = pairRow (m ((c : Thread nD τ).loc main_arg4)) (m ((c : Thread nD τ).loc main_arg5)) b s := by
  have hr := r.isLt
  funext k
  unfold selRow pairRow
  rw [coord_eq t]
  split_ifs with h1 h2
  · omega
  · exact blk6 m c t r k b _ hb (by simp; omega)
  · exact blk5 m c t r (by omega) k b _ hb hs
  · omega

/-- The modulations' row of the block is the stream row's. -/
theorem mod_eq (b : Fin 4) (s : Fin 8448) (hb : b.val = t.val / 33) (hs : s.val = t.val % 33 * 256 + r.val) (k : Fin 6144) :
    iblk m c 7 t (ix3 0 0 k) = m ((c : Thread nD τ).loc main_arg6) (ix3 2 (modOf b s) k) := by
  have hr := r.isLt
  refine blk7 m c t k _ ?_
  unfold modOf
  split_ifs with h1 h2
  · omega
  · exact hb
  · rfl
  · omega

/-- What the body stores at row `r` of point `t`, over the argument arrays. -/
theorem out_eq (j : Fin 1024) (b : Fin 4) (s : Fin 8448) (hb : b.val = t.val / 33) (hs : s.val = t.val % 33 * 256 + r.val) :
    out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 0 r j)
      = evenPost (fun b s k => m ((c : Thread nD τ).loc main_arg0) (ix3 b s k)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) 2 b s j := by
  rw [out_apply]
  have e0 := stream_eq m c t r b s hb hs
  have e2 := z_eq m c t r b s hb hs
  have e3 := o_eq m c t r b s hb hs
  have e4 := funext fun k => mod_eq m c t r b s hb hs k
  have e5 := funext fun k => blk8 m c t k
  have e6 := funext fun k => funext fun n => blk9 m c t k n
  have e7 := funext fun k => funext fun n => blk10 m c t k n
  have e8 := funext fun k => funext fun n => blk11 m c t k n
  unfold evenPost
  rw [e0, e2, e3, e4, e5, e6, e7, e8]
end Blocks

/-- The result array after the run: the blocks tile it and each holds its part of `G`. -/
theorem final (c : Dev nD) : (dats m 0 c).arrAt 12 cfg0.N = G m c := by
  refine (dats m 0 c).arrAt_eq_of_covers 12 _ (by decide +kernel) fun t hf y => ?_
  blk_simp
  rw [after0_12]
  have ht := hN t
  idx_vars y
  obtain rfl : y0 = 0 := Subsingleton.elim _ _
  rw [out_eq m c t y1 y2 ⟨t.val / 33, by omega⟩ ⟨t.val % 33 * 256 + y1.val, by omega⟩ rfl rfl]
  have e : ((View.whole main_v5).slice (win0_12.rect t)).emb (ix3 0 y1 y2)
      = (ix3 ⟨t.val / 33, by omega⟩ ⟨t.val % 33 * 256 + y1.val, by omega⟩ y2 : S4x8448x1024.Idx) := by
    blk_ext [idx_facts t]
  rw [e]
  rfl

/-- The run, read: the result array at `G`, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (Value.run_blocks m ρ)

end Cert.Kernel4Ideal.EvenValue

end
-- ==== Proof.EvenRef4.lean ====
/- The reference of the third layer's second half: its result as one function of the arguments. -/
module

public import proofs.«01_k».proof.Proof.Gen.Reference4Ideal.Read
public import proofs.«01_k».proof.Proof.EvenSpec

@[expose] public section

set_option maxRecDepth 16384

noncomputable section

namespace Cert.Reference4Ideal.EvenRef

open Cert.Reference4Ideal Cert.Reference4Ideal.Read Idealize.ShloMosaic Cert.Rows

variable (x0 : FVec Ideal S4x8448x1024 .f32) (x1 x2 : FVec Ideal S4x8192x512 .bf16)
  (x3 : FVec Ideal S4x256x512 .bf16) (x4 : FVec Ideal S4x8192x512 .bf16) (x5 : FVec Ideal S4x256x512 .bf16)
  (x6 : FVec Ideal S4x8x6144 .f32) (x7 : FVec Ideal S1024 .f32) (x8 : FVec Ideal S1024x1024 .f32)
  (x9 : FVec Ideal S1024x4096 .f32) (x10 : FVec Ideal S4096x1024 .f32)
  (b : Fin 4)

/-- The modulations of the latent rows. -/
theorem modL_apply (k : Fin 6144) : val_main_v13 (F := Ideal) x6 (ix3 b 0 k) = x6 (ix3 2 ⟨b.val, by omega⟩ k) := by
  unfold val_main_v13 val_main_v12 val_main_v11
  pointwise

/-- The modulations of the context's rows. -/
theorem modC_apply (k : Fin 6144) : val_main_v51 (F := Ideal) x6 (ix1 k) = x6 (ix3 2 4 k) := by
  unfold val_main_v51 val_main_v50
  pointwise

/-- The output projection of a latent row. -/
theorem projL_apply (s : Fin 8192) (j : Fin 1024) : val_main_v5 (F := Ideal) x1 x2 x4 x8 (ix3 b s j)
      = rowMul (cat (fun k => x1 (ix3 b s k) * x2 (ix3 b s k)) (fun k => x4 (ix3 b s k))) (fun k n => x8 (ix2 k n)) j := by
  rw [rowMul_cat]
  unfold val_main_v5 val_main_v4 val_main_v3 val_main_v2 val_main_v1 val_main_v0
  pointwise

/-- A latent row with the gated mixer row added. -/
theorem row1L_apply (s : Fin 8192) (j : Fin 1024) : val_main_v22 (F := Ideal) x0 x1 x2 x4 x6 x8 (ix3 b s j)
      = mixed (fun k => x0 (ix3 b ⟨s.val, by omega⟩ k)) (rowMul (cat (fun k => x1 (ix3 b s k) * x2 (ix3 b s k)) (fun k => x4 (ix3 b s k))) (fun k n => x8 (ix2 k n))) (fun k => x6 (ix3 2 ⟨b.val, by omega⟩ k)) j := by
  unfold val_main_v22 val_main_v21 val_main_v20 val_main_v16 val_main_v10
  pointwise [projL_apply, modL_apply]
  rfl

/-- The feed-forward's input at a latent row. -/
theorem ffInL_apply (s : Fin 8192) (j : Fin 1024) : val_main_v41 (F := Ideal) x0 x1 x2 x4 x6 x7 x8 (ix3 b s j)
      = ffIn (mixed (fun k => x0 (ix3 b ⟨s.val, by omega⟩ k)) (rowMul (cat (fun k => x1 (ix3 b s k) * x2 (ix3 b s k)) (fun k => x4 (ix3 b s k))) (fun k n => x8 (ix2 k n))) (fun k => x6 (ix3 2 ⟨b.val, by omega⟩ k))) (fun k => x7 (ix1 k)) (fun k => x6 (ix3 2 ⟨b.val, by omega⟩ k)) j := by
  unfold val_main_v41 val_main_v40 val_main_v39 val_main_v38 val_main_v37 val_main_v36 val_main_cst_2 val_main_v35
    val_main_v34 val_main_v33 val_main_v32 val_main_v31 val_main_v30 val_main_v29 val_main_v28 val_main_cst_1
    val_main_v27 val_main_v26 val_main_cst_0 val_main_v25 val_main_v24 val_main_cst val_main_v23 val_main_v18
    val_main_v17
  pointwise [row1L_apply, modL_apply]
  rfl

/-- A latent row after the feed-forward. -/
theorem row2L_apply (s : Fin 8192) (j : Fin 1024) : val_main_v48 (F := Ideal) x0 x1 x2 x4 x6 x7 x8 x9 x10 (ix3 b s j)
      = postRow (fun k => x0 (ix3 b ⟨s.val, by omega⟩ k)) (rowMul (cat (fun k => x1 (ix3 b s k) * x2 (ix3 b s k)) (fun k => x4 (ix3 b s k))) (fun k n => x8 (ix2 k n))) (fun k => x6 (ix3 2 ⟨b.val, by omega⟩ k)) (fun k => x7 (ix1 k)) (fun k f => x9 (ix2 k f)) (fun f n => x10 (ix2 f n)) j := by
  unfold val_main_v48 val_main_v47 val_main_v46 val_main_v45 val_main_v44 val_main_v43 val_main_call0_v0
    val_main_call0_cst val_main_v42 val_main_v19
  pointwise [row1L_apply, ffInL_apply, modL_apply]
  rfl

/-- The output projection of a context row. -/
theorem projC_apply (s : Fin 256) (j : Fin 1024) : val_main_v9 (F := Ideal) x3 x5 x8 (ix3 b s j)
      = rowMul (cat (fun k => x3 (ix3 b s k)) (fun k => x5 (ix3 b s k))) (fun k n => x8 (ix2 k n)) j := by
  rw [rowMul_cat]
  unfold val_main_v9 val_main_v8 val_main_v7 val_main_v6
  pointwise

/-- A context row with the gated mixer row added. -/
theorem row1C_apply (s : Fin 256) (j : Fin 1024) : val_main_v61 (F := Ideal) x0 x3 x5 x6 x8 (ix3 b s j)
      = mixed (fun k => x0 (ix3 b ⟨8192 + s.val, by omega⟩ k)) (rowMul (cat (fun k => x3 (ix3 b s k)) (fun k => x5 (ix3 b s k))) (fun k n => x8 (ix2 k n))) (fun k => x6 (ix3 2 4 k)) j := by
  unfold val_main_v61 val_main_v60 val_main_v59 val_main_v58 val_main_v54 val_main_v49
  pointwise [projC_apply, modC_apply]
  rfl

/-- The feed-forward's input at a context row. -/
theorem ffInC_apply (s : Fin 256) (j : Fin 1024) : val_main_v82 (F := Ideal) x0 x3 x5 x6 x7 x8 (ix3 b s j)
      = ffIn (mixed (fun k => x0 (ix3 b ⟨8192 + s.val, by omega⟩ k)) (rowMul (cat (fun k => x3 (ix3 b s k)) (fun k => x5 (ix3 b s k))) (fun k n => x8 (ix2 k n))) (fun k => x6 (ix3 2 4 k))) (fun k => x7 (ix1 k)) (fun k => x6 (ix3 2 4 k)) j := by
  unfold val_main_v82 val_main_v81 val_main_v80 val_main_v79 val_main_v78 val_main_v77 val_main_v76 val_main_v75
    val_main_cst_6 val_main_v74 val_main_v73 val_main_v72 val_main_v71 val_main_v70 val_main_v69 val_main_v68
    val_main_v67 val_main_cst_5 val_main_v66 val_main_v65 val_main_cst_4 val_main_v64 val_main_v63 val_main_cst_3
    val_main_v62 val_main_v56 val_main_v55
  pointwise [row1C_apply, modC_apply]
  rfl

/-- A context row after the feed-forward. -/
theorem row2C_apply (s : Fin 256) (j : Fin 1024) : val_main_v90 (F := Ideal) x0 x3 x5 x6 x7 x8 x9 x10 (ix3 b s j)
      = postRow (fun k => x0 (ix3 b ⟨8192 + s.val, by omega⟩ k)) (rowMul (cat (fun k => x3 (ix3 b s k)) (fun k => x5 (ix3 b s k))) (fun k n => x8 (ix2 k n))) (fun k => x6 (ix3 2 4 k)) (fun k => x7 (ix1 k)) (fun k f => x9 (ix2 k f)) (fun f n => x10 (ix2 f n)) j := by
  unfold val_main_v90 val_main_v89 val_main_v88 val_main_v87 val_main_v86 val_main_v85 val_main_v84 val_main_call1_v0
    val_main_call1_cst val_main_v83 val_main_v57
  pointwise [row1C_apply, ffInC_apply, modC_apply]
  rfl

/-- The reference's result. -/
theorem result_eq : val_main_v91 (F := Ideal) x0 x1 x2 x3 x4 x5 x6 x7 x8 x9 x10
    = fun i : (⟨3, ![4, 8448, 1024]⟩ : Shape).Idx => evenPost (fun b s k => x0 (ix3 b s k)) x1 x2 x3 x4 x5 x6 x7 x8 x9 x10 2 (i 0) (i 1) (i 2) := by
  funext i
  idx_vars i
  unfold val_main_v91
  by_cases h : i1.val < 8192
  · pointwise [row2L_apply, h]
    simp [evenPost, pairRow_lat _ _ _ _ h, prodRow, modOf, h]
  · pointwise [row2C_apply, h]
    have e : 8192 + (i1.val - 8192) = i1.val := by omega
    simp [evenPost, pairRow_ctx _ _ _ _ h, modOf, h, e]

end Cert.Reference4Ideal.EvenRef

end
-- ==== Proof.EvenClaims4.lean ====
/- The claims about the third layer's second half. -/
module

public import proofs.«01_k».proof.Defs
public import proofs.«01_k».proof.Proof.Gen.Kernel4.Frame
public import proofs.«01_k».proof.Proof.EvenValue4
public import proofs.«01_k».proof.Proof.EvenRef4
public import proofs.«01_k».proof.Proof.Gen.Reference4Ideal.Run
public import Idealize.ShloMosaic.Lib.Quiescent

@[expose] public section

noncomputable section

namespace Cert.Proof.Even4

open Idealize.ShloMosaic Idealize.ShloMosaic.TcCoe Idealize.SL.Sem

/-- The kernel runs, leaves its arguments and returns every counter to zero. -/
theorem frame_k : Cert.quiescent_Kernel4 := fun m ρ _ => Cert.Kernel4.Gen.frame m ρ

/-- The same of its idealization. -/
theorem frame_ki : Cert.quiescent_Kernel4Ideal := fun m ρ _ => Cert.Kernel4Ideal.Gen.frame m ρ

/-- The reference runs and leaves its arguments; it declares no semaphore. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Idealization rewrote nothing. -/
theorem preserves : Cert.preserves_Kernel4_Kernel4Ideal := trivial

/-- Over the extended reals the kernel's result is the reference's, on all arguments. -/
theorem algebraic : Cert.algebraic_Kernel4Ideal_Reference4Ideal := by
  intro m ρ m' ρ' _ hag
  refine ⟨fun c => Cert.Kernel4Ideal.EvenValue.G m c, Cert.Kernel4Ideal.EvenValue.run m ρ, ?_⟩
  refine (θ_run Cert.Reference4Ideal.defs _ _).mono (fun _ h c => ⟨(h c).1.trans ?_, (h c).2⟩)
    (Cert.Reference4Ideal.Value.run (F := Ideal) m' ρ')
  obtain ⟨a0, a1, a2, a3, a4, a5, a6, a7, a8, a9, a10⟩ := hag c
  refine (Cert.Reference4Ideal.Read.val_main_v91_eq m' c).trans ?_
  rw [a0, a1, a2, a3, a4, a5, a6, a7, a8, a9, a10]
  exact Cert.Reference4Ideal.EvenRef.result_eq _ _ _ _ _ _ _ _ _ _ _

end Cert.Proof.Even4

end
-- ==== Proof.MidRows.lean ====
/- The kernel of the second layer's second half: what the body stores, read at an index. -/
module

public import proofs.«01_k».proof.Proof.Gen.Kernel3Ideal.Value
public import proofs.«01_k».proof.Proof.Rows

@[expose] public section

set_option maxRecDepth 16384

noncomputable section

namespace Cert.Kernel3Ideal.MidRows

open Cert.Kernel3Ideal Cert.Kernel3Ideal.Gen Idealize.ShloMosaic Cert.Rows

variable (i : grid0.Coords) (x0 x1 : Vec Ideal S1x256x1024 .f32) (x2 : Vec Ideal S2x1x256x1280 .f32)
  (x3 : Vec Ideal S1x256x1280 .bf16) (x4 : Vec Ideal S1x1x6144 .f32) (x5 : Vec Ideal S1x1024 .f32)
  (x6 : Vec Ideal S1280x1024 .bf16) (x7 : Vec Ideal S1024x4096 .bf16) (x8 : Vec Ideal S4096x1024 .bf16)

/-- The mixer row of row `r`: both directions' states added, times the gelu of the gate. -/
def mix (x2 : Vec Ideal S2x1x256x1280 .f32) (x3 : Vec Ideal S1x256x1280 .bf16) (r : Fin 256) (k : Fin 1280) : EReal :=
  (x2 (ix4 0 0 r k) + x2 (ix4 1 0 r k)) * gelu (x3 (ix3 0 r k))

/-- Row `r` of the block chosen by the tile. -/
def selRow {n : ℕ} (i : grid0.Coords) (lat ctx : (⟨3, ![1, 256, n]⟩ : Shape).Idx → EReal) (r : Fin 256) (k : Fin n) : EReal :=
  if 32 ≤ (i 1).val then ctx (ix3 0 r k) else lat (ix3 0 r k)

/-- The tile's comparison. -/
theorem cmp_eq : Scalar.cmpi .sge (BitVec.ofNat 32 (i 1).val) 32#32 = if 32 ≤ (i 1).val then 1#1 else 0#1 :=
  sge_32 _ (i 1).isLt

/-- The output projection of the mixer row. -/
theorem pay9_apply (r : Fin 256) (j : Fin 1024) :
    k0_pay9 i x0 x1 x2 x3 x4 x5 x6 x7 x8 (ix2 r j) = rowMul (mix x2 x3 r) (fun k n => x6 (ix2 k n)) j := by
  unfold k0_pay9
  pointwise [k0_pay2, r0_0, r0_1, r0_2, r0_3]
  rfl

/-- The modulations of the point. -/
theorem pay10_apply (k : Fin 6144) : k0_pay10 i x0 x1 x2 x3 x4 x5 x6 x7 x8 (ix2 0 k) = x4 (ix3 0 0 k) := by
  unfold k0_pay10
  pointwise [k0_pay3, r0_4]

/-- The stream's row with the gated mixer row added. -/
def row1 (i : grid0.Coords) (x0 x1 : Vec Ideal S1x256x1024 .f32) (x2 : Vec Ideal S2x1x256x1280 .f32)
    (x3 : Vec Ideal S1x256x1280 .bf16) (x4 : Vec Ideal S1x1x6144 .f32) (x6 : Vec Ideal S1280x1024 .bf16) (r : Fin 256) : Fin 1024 → EReal :=
  mixed (selRow i x0 x1 r) (rowMul (mix x2 x3 r) (fun k n => x6 (ix2 k n)))
    (fun k => x4 (ix3 0 0 k))

/-- The stream after the mixers, as the body computes it. -/
def st (i : grid0.Coords) (x0 x1 : Vec Ideal S1x256x1024 .f32) (x2 : Vec Ideal S2x1x256x1280 .f32)
    (x3 : Vec Ideal S1x256x1280 .bf16) (x4 : Vec Ideal S1x1x6144 .f32) (x5 : Vec Ideal S1x1024 .f32)
    (x6 : Vec Ideal S1280x1024 .bf16) (x7 : Vec Ideal S1024x4096 .bf16) (x8 : Vec Ideal S4096x1024 .bf16) : FVec Ideal S256x1024 .f32 :=
  k0_pay5 (k0_pay9 i x0 x1 x2 x3 x4 x5 x6 x7 x8) (k0_pay10 i x0 x1 x2 x3 x4 x5 x6 x7 x8) (Scalar.cmpi .sge (BitVec.ofNat 32 (i 1).val) 32#32)
    (k0_pay11 i x0 x1 x2 x3 x4 x5 x6 x7 x8) (View.ld x0 r0_5)

/-- It is `row1` row by row. -/
theorem st_apply (r : Fin 256) (j : Fin 1024) :
    st i x0 x1 x2 x3 x4 x5 x6 x7 x8 (ix2 r j) = row1 i x0 x1 x2 x3 x4 x6 r j := by
  unfold st row1 mixed k0_pay11
  conv_rhs => unfold selRow
  have h := cmp_eq i
  split_ifs at h ⊢ with hi <;> (pointwise [k0_pay5, k0_pay4, r0_5, h, pay9_apply, pay10_apply]) <;> rfl

/-- The feed-forward's input. -/
theorem pay6_apply (r : Fin 256) (j : Fin 1024) :
    k0_pay6 (k0_pay9 i x0 x1 x2 x3 x4 x5 x6 x7 x8) (k0_pay10 i x0 x1 x2 x3 x4 x5 x6 x7 x8) (Scalar.cmpi .sge (BitVec.ofNat 32 (i 1).val) 32#32)
        (k0_pay11 i x0 x1 x2 x3 x4 x5 x6 x7 x8) (View.ld x0 r0_5) (View.ld x5 r0_6) (ix2 r j)
      = ffIn (row1 i x0 x1 x2 x3 x4 x6 r) (fun k => x5 (ix2 0 k)) (fun k => x4 (ix3 0 0 k)) j := by
  have h (k : Fin 1024) := st_apply i x0 x1 x2 x3 x4 x5 x6 x7 x8 r k
  unfold st at h
  unfold k0_pay6
  pointwise [r0_6, h, pay10_apply]
  rfl

/-- The feed-forward's first quarter. -/
theorem pay7_apply (r : Fin 256) (j : Fin 1024) :
    k0_pay7 (k0_pay9 i x0 x1 x2 x3 x4 x5 x6 x7 x8) (k0_pay10 i x0 x1 x2 x3 x4 x5 x6 x7 x8) (Scalar.cmpi .sge (BitVec.ofNat 32 (i 1).val) 32#32)
        (k0_pay11 i x0 x1 x2 x3 x4 x5 x6 x7 x8) (View.ld x0 r0_5) (View.ld x5 r0_6) (View.ld x7 r0_7) (View.ld x8 r0_8) (ix2 r j)
      = ∑ f : Fin 1024, relu2 (∑ k : Fin 1024, ffIn (row1 i x0 x1 x2 x3 x4 x6 r) (fun k => x5 (ix2 0 k))
          (fun k => x4 (ix3 0 0 k)) k * x7 (ix2 k ⟨f.val, by omega⟩)) * x8 (ix2 ⟨f.val, by omega⟩ j) := by
  unfold k0_pay7
  pointwise [r0_7, r0_8, pay6_apply]
  rfl

/-- What the body stores at row `r`, element `j`: the layer's second half on that row. -/
theorem out_apply (r : Fin 256) (j : Fin 1024) :
    out0_9 i x0 x1 x2 x3 x4 x5 x6 x7 x8 (ix3 0 r j)
      = postRow (selRow i x0 x1 r) (rowMul (mix x2 x3 r) (fun k n => x6 (ix2 k n)))
          (fun k => x4 (ix3 0 0 k)) (fun k => x5 (ix2 0 k)) (fun k f => x7 (ix2 k f)) (fun f n => x8 (ix2 f n)) j := by
  have hz : (![0, 0, 0] : Fin 3 → Nat) = fun _ => 0 := funext fun a => by fin_cases a <;> rfl
  have h (k : Fin 1024) := st_apply i x0 x1 x2 x3 x4 x5 x6 x7 x8 r k
  unfold st at h
  unfold out0_9
  rw [View.canon_unit_zero hz]
  unfold postRow ff rowMul
  rw [sum_quarters]
  pointwise [k0_pay1, k0_pay8, r0_9, r0_10, r0_11, r0_12, r0_13, r0_14, h, pay10_apply, pay6_apply, pay7_apply]
  rfl

end Cert.Kernel3Ideal.MidRows

end
-- ==== Proof.MidValue.lean ====
/- The kernel of the second layer's second half: its result array as one function of the arguments. -/
module

public import proofs.«01_k».proof.Proof.MidRows
public import proofs.«01_k».proof.Proof.OddSpec
public import Idealize.ShloMosaic.Lib.Pipeline.ValueKit
public import Idealize.ShloMosaic.Lib.Claim

@[expose] public section

set_option maxRecDepth 16384

noncomputable section

namespace Cert.Kernel3Ideal.MidValue

open Cert.Kernel3Ideal Cert.Kernel3Ideal.Gen Cert.Kernel3Ideal.MidRows Idealize.ShloMosaic Idealize.ShloMosaic.TcCoe
  Idealize.SL.Sem Cert.Rows
open Idealize.ShloMosaic.Pipeline (Dat)

variable (m : (ℓ : Loc nD τ sig) → Buf (Elt Ideal) ℓ) (ρ : Dev nD → PrngReg)

/-- The second grid coordinate is the point's number modulo 33. -/
theorem coord_eq : ∀ t : Fin cfg0.N, (grid0.coords t 1).val = t.val % 33 :=
  (by decide +kernel : ∀ t : Fin grid0.N, _)

/-- Where each window's block lies at each point. -/
theorem idx_facts : ∀ t : Fin cfg0.N, win0_0.index t = ![t.val / 33, min (t.val % 33) 31, 0]
    ∧ win0_1.index t = ![t.val / 33, 32, 0]
    ∧ win0_2.index t = ![0, t.val / 33, t.val % 33, 0]
    ∧ win0_3.index t = ![t.val / 33, t.val % 33, 0]
    ∧ win0_4.index t = ![8 + (if 32 ≤ t.val % 33 then 4 else t.val / 33), 0, 0]
    ∧ win0_5.index t = ![0, 0]
    ∧ win0_6.index t = ![0, 0]
    ∧ win0_7.index t = ![0, 0]
    ∧ win0_8.index t = ![0, 0]
    ∧ win0_9.index t = ![t.val / 33, t.val % 33, 0] :=
  (by decide +kernel : ∀ t : Fin grid0.N, _)

/-- What the result array of device `c` is shown to hold. -/
abbrev G (c : Dev nD) : Buf (Elt Ideal) ((c : Thread nD τ).loc main_v5) := fun i : (⟨3, ![4, 8448, 1024]⟩ : Shape).Idx =>
  oddPost (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 (modOf (i 0) (i 1)) (i 0) (i 1) (i 2)

section Blocks
variable (c : Dev nD) (t : Fin cfg0.N) (r : Fin 256)

/-- The grid has 132 points. -/
theorem hN : t.val < 132 := t.isLt

/-- Window 0's block at a latent tile. -/
theorem blk0 (hi : t.val % 33 < 32) (k : Fin 1024) (b : Fin 4) (s : Fin 8448) (hb : b.val = t.val / 33)
    (hs : s.val = t.val % 33 * 256 + r.val) :
    iblk m c 0 t (ix3 0 r k) = m ((c : Thread nD τ).loc main_arg0) (ix3 b s k) := by
  blk_ext [iblk, V, idx_facts t]

/-- Window 1's block. -/
theorem blk1 (k : Fin 1024) (b : Fin 4) (s : Fin 8448) (hb : b.val = t.val / 33) (hs : s.val = 8192 + r.val) :
    iblk m c 1 t (ix3 0 r k) = m ((c : Thread nD τ).loc main_arg0) (ix3 b s k) := by
  blk_ext [iblk, V, idx_facts t]

/-- The mixer's states' block. -/
theorem blk2 (d : Fin 2) (k : Fin 1280) (b : Fin 4) (s : Fin 8448) (hb : b.val = t.val / 33)
    (hs : s.val = t.val % 33 * 256 + r.val) :
    iblk m c 2 t (ix4 d 0 r k) = m ((c : Thread nD τ).loc main_arg1) (ix4 d b s k) := by
  blk_ext [iblk, V, idx_facts t]

/-- The gate's block. -/
theorem blk3 (k : Fin 1280) (b : Fin 4) (s : Fin 8448) (hb : b.val = t.val / 33) (hs : s.val = t.val % 33 * 256 + r.val) :
    iblk m c 3 t (ix3 0 r k) = m ((c : Thread nD τ).loc main_arg2) (ix3 b s k) := by
  blk_ext [iblk, V, idx_facts t]

/-- The mixer row of the block is that of the arrays. -/
theorem mix_eq (b : Fin 4) (s : Fin 8448) (hb : b.val = t.val / 33) (hs : s.val = t.val % 33 * 256 + r.val) :
    mix (iblk m c 2 t) (iblk m c 3 t) r
      = oddMix (m ((c : Thread nD τ).loc main_arg1)) (m ((c : Thread nD τ).loc main_arg2)) b s := by
  funext k
  unfold mix oddMix
  rw [blk2 m c t r 0 k b s hb hs, blk2 m c t r 1 k b s hb hs, blk3 m c t r k b s hb hs]

/-- The modulations' block. -/
theorem blk4 (k : Fin 6144) (q : Fin 8) (hq : q.val = if 32 ≤ t.val % 33 then 4 else t.val / 33) :
    iblk m c 4 t (ix3 0 0 k) = m ((c : Thread nD τ).loc main_arg3) (ix3 1 q k) := by
  have := hN t
  blk_ext! [iblk, V, idx_facts t] <;> (split_ifs at hq ⊢ <;> omega)

/-- The norm's gain. -/
theorem blk5 (k : Fin 1024) : iblk m c 5 t (ix2 0 k) = m ((c : Thread nD τ).loc main_arg4) (ix1 k) := by
  blk_ext! [iblk, V, idx_facts t]

/-- Window 6's block. -/
theorem blk6 (k : Fin 1280) (n : Fin 1024) : iblk m c 6 t (ix2 k n) = m ((c : Thread nD τ).loc main_arg5) (ix2 k n) := by
  blk_ext! [iblk, V, idx_facts t]

/-- Window 7's block. -/
theorem blk7 (k : Fin 1024) (n : Fin 4096) : iblk m c 7 t (ix2 k n) = m ((c : Thread nD τ).loc main_arg6) (ix2 k n) := by
  blk_ext! [iblk, V, idx_facts t]

/-- Window 8's block. -/
theorem blk8 (k : Fin 4096) (n : Fin 1024) : iblk m c 8 t (ix2 k n) = m ((c : Thread nD τ).loc main_arg7) (ix2 k n) := by
  blk_ext! [iblk, V, idx_facts t]

/-- The stream's row of the block is that of the arrays. -/
theorem stream_eq (b : Fin 4) (s : Fin 8448) (hb : b.val = t.val / 33) (hs : s.val = t.val % 33 * 256 + r.val) :
    selRow (grid0.coords t) (iblk m c 0 t) (iblk m c 1 t) r = fun k => m ((c : Thread nD τ).loc main_arg0) (ix3 b s k) := by
  have hr := r.isLt
  funext k
  unfold selRow
  rw [coord_eq t]
  split_ifs with h1
  · exact blk1 m c t r k b s hb (by omega)
  · exact blk0 m c t r (by omega) k b s hb hs

/-- The modulations' row of the block is the stream row's. -/
theorem mod_eq (b : Fin 4) (s : Fin 8448) (hb : b.val = t.val / 33) (hs : s.val = t.val % 33 * 256 + r.val) (k : Fin 6144) :
    iblk m c 4 t (ix3 0 0 k) = m ((c : Thread nD τ).loc main_arg3) (ix3 1 (modOf b s) k) := by
  have hr := r.isLt
  refine blk4 m c t k _ ?_
  unfold modOf
  split_ifs with h1 h2
  · omega
  · exact hb
  · rfl
  · omega

/-- What the body stores at row `r` of point `t`, over the argument arrays. -/
theorem out_eq (j : Fin 1024) (b : Fin 4) (s : Fin 8448) (hb : b.val = t.val / 33) (hs : s.val = t.val % 33 * 256 + r.val) :
    out0_9 (grid0.coords t) (iblk m c 0 t) (iblk m c 1 t) (iblk m c 2 t) (iblk m c 3 t) (iblk m c 4 t) (iblk m c 5 t) (iblk m c 6 t) (iblk m c 7 t) (iblk m c 8 t) (ix3 0 r j)
      = oddPost (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) 1 (modOf b s) b s j := by
  rw [out_apply]
  have e0 := stream_eq m c t r b s hb hs
  have e2 := mix_eq m c t r b s hb hs
  have e4 := funext fun k => mod_eq m c t r b s hb hs k
  have e5 := funext fun k => blk5 m c t k
  have e6 := funext fun k => funext fun n => blk6 m c t k n
  have e7 := funext fun k => funext fun n => blk7 m c t k n
  have e8 := funext fun k => funext fun n => blk8 m c t k n
  unfold oddPost
  rw [e0, e2, e4, e5, e6, e7, e8]
end Blocks

/-- The result array after the run: the blocks tile it and each holds its part of `G`. -/
theorem final (c : Dev nD) : (dats m 0 c).arrAt 9 cfg0.N = G m c := by
  refine (dats m 0 c).arrAt_eq_of_covers 9 _ (by decide +kernel) fun t hf y => ?_
  blk_simp
  rw [after0_9]
  have ht := hN t
  idx_vars y
  obtain rfl : y0 = 0 := Subsingleton.elim _ _
  rw [out_eq m c t y1 y2 ⟨t.val / 33, by omega⟩ ⟨t.val % 33 * 256 + y1.val, by omega⟩ rfl rfl]
  have e : ((View.whole main_v5).slice (win0_9.rect t)).emb (ix3 0 y1 y2)
      = (ix3 ⟨t.val / 33, by omega⟩ ⟨t.val % 33 * 256 + y1.val, by omega⟩ y2 : S4x8448x1024.Idx) := by
    blk_ext [idx_facts t]
  rw [e]
  rfl

/-- The run, read: the result array at `G`, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.Kernel3Ideal.MidValue

end
-- ==== Proof.MidRef.lean ====
/- The reference of the second layer's second half: its result as one function of the arguments. -/
module

public import proofs.«01_k».proof.Proof.Gen.Reference3Ideal.Read
public import proofs.«01_k».proof.Proof.OddSpec

@[expose] public section

set_option maxRecDepth 16384

noncomputable section

namespace Cert.Reference3Ideal.MidRef

open Cert.Reference3Ideal Cert.Reference3Ideal.Read Idealize.ShloMosaic Cert.Rows

variable (x0 : FVec Ideal S4x8448x1024 .f32) (x1 : FVec Ideal S2x4x8448x1280 .f32) (x2 : FVec Ideal S4x8448x1280 .bf16)
  (x3 : FVec Ideal S4x8x6144 .f32) (x4 : FVec Ideal S1024 .f32) (x5 : FVec Ideal S1280x1024 .f32)
  (x6 : FVec Ideal S1024x4096 .f32) (x7 : FVec Ideal S4096x1024 .f32)
  (b : Fin 4)

/-- The modulations of the latent rows. -/
theorem modL_apply (k : Fin 6144) : val_main_v46 (F := Ideal) x3 (ix3 b 0 k) = x3 (ix3 1 ⟨b.val, by omega⟩ k) := by
  unfold val_main_v46 val_main_v45 val_main_v44
  pointwise

/-- The modulations of the context's rows. -/
theorem modC_apply (k : Fin 6144) : val_main_v84 (F := Ideal) x3 (ix1 k) = x3 (ix3 1 4 k) := by
  unfold val_main_v84 val_main_v83
  pointwise

/-- The output projection of a latent row. -/
theorem projL_apply (s : Fin 8192) (j : Fin 1024) : val_main_v21 (F := Ideal) x1 x2 x5 (ix3 b s j)
      = rowMul (oddMix x1 x2 b ⟨s.val, by omega⟩) (fun k n => x5 (ix2 k n)) j := by
  unfold val_main_v21 val_main_v20 val_main_v19 val_main_v18 val_main_v17 val_main_cst_2 val_main_v16 val_main_v15
    val_main_cst_1 val_main_v14 val_main_v13 val_main_v12 val_main_cst_0 val_main_v11 val_main_v10 val_main_v9
    val_main_cst val_main_v8 val_main_v7 val_main_v6 val_main_v5 val_main_v4 val_main_v3 val_main_v2 val_main_v1
    val_main_v0
  pointwise [rowMul]
  simp only [gelu_comm]
  rfl

/-- A latent row with the gated mixer row added. -/
theorem row1L_apply (s : Fin 8192) (j : Fin 1024) : val_main_v55 (F := Ideal) x0 x1 x2 x3 x5 (ix3 b s j)
      = mixed (fun k => x0 (ix3 b ⟨s.val, by omega⟩ k)) (rowMul (oddMix x1 x2 b ⟨s.val, by omega⟩) (fun k n => x5 (ix2 k n))) (fun k => x3 (ix3 1 ⟨b.val, by omega⟩ k)) j := by
  unfold val_main_v55 val_main_v54 val_main_v53 val_main_v49 val_main_v43
  pointwise [projL_apply, modL_apply]
  rfl

/-- The feed-forward's input at a latent row. -/
theorem ffInL_apply (s : Fin 8192) (j : Fin 1024) : val_main_v74 (F := Ideal) x0 x1 x2 x3 x4 x5 (ix3 b s j)
      = ffIn (mixed (fun k => x0 (ix3 b ⟨s.val, by omega⟩ k)) (rowMul (oddMix x1 x2 b ⟨s.val, by omega⟩) (fun k n => x5 (ix2 k n))) (fun k => x3 (ix3 1 ⟨b.val, by omega⟩ k))) (fun k => x4 (ix1 k)) (fun k => x3 (ix3 1 ⟨b.val, by omega⟩ k)) j := by
  unfold val_main_v74 val_main_v73 val_main_v72 val_main_v71 val_main_v70 val_main_v69 val_main_cst_10 val_main_v68
    val_main_v67 val_main_v66 val_main_v65 val_main_v64 val_main_v63 val_main_v62 val_main_v61 val_main_cst_9
    val_main_v60 val_main_v59 val_main_cst_8 val_main_v58 val_main_v57 val_main_cst_7 val_main_v56 val_main_v51
    val_main_v50
  pointwise [row1L_apply, modL_apply]
  rfl

/-- A latent row after the feed-forward. -/
theorem row2L_apply (s : Fin 8192) (j : Fin 1024) : val_main_v81 (F := Ideal) x0 x1 x2 x3 x4 x5 x6 x7 (ix3 b s j)
      = postRow (fun k => x0 (ix3 b ⟨s.val, by omega⟩ k)) (rowMul (oddMix x1 x2 b ⟨s.val, by omega⟩) (fun k n => x5 (ix2 k n))) (fun k => x3 (ix3 1 ⟨b.val, by omega⟩ k)) (fun k => x4 (ix1 k)) (fun k f => x6 (ix2 k f)) (fun f n => x7 (ix2 f n)) j := by
  unfold val_main_v81 val_main_v80 val_main_v79 val_main_v78 val_main_v77 val_main_v76 val_main_call0_v0
    val_main_call0_cst val_main_v75 val_main_v52
  pointwise [row1L_apply, ffInL_apply, modL_apply]
  rfl

/-- The output projection of a context row. -/
theorem projC_apply (s : Fin 256) (j : Fin 1024) : val_main_v42 (F := Ideal) x1 x2 x5 (ix3 b s j)
      = rowMul (oddMix x1 x2 b ⟨8192 + s.val, by omega⟩) (fun k n => x5 (ix2 k n)) j := by
  unfold val_main_v42 val_main_v41 val_main_v40 val_main_v39 val_main_v38 val_main_cst_6 val_main_v37 val_main_v36
    val_main_cst_5 val_main_v35 val_main_v34 val_main_v33 val_main_cst_4 val_main_v32 val_main_v31 val_main_v30
    val_main_cst_3 val_main_v29 val_main_v28 val_main_v27 val_main_v26 val_main_v25 val_main_v24 val_main_v23
    val_main_v22 val_main_v0
  pointwise [rowMul]
  simp only [gelu_comm]
  rfl

/-- A context row with the gated mixer row added. -/
theorem row1C_apply (s : Fin 256) (j : Fin 1024) : val_main_v94 (F := Ideal) x0 x1 x2 x3 x5 (ix3 b s j)
      = mixed (fun k => x0 (ix3 b ⟨8192 + s.val, by omega⟩ k)) (rowMul (oddMix x1 x2 b ⟨8192 + s.val, by omega⟩) (fun k n => x5 (ix2 k n))) (fun k => x3 (ix3 1 4 k)) j := by
  unfold val_main_v94 val_main_v93 val_main_v92 val_main_v91 val_main_v87 val_main_v82
  pointwise [projC_apply, modC_apply]
  rfl

/-- The feed-forward's input at a context row. -/
theorem ffInC_apply (s : Fin 256) (j : Fin 1024) : val_main_v115 (F := Ideal) x0 x1 x2 x3 x4 x5 (ix3 b s j)
      = ffIn (mixed (fun k => x0 (ix3 b ⟨8192 + s.val, by omega⟩ k)) (rowMul (oddMix x1 x2 b ⟨8192 + s.val, by omega⟩) (fun k n => x5 (ix2 k n))) (fun k => x3 (ix3 1 4 k))) (fun k => x4 (ix1 k)) (fun k => x3 (ix3 1 4 k)) j := by
  unfold val_main_v115 val_main_v114 val_main_v113 val_main_v112 val_main_v111 val_main_v110 val_main_v109
    val_main_v108 val_main_cst_14 val_main_v107 val_main_v106 val_main_v105 val_main_v104 val_main_v103 val_main_v102
    val_main_v101 val_main_v100 val_main_cst_13 val_main_v99 val_main_v98 val_main_cst_12 val_main_v97 val_main_v96
    val_main_cst_11 val_main_v95 val_main_v89 val_main_v88
  pointwise [row1C_apply, modC_apply]
  rfl

/-- A context row after the feed-forward. -/
theorem row2C_apply (s : Fin 256) (j : Fin 1024) : val_main_v123 (F := Ideal) x0 x1 x2 x3 x4 x5 x6 x7 (ix3 b s j)
      = postRow (fun k => x0 (ix3 b ⟨8192 + s.val, by omega⟩ k)) (rowMul (oddMix x1 x2 b ⟨8192 + s.val, by omega⟩) (fun k n => x5 (ix2 k n))) (fun k => x3 (ix3 1 4 k)) (fun k => x4 (ix1 k)) (fun k f => x6 (ix2 k f)) (fun f n => x7 (ix2 f n)) j := by
  unfold val_main_v123 val_main_v122 val_main_v121 val_main_v120 val_main_v119 val_main_v118 val_main_v117
    val_main_call1_v0 val_main_call1_cst val_main_v116 val_main_v90
  pointwise [row1C_apply, ffInC_apply, modC_apply]
  rfl

/-- The reference's result. -/
theorem result_eq : val_main_v124 (F := Ideal) x0 x1 x2 x3 x4 x5 x6 x7
    = fun i : (⟨3, ![4, 8448, 1024]⟩ : Shape).Idx => oddPost x0 x1 x2 x3 x4 x5 x6 x7 1 (modOf (i 0) (i 1)) (i 0) (i 1) (i 2) := by
  funext i
  idx_vars i
  unfold val_main_v124
  by_cases h : i1.val < 8192
  · pointwise [row2L_apply, h]
    simp [oddPost, modOf, h]
  · pointwise [row2C_apply, h]
    have e : 8192 + (i1.val - 8192) = i1.val := by omega
    simp [oddPost, modOf, h, e]

end Cert.Reference3Ideal.MidRef

end
-- ==== Proof.MidClaims.lean ====
/- The claims about the second layer's second half. -/
module

public import proofs.«01_k».proof.Defs
public import proofs.«01_k».proof.Proof.Gen.Kernel3.Frame
public import proofs.«01_k».proof.Proof.MidValue
public import proofs.«01_k».proof.Proof.MidRef
public import proofs.«01_k».proof.Proof.Gen.Reference3Ideal.Run
public import Idealize.ShloMosaic.Lib.Quiescent

@[expose] public section

noncomputable section

namespace Cert.Proof.Mid

open Idealize.ShloMosaic Idealize.ShloMosaic.TcCoe Idealize.SL.Sem

/-- The kernel runs, leaves its arguments and returns every counter to zero. -/
theorem frame_k : Cert.quiescent_Kernel3 := fun m ρ _ => Cert.Kernel3.Gen.frame m ρ

/-- The same of its idealization. -/
theorem frame_ki : Cert.quiescent_Kernel3Ideal := fun m ρ _ => Cert.Kernel3Ideal.Gen.frame m ρ

/-- The reference runs and leaves its arguments; it declares no semaphore. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Idealization rewrote nothing. -/
theorem preserves : Cert.preserves_Kernel3_Kernel3Ideal := trivial

/-- Over the extended reals the kernel's result is the reference's, on all arguments. -/
theorem algebraic : Cert.algebraic_Kernel3Ideal_Reference3Ideal := by
  intro m ρ m' ρ' _ hag
  refine ⟨fun c => Cert.Kernel3Ideal.MidValue.G m c, Cert.Kernel3Ideal.MidValue.run m ρ, ?_⟩
  refine (θ_run Cert.Reference3Ideal.defs _ _).mono (fun _ h c => ⟨(h c).1.trans ?_, (h c).2⟩)
    (Cert.Reference3Ideal.Value.run (F := Ideal) m' ρ')
  obtain ⟨a0, a1, a2, a3, a4, a5, a6, a7⟩ := hag c
  refine (Cert.Reference3Ideal.Read.val_main_v124_eq m' c).trans ?_
  rw [a0, a1, a2, a3, a4, a5, a6, a7]
  exact Cert.Reference3Ideal.MidRef.result_eq _ _ _ _ _ _ _ _

end Cert.Proof.Mid

end
-- ==== Proof.OddInRows.lean ====
/- The input projection of an odd layer: what the body stores, read at an index. -/
module

public import proofs.«01_k».proof.Proof.Gen.Kernel5Ideal.Value
public import proofs.«01_k».proof.Proof.Rows

@[expose] public section

set_option maxRecDepth 16384

noncomputable section

namespace Cert.Kernel5Ideal.OddInRows

open Cert.Kernel5Ideal Cert.Kernel5Ideal.Gen Idealize.ShloMosaic Cert.Rows

variable (i : grid0.Coords) (x0 : Vec Ideal S1x1x8x1024 .f32) (x1 : Vec Ideal S1x256x1024 .f32)
  (x2 : Vec Ideal S1x1x8x1024 .f32) (x3 : Vec Ideal S1x1x6144 .f32) (x4 : Vec Ideal S1x1024 .f32)
  (x5 : Vec Ideal S1024x2560 .bf16) (x6 : Vec Ideal S4x1280 .f32) (x7 : Vec Ideal S1x1280 .f32)

/-- The tile's rows with the eight rows before it and the eight after it. -/
def ext (e : Fin 272) (k : Fin 1024) : EReal :=
  if h : e.val < 8 then x0 (ix4 0 0 ⟨e.val, h⟩ k)
  else if h' : e.val - 8 < 256 then x1 (ix3 0 ⟨e.val - 8, h'⟩ k) else x2 (ix4 0 0 ⟨e.val - 8 - 256, by omega⟩ k)

/-- The gained norm of an extended row. -/
theorem pay13_apply (e : Fin 272) (j : Fin 1024) :
    k0_pay13 i x0 x1 x2 x3 x4 x5 x6 x7 (ix2 e j) = Rows.norm (ext x0 x1 x2 e) (fun k => x4 (ix2 0 k)) j := by
  unfold k0_pay13
  by_cases h : e.val < 8
  · pointwise [k0_pay4, r0_1, r0_2, r0_3, h]
    simp [Rows.norm, rinv, ext, h]
  · by_cases h' : e.val - 8 < 256
    · pointwise [k0_pay4, r0_1, r0_2, r0_3, h, h']
      simp [Rows.norm, rinv, ext, h, h']
    · pointwise [k0_pay4, r0_1, r0_2, r0_3, h, h']
      simp [Rows.norm, rinv, ext, h, h']

/-- An extended row's product with the two halves of the projection's matrix. -/
def proj (e : Fin 272) (j : Fin 2560) : EReal :=
  rowMul (modNorm (ext x0 x1 x2 e) (fun k => x4 (ix2 0 k)) (piece (fun k => x3 (ix3 0 0 k)) 1024 (by omega))
    (piece (fun k => x3 (ix3 0 0 k)) 0 (by omega))) (fun k n => x5 (ix2 k n)) j

/-- An extended row's projection. -/
theorem pay6_apply (e : Fin 272) (j : Fin 2560) :
    k0_pay6 (k0_pay12 i x0 x1 x2 x3 x4 x5 x6 x7) (k0_pay13 i x0 x1 x2 x3 x4 x5 x6 x7) (k0_pay14 i x0 x1 x2 x3 x4 x5 x6 x7)
      (View.ld x5 r0_4) (ix2 e j) = proj x0 x1 x2 x3 x4 x5 e j := by
  pointwise [k0_pay6, k0_pay12, k0_pay3, k0_pay2, k0_pay14, k0_pay5, r0_0, r0_4, pay13_apply]
  rfl

/-- The gate: the first half of a row's projection. -/
theorem gate_apply (r : Fin 256) (j : Fin 1280) :
    out0_8 i x0 x1 x2 x3 x4 x5 x6 x7 (ix3 0 r j)
      = proj x0 x1 x2 x3 x4 x5 ⟨8 + r.val, by omega⟩ ⟨j.val, by omega⟩ := by
  have hz : (![0, 0, 0] : Fin 3 → Nat) = fun _ => 0 := funext fun a => by fin_cases a <;> rfl
  unfold out0_8
  rw [View.canon_unit_zero hz]
  pointwise [k0_pay7, pay6_apply]

/-- The second half of an extended row's projection; 0 for a row outside the tile's segment. -/
def seg (n : ℕ) (e : Fin 272) (j : Fin 1280) : EReal :=
  if (e.val < 8 ∧ (n = 0 ∨ n = 32)) ∨ (264 ≤ e.val ∧ (n = 31 ∨ n = 32)) then 0
  else proj x0 x1 x2 x3 x4 x5 e ⟨1280 + j.val, by omega⟩

/-- A choice by two conjunctions of one-bit words. -/
theorem select_or (p q r s : Prop) [Decidable p] [Decidable q] [Decidable r] [Decidable s] (v : EReal) :
    Scalar.select (IntOp.ori (IntOp.andi (if p then 1#1 else 0#1) (if q then 1#1 else 0#1))
      (IntOp.andi (if r then 1#1 else 0#1) (if s then 1#1 else 0#1))) 0 v = if (p ∧ q) ∨ (r ∧ s) then 0 else v := by
  by_cases hp : p <;> by_cases hq : q <;> by_cases hr : r <;> by_cases hs : s <;> simp only [hp, hq, hr, hs] <;> rfl

/-- The convolution's input at an extended row. -/
theorem pay8_apply (e : Fin 272) (j : Fin 1280) :
    k0_pay8 (Scalar.ori (Scalar.cmpi .eq (BitVec.ofNat 32 (i 1).val) 0#32) (Scalar.cmpi .eq (BitVec.ofNat 32 (i 1).val) 32#32))
      (Scalar.ori (Scalar.cmpi .eq (BitVec.ofNat 32 (i 1).val) 31#32) (Scalar.cmpi .eq (BitVec.ofNat 32 (i 1).val) 32#32))
      (k0_pay12 i x0 x1 x2 x3 x4 x5 x6 x7) (k0_pay13 i x0 x1 x2 x3 x4 x5 x6 x7) (k0_pay14 i x0 x1 x2 x3 x4 x5 x6 x7)
      (View.ld x5 r0_4) (ix2 e j) = seg x0 x1 x2 x3 x4 x5 (i 1).val e j := by
  have h1 : (Scalar.ori (Scalar.cmpi .eq (BitVec.ofNat 32 (i 1).val) 0#32) (Scalar.cmpi .eq (BitVec.ofNat 32 (i 1).val) 32#32))
    = if (i 1).val = 0 ∨ (i 1).val = 32 then 1#1 else 0#1 := by
    have : (i 1).val < 33 := (i 1).isLt
    generalize (i 1).val = n at *
    interval_cases n <;> rfl
  have h2 : (Scalar.ori (Scalar.cmpi .eq (BitVec.ofNat 32 (i 1).val) 31#32) (Scalar.cmpi .eq (BitVec.ofNat 32 (i 1).val) 32#32))
    = if (i 1).val = 31 ∨ (i 1).val = 32 then 1#1 else 0#1 := by
    have : (i 1).val < 33 := (i 1).isLt
    generalize (i 1).val = n at *
    interval_cases n <;> rfl
  have h3 : IntOp.cmpi .slt (BitVec.ofNat 32 e.val) 8#32 = if e.val < 8 then 1#1 else 0#1 := by
    have : e.val < 272 := e.isLt
    generalize e.val = n at *
    interval_cases n <;> rfl
  have h4 : IntOp.cmpi .sge (BitVec.ofNat 32 e.val) 264#32 = if 264 ≤ e.val then 1#1 else 0#1 := by
    have : e.val < 272 := e.isLt
    generalize e.val = n at *
    interval_cases n <;> rfl
  rw [h1, h2]
  pointwise [k0_pay8, pay6_apply, h3, h4]
  exact select_or _ _ _ _ _

/-- What the convolution stores: four taps and the bias. -/
theorem conv_apply (r : Fin 256) (j : Fin 1280) :
    out0_9 i x0 x1 x2 x3 x4 x5 x6 x7 (ix3 0 r j)
      = x6 (ix2 2 j) * seg x0 x1 x2 x3 x4 x5 (i 1).val ⟨r.val + 8, by omega⟩ j + x7 (ix2 0 j)
        + (x6 (ix2 0 j) * seg x0 x1 x2 x3 x4 x5 (i 1).val ⟨r.val + 6, by omega⟩ j
          + x6 (ix2 1 j) * seg x0 x1 x2 x3 x4 x5 (i 1).val ⟨r.val + 7, by omega⟩ j)
        + x6 (ix2 3 j) * seg x0 x1 x2 x3 x4 x5 (i 1).val ⟨r.val + 9, by omega⟩ j := by
  have hz : (![0, 0, 0] : Fin 3 → Nat) = fun _ => 0 := funext fun a => by fin_cases a <;> rfl
  unfold out0_9
  rw [View.canon_unit_zero hz]
  pointwise [k0_pay1, k0_pay9, k0_pay10, k0_pay11, r0_6, r0_7, pay8_apply]
  have hr := r.isLt
  have e0 : (r.val + 7 + 272 - 1) % 272 = r.val + 6 := by omega
  have e1 : (8 + r.val + 272 - 1) % 272 = r.val + 7 := by omega
  have e2 : 8 + r.val = r.val + 8 := by omega
  have e3 : (8 + r.val + 272 - 271) % 272 = r.val + 9 := by omega
  simp only [e0, e1, e3]
  simp only [e2]

end Cert.Kernel5Ideal.OddInRows

end
-- ==== Proof.OddInSpec.lean ====
/- The input projection of an odd layer, as functions of the arguments: the modulated norm times the matrix, whose first
   half of columns is the gate and whose second half goes through a convolution of four taps along each stream. -/
module

public import proofs.«01_k».proof.Proof.Rows

@[expose] public section

noncomputable section

namespace Cert.Rows

open Idealize.ShloMosaic

section
variable (h : (⟨3, ![4, 8448, 1024]⟩ : Shape).Idx → EReal) (mods : (⟨3, ![4, 8, 6144]⟩ : Shape).Idx → EReal)
  (g : (⟨1, ![1024]⟩ : Shape).Idx → EReal) (w : (⟨2, ![1024, 2560]⟩ : Shape).Idx → EReal)
  (cw : (⟨2, ![4, 1280]⟩ : Shape).Idx → EReal) (cb : (⟨1, ![1280]⟩ : Shape).Idx → EReal)

/-- Row `s` of the stream, normed, modulated by row `q` of layer 1's modulations and multiplied with the matrix. -/
def odProj (q : Fin 8) (b : Fin 4) (s : Fin 8448) (j : Fin 2560) : EReal :=
  rowMul (modNorm (fun k => h (ix3 b s k)) (fun k => g (ix1 k)) (piece (fun k => mods (ix3 1 q k)) 1024 (by omega))
    (piece (fun k => mods (ix3 1 q k)) 0 (by omega))) (fun k n => w (ix2 k n)) j

/-- The element `o - 2` rows after row `s`, 0 where that row is no row of the same stream: the latent stream is the first
    8192 rows, the context's the 256 after them. -/
def tap (f : Fin 8448 → EReal) (s : Fin 8448) (o : ℕ) : EReal :=
  if hp : (2 ≤ s.val + o ∧ s.val + o < 8450) ∧ (s.val + o < 8194 ↔ s.val < 8192) then f ⟨s.val + o - 2, by omega⟩ else 0

/-- The gate. -/
def odGate (i : (⟨3, ![4, 8448, 1280]⟩ : Shape).Idx) : EReal :=
  odProj h mods g w (modOf (i 0) (i 1)) (i 0) (i 1) ⟨(i 2).val, by have : (i 2).val < 1280 := (i 2).isLt; omega⟩

/-- Column `j` of the convolution's input. -/
def odCol (b : Fin 4) (j : Fin 1280) (s : Fin 8448) : EReal := odProj h mods g w (modOf b s) b s ⟨1280 + j.val, by omega⟩

/-- One element of the convolution's result. -/
def odTaps (b : Fin 4) (s : Fin 8448) (j : Fin 1280) : EReal :=
  cw (ix2 0 j) * tap (odCol h mods g w b j) s 0 + cw (ix2 1 j) * tap (odCol h mods g w b j) s 1
    + cw (ix2 2 j) * tap (odCol h mods g w b j) s 2 + cw (ix2 3 j) * tap (odCol h mods g w b j) s 3 + cb (ix1 j)

/-- The convolution's result. -/
def odConv (i : (⟨3, ![4, 8448, 1280]⟩ : Shape).Idx) : EReal := odTaps h mods g w cw cb (i 0) (i 1) (i 2)

end

end Cert.Rows

end
-- ==== Proof.OddInValue.lean ====
/- The input projection of an odd layer: its two result arrays are `odGate` and `odConv` of the arguments. -/
module

public import proofs.«01_k».proof.Proof.OddInRows
public import proofs.«01_k».proof.Proof.OddInSpec
public import Idealize.ShloMosaic.Lib.Pipeline.ValueKit
public import Idealize.ShloMosaic.Lib.Claim

@[expose] public section

set_option maxRecDepth 16384

noncomputable section

namespace Cert.Kernel5Ideal.OddInValue

open Cert.Kernel5Ideal Cert.Kernel5Ideal.Gen Cert.Kernel5Ideal.OddInRows Idealize.ShloMosaic Idealize.ShloMosaic.TcCoe
  Idealize.SL.Sem Cert.Rows
open Idealize.ShloMosaic.Pipeline (Dat)

variable (m : (ℓ : Loc nD τ sig) → Buf (Elt Ideal) ℓ) (ρ : Dev nD → PrngReg)

/-- The second grid coordinate is the point's number modulo 33. -/
theorem coord_eq : ∀ t : Fin cfg0.N, (grid0.coords t 1).val = t.val % 33 :=
  (by decide +kernel : ∀ t : Fin grid0.N, _)

/-- Where each window's block lies at each point. -/
theorem idx_facts : ∀ t : Fin cfg0.N, win0_0.index t = ![t.val / 33, t.val % 33 * 32 - 1, 0, 0]
    ∧ win0_1.index t = ![t.val / 33, t.val % 33, 0] ∧ win0_2.index t = ![t.val / 33, min (t.val % 33 * 32 + 32) 1055, 0, 0]
    ∧ win0_3.index t = ![8 + (if t.val % 33 < 32 then t.val / 33 else 4), 0, 0] ∧ win0_4.index t = ![0, 0]
    ∧ win0_5.index t = ![0, 0] ∧ win0_6.index t = ![0, 0] ∧ win0_7.index t = ![0, 0]
    ∧ win0_8.index t = ![t.val / 33, t.val % 33, 0] ∧ win0_9.index t = ![t.val / 33, t.val % 33, 0] :=
  (by decide +kernel : ∀ t : Fin grid0.N, _)

section Blocks
variable (c : Dev nD) (t : Fin cfg0.N)

/-- The grid has 132 points. -/
theorem hN : t.val < 132 := t.isLt

/-- The eight rows before the tile. -/
theorem blk0 (e : Fin 8) (k : Fin 1024) (b : Fin 4) (s : Fin 8448) (hb : b.val = t.val / 33) (h0 : t.val % 33 ≠ 0)
    (hs : s.val + 8 = t.val % 33 * 256 + e.val) :
    iblk m c 0 t (ix4 0 0 e k) = m ((c : Thread nD τ).loc main_arg0) (ix3 b s k) := by
  blk_ext! [iblk, V, idx_facts t]
/-- The tile's rows. -/
theorem blk1 (r : Fin 256) (k : Fin 1024) (b : Fin 4) (s : Fin 8448) (hb : b.val = t.val / 33)
    (hs : s.val = t.val % 33 * 256 + r.val) :
    iblk m c 1 t (ix3 0 r k) = m ((c : Thread nD τ).loc main_arg0) (ix3 b s k) := by
  blk_ext [iblk, V, idx_facts t]
/-- The eight rows after the tile. -/
theorem blk2 (e : Fin 8) (k : Fin 1024) (b : Fin 4) (s : Fin 8448) (hb : b.val = t.val / 33) (h0 : t.val % 33 < 32)
    (hs : s.val = t.val % 33 * 256 + 256 + e.val) :
    iblk m c 2 t (ix4 0 0 e k) = m ((c : Thread nD τ).loc main_arg0) (ix3 b s k) := by
  blk_ext! [iblk, V, idx_facts t]
/-- The modulations' block. -/
theorem blk3 (k : Fin 6144) (q : Fin 8) (hq : q.val = if t.val % 33 < 32 then t.val / 33 else 4) :
    iblk m c 3 t (ix3 0 0 k) = m ((c : Thread nD τ).loc main_arg1) (ix3 1 q k) := by
  have := hN t
  blk_ext! [iblk, V, idx_facts t] <;> (split_ifs at hq ⊢ <;> omega)
/-- The norm's gain. -/
theorem blk4 (k : Fin 1024) : iblk m c 4 t (ix2 0 k) = m ((c : Thread nD τ).loc main_arg2) (ix1 k) := by
  blk_ext! [iblk, V, idx_facts t]
/-- The projection's matrix. -/
theorem blk5 (k : Fin 1024) (n : Fin 2560) :
    iblk m c 5 t (ix2 k n) = m ((c : Thread nD τ).loc main_arg3) (ix2 k n) := by
  blk_ext! [iblk, V, idx_facts t]
/-- The convolution's weights. -/
theorem blk6 (k : Fin 4) (n : Fin 1280) :
    iblk m c 6 t (ix2 k n) = m ((c : Thread nD τ).loc main_arg4) (ix2 k n) := by
  blk_ext [iblk, V, idx_facts t]
/-- The convolution's bias. -/
theorem blk7 (k : Fin 1280) : iblk m c 7 t (ix2 0 k) = m ((c : Thread nD τ).loc main_arg5) (ix1 k) := by
  blk_ext! [iblk, V, idx_facts t]

/-- An extended row that is a row of the tile's stream. -/
theorem ext_eq (e : Fin 272) (b : Fin 4) (s : Fin 8448) (hb : b.val = t.val / 33)
    (hs : s.val + 8 = t.val % 33 * 256 + e.val) (h0 : 8 ≤ e.val ∨ t.val % 33 ≠ 0) (h1 : e.val < 264 ∨ t.val % 33 < 32) :
    ext (iblk m c 0 t) (iblk m c 1 t) (iblk m c 2 t) e = fun k => m ((c : Thread nD τ).loc main_arg0) (ix3 b s k) := by
  funext k
  unfold ext
  split_ifs with h h'
  · exact blk0 m c t ⟨e.val, h⟩ k b s hb (by omega) hs
  · exact blk1 m c t ⟨e.val - 8, h'⟩ k b s hb (by dsimp only; omega)
  · exact blk2 m c t ⟨e.val - 8 - 256, by omega⟩ k b s hb (by omega) (by dsimp only; omega)

/-- The projection of such a row. -/
theorem proj_eq (e : Fin 272) (b : Fin 4) (q : Fin 8) (s : Fin 8448) (j : Fin 2560) (hb : b.val = t.val / 33)
    (hq : q.val = if t.val % 33 < 32 then t.val / 33 else 4)
    (hs : s.val + 8 = t.val % 33 * 256 + e.val) (h0 : 8 ≤ e.val ∨ t.val % 33 ≠ 0) (h1 : e.val < 264 ∨ t.val % 33 < 32) :
    proj (iblk m c 0 t) (iblk m c 1 t) (iblk m c 2 t) (iblk m c 3 t) (iblk m c 4 t) (iblk m c 5 t) e j
      = odProj (m ((c : Thread nD τ).loc main_arg0)) (m ((c : Thread nD τ).loc main_arg1)) (m ((c : Thread nD τ).loc main_arg2)) (m ((c : Thread nD τ).loc main_arg3)) q b s j := by
  unfold proj odProj
  rw [ext_eq m c t e b s hb hs h0 h1]
  simp only [blk3 m c t _ q hq, blk4, blk5]

/-- The modulation row of a row of the tile's stream. -/
theorem modOf_eq (b : Fin 4) (s : Fin 8448) (hb : b.val = t.val / 33) (hs : s.val < 8192 ↔ t.val % 33 < 32) :
    (modOf b s).val = if t.val % 33 < 32 then t.val / 33 else 4 := by
  unfold modOf
  by_cases h : s.val < 8192
  · rw [if_pos h, if_pos (hs.1 h)]
    exact hb
  · rw [if_neg h, if_neg fun h' => h (hs.2 h')]
    rfl

/-- The convolution's input, `o - 2` rows after row `r` of the tile. -/
theorem seg_eq (r : Fin 256) (o : ℕ) (ho : o < 4) (b : Fin 4) (s : Fin 8448) (j : Fin 1280) (hb : b.val = t.val / 33)
    (hs : s.val = t.val % 33 * 256 + r.val) :
    seg (iblk m c 0 t) (iblk m c 1 t) (iblk m c 2 t) (iblk m c 3 t) (iblk m c 4 t) (iblk m c 5 t) (t.val % 33) ⟨r.val + 6 + o, by omega⟩ j
      = tap (odCol (m ((c : Thread nD τ).loc main_arg0)) (m ((c : Thread nD τ).loc main_arg1)) (m ((c : Thread nD τ).loc main_arg2)) (m ((c : Thread nD τ).loc main_arg3)) b j) s o := by
  have ht := hN t
  have hr := r.isLt
  have h33 := Nat.mod_lt t.val (by norm_num : 0 < 33)
  unfold seg tap
  dsimp only
  split_ifs with h h' h'
  · exfalso; omega
  · rfl
  · unfold odCol
    refine proj_eq m c t _ b _ _ _ hb (modOf_eq t b _ hb ?_) ?_ ?_ ?_ <;> dsimp only <;> omega
  · exfalso; omega

/-- The gate the body stores, over the argument arrays. -/
theorem gate_eq (r : Fin 256) (j : Fin 1280) (b : Fin 4) (s : Fin 8448) (hb : b.val = t.val / 33)
    (hs : s.val = t.val % 33 * 256 + r.val) :
    out0_8 (grid0.coords t) (iblk m c 0 t) (iblk m c 1 t) (iblk m c 2 t) (iblk m c 3 t) (iblk m c 4 t) (iblk m c 5 t) (iblk m c 6 t) (iblk m c 7 t) (ix3 0 r j)
      = odGate (m ((c : Thread nD τ).loc main_arg0)) (m ((c : Thread nD τ).loc main_arg1)) (m ((c : Thread nD τ).loc main_arg2)) (m ((c : Thread nD τ).loc main_arg3)) (ix3 b s j) := by
  have h33 := Nat.mod_lt t.val (by norm_num : 0 < 33)
  rw [gate_apply]
  refine proj_eq m c t _ b _ s _ hb (modOf_eq t b s hb (by omega)) ?_ ?_ ?_ <;> dsimp only <;> omega

/-- What the convolution stores, over the argument arrays. -/
theorem conv_eq (r : Fin 256) (j : Fin 1280) (b : Fin 4) (s : Fin 8448) (hb : b.val = t.val / 33)
    (hs : s.val = t.val % 33 * 256 + r.val) :
    out0_9 (grid0.coords t) (iblk m c 0 t) (iblk m c 1 t) (iblk m c 2 t) (iblk m c 3 t) (iblk m c 4 t) (iblk m c 5 t) (iblk m c 6 t) (iblk m c 7 t) (ix3 0 r j)
      = odConv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix3 b s j) := by
  rw [conv_apply, coord_eq]
  have e (o : ℕ) (ho : o < 4) := seg_eq m c t r o ho b s j hb hs
  have e0 := e 0 (by omega)
  have e1 := e 1 (by omega)
  have e2 := e 2 (by omega)
  have e3 := e 3 (by omega)
  simp only [Nat.add_assoc, Nat.reduceAdd] at e0 e1 e2 e3
  rw [e0, e1, e2, e3]
  simp only [blk6, blk7]
  show _ = odTaps _ _ _ _ _ _ b s j
  unfold odTaps
  abel
end Blocks

/-- The gate's array after the run. -/
theorem final8 (c : Dev nD) : (dats m 0 c).arrAt 8 cfg0.N = (odGate (m ((c : Thread nD τ).loc main_arg0)) (m ((c : Thread nD τ).loc main_arg1)) (m ((c : Thread nD τ).loc main_arg2)) (m ((c : Thread nD τ).loc main_arg3)) : Buf (Elt Ideal) ((c : Thread nD τ).loc main_v5_0)) := by
  refine (dats m 0 c).arrAt_eq_of_covers 8 _ (by decide +kernel) fun t hf y => ?_
  blk_simp
  rw [after0_8]
  have ht := hN t
  idx_vars y
  obtain rfl : y0 = 0 := Subsingleton.elim _ _
  rw [gate_eq m c t y1 y2 ⟨t.val / 33, by omega⟩ ⟨t.val % 33 * 256 + y1.val, by omega⟩ rfl rfl]
  have e : ((View.whole main_v5_0).slice (win0_8.rect t)).emb (ix3 0 y1 y2)
      = (ix3 ⟨t.val / 33, by omega⟩ ⟨t.val % 33 * 256 + y1.val, by omega⟩ y2 : S4x8448x1280.Idx) := by
    blk_ext [idx_facts t]
  rw [e]

/-- The convolution's array after the run. -/
theorem final9 (c : Dev nD) : (dats m 0 c).arrAt 9 cfg0.N = (odConv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) : Buf (Elt Ideal) ((c : Thread nD τ).loc main_v5_1)) := by
  refine (dats m 0 c).arrAt_eq_of_covers 9 _ (by decide +kernel) fun t hf y => ?_
  blk_simp
  rw [after0_9]
  have ht := hN t
  idx_vars y
  obtain rfl : y0 = 0 := Subsingleton.elim _ _
  rw [conv_eq m c t y1 y2 ⟨t.val / 33, by omega⟩ ⟨t.val % 33 * 256 + y1.val, by omega⟩ rfl rfl]
  have e : ((View.whole main_v5_1).slice (win0_9.rect t)).emb (ix3 0 y1 y2)
      = (ix3 ⟨t.val / 33, by omega⟩ ⟨t.val % 33 * 256 + y1.val, by omega⟩ y2 : S4x8448x1280.Idx) := by
    blk_ext [idx_facts t]
  rw [e]

/-- The run, read: the two result arrays, the arguments unchanged. -/
theorem run : θ_run defs (onTc (τ := τ) (main (F := Ideal))) ⟨m, fun _ => 0, ρ⟩ fun r => ∀ c : Dev nD,
      r.2.mem ((c : Thread nD τ).loc main_v5_0) = odGate (m ((c : Thread nD τ).loc main_arg0)) (m ((c : Thread nD τ).loc main_arg1)) (m ((c : Thread nD τ).loc main_arg2)) (m ((c : Thread nD τ).loc main_arg3))
      ∧ r.2.mem ((c : Thread nD τ).loc main_v5_1) = odConv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final8 m c), (h c).2.1.trans (final9 m c), (h c).2.2⟩) (Value.run_blocks m ρ)

end Cert.Kernel5Ideal.OddInValue

end
-- ==== Proof.OddInRef.lean ====
/- The reference of the input projection of an odd layer: its results as functions of the arguments. -/
module

public import proofs.«01_k».proof.Proof.Gen.Reference5Ideal.Read
public import proofs.«01_k».proof.Proof.OddInSpec

@[expose] public section

set_option maxRecDepth 16384

noncomputable section

namespace Cert.Reference5Ideal.OddInRef

open Cert.Reference5Ideal Cert.Reference5Ideal.Read Idealize.ShloMosaic Cert.Rows

variable (x0 : FVec Ideal S4x8448x1024 .f32) (x1 : FVec Ideal S4x8x6144 .f32) (x2 : FVec Ideal S1024 .f32)
  (x3 : FVec Ideal S1024x2560 .f32) (x4 : FVec Ideal S4x1280 .f32) (x5 : FVec Ideal S1280 .f32) (b : Fin 4)

/-- The projection of a row: a latent's shift and scale are its sample's row of the modulations, the context's row 4. -/
theorem proj_apply (s : Fin 8448) (j : Fin 2560) : val_main_v28 (F := Ideal) x0 x1 x2 x3 (ix3 b s j)
      = odProj x0 x1 x2 x3 (modOf b s) b s j := by
  unfold val_main_v28 val_main_v27 val_main_v26 val_main_v25 val_main_v24 val_main_cst_2 val_main_v23 val_main_v22
    val_main_v21 val_main_v20 val_main_v19 val_main_v18 val_main_v17 val_main_v16 val_main_cst_1 val_main_v15
    val_main_v14 val_main_cst_0 val_main_v13 val_main_v12 val_main_cst val_main_v11 val_main_v10 val_main_v9
    val_main_v8 val_main_v7 val_main_v6 val_main_v5 val_main_v4 val_main_v3 val_main_v2 val_main_v1 val_main_v0
  by_cases h : s.val < 8192
  · pointwise [h]
    simp only [modOf, h, if_true]
    rfl
  · pointwise [h]
    simp only [modOf, h, if_false]
    rfl

/-- A tap read off a padded stream, whose padding is 0. -/
theorem tap_of (f : Fin 8448 → EReal) (s : Fin 8448) (o : ℕ) {c : Prop} [Decidable c] (g : c → Fin 8448)
    (hc : c ↔ (2 ≤ s.val + o ∧ s.val + o < 8450) ∧ (s.val + o < 8194 ↔ s.val < 8192))
    (hg : ∀ h, (g h).val = s.val + o - 2) :
    (if h : c then f (g h) else FloatOps.sitofp (F := Ideal) .f32 (0#32)) = tap f s o := by
  have z : FloatOps.sitofp (F := Ideal) .f32 (0#32) = (0 : EReal) := by
    show (((0#32).toInt : ℝ) : EReal) = 0
    simp
  unfold tap
  by_cases h : c
  · rw [dif_pos h, dif_pos (hc.mp h)]
    exact congrArg f (Fin.ext (hg h))
  · rw [dif_neg h, dif_neg fun h' => h (hc.mpr h'), z]

/-- A tap that lies on the row itself. -/
theorem tap_two (f : Fin 8448 → EReal) (s : Fin 8448) : f s = tap f s 2 := by
  have := s.isLt
  unfold tap
  rw [dif_pos (by omega)]
  rfl

/-- The convolution of a latent row. -/
theorem convL_apply (s : Fin 8192) (j : Fin 1280) : val_main_v64 (F := Ideal) x0 x1 x2 x3 x4 x5 (ix3 b s j)
      = odTaps x0 x1 x2 x3 x4 x5 b ⟨s.val, by omega⟩ j := by
  unfold val_main_v64 val_main_v63 val_main_v62 val_main_v61 val_main_v60 val_main_v59 val_main_v58 val_main_v57
    val_main_v56 val_main_v55 val_main_v54 val_main_v53 val_main_v52 val_main_v51 val_main_v50 val_main_v49
    val_main_v48 val_main_v47 val_main_v46 val_main_v45 val_main_v44 val_main_v43 val_main_v42 val_main_v41
    val_main_v40 val_main_v39 val_main_cst_3 val_main_v38 val_main_v37 val_main_v36 val_main_v35 val_main_v34
    val_main_v33 val_main_v32 val_main_call0_v0 val_main_c val_main_v31 val_main_v30
  pointwise [proj_apply]
  refine congrArg₂ (· + ·) (congrArg₂ (· + ·) (congrArg₂ (· + ·) (congrArg₂ (· + ·) ?_ ?_) ?_) ?_) rfl
  · exact congrArg (x4 (ix2 0 j) * ·) (tap_of (odCol x0 x1 x2 x3 b j) ⟨s.val, by omega⟩ 0 _ (by simp only; omega) fun _ => by simp only; omega)
  · exact congrArg (x4 (ix2 1 j) * ·) (tap_of (odCol x0 x1 x2 x3 b j) ⟨s.val, by omega⟩ 1 _ (by simp only; omega) fun _ => by simp only; omega)
  · exact congrArg (x4 (ix2 2 j) * ·) (tap_two (odCol x0 x1 x2 x3 b j) ⟨s.val, by omega⟩)
  · exact congrArg (x4 (ix2 3 j) * ·) (tap_of (odCol x0 x1 x2 x3 b j) ⟨s.val, by omega⟩ 3 _ (by simp only; omega) fun _ => by simp only; omega)

/-- The convolution of a context row. -/
theorem convC_apply (s : Fin 256) (j : Fin 1280) : val_main_v98 (F := Ideal) x0 x1 x2 x3 x4 x5 (ix3 b s j)
      = odTaps x0 x1 x2 x3 x4 x5 b ⟨8192 + s.val, by omega⟩ j := by
  unfold val_main_v98 val_main_v97 val_main_v96 val_main_v95 val_main_v94 val_main_v93 val_main_v92 val_main_v91
    val_main_v90 val_main_v89 val_main_v88 val_main_v87 val_main_v86 val_main_v85 val_main_v84 val_main_v83
    val_main_v82 val_main_v81 val_main_v80 val_main_v79 val_main_v78 val_main_v77 val_main_v76 val_main_v75
    val_main_v74 val_main_v73 val_main_cst_5 val_main_v72 val_main_v71 val_main_v70 val_main_v69 val_main_v68
    val_main_v67 val_main_v66 val_main_call1_v0 val_main_c_4 val_main_v65 val_main_v30
  pointwise [proj_apply]
  refine congrArg₂ (· + ·) (congrArg₂ (· + ·) (congrArg₂ (· + ·) (congrArg₂ (· + ·) ?_ ?_) ?_) ?_) rfl
  · exact congrArg (x4 (ix2 0 j) * ·) (tap_of (odCol x0 x1 x2 x3 b j) ⟨8192 + s.val, by omega⟩ 0 _ (by simp only; omega) fun _ => by simp only; omega)
  · exact congrArg (x4 (ix2 1 j) * ·) (tap_of (odCol x0 x1 x2 x3 b j) ⟨8192 + s.val, by omega⟩ 1 _ (by simp only; omega) fun _ => by simp only; omega)
  · exact congrArg (x4 (ix2 2 j) * ·) (tap_two (odCol x0 x1 x2 x3 b j) ⟨8192 + s.val, by omega⟩)
  · exact congrArg (x4 (ix2 3 j) * ·) (tap_of (odCol x0 x1 x2 x3 b j) ⟨8192 + s.val, by omega⟩ 3 _ (by simp only; omega) fun _ => by simp only; omega)

/-- The gate. -/
theorem gate_eq : val_main_v99 (F := Ideal) x0 x1 x2 x3 = odGate x0 x1 x2 x3 := by
  funext i
  idx_vars i
  unfold val_main_v99 val_main_v29
  pointwise [proj_apply]
  rfl

/-- The convolution. -/
theorem conv_eq : val_main_v100 (F := Ideal) x0 x1 x2 x3 x4 x5 = odConv x0 x1 x2 x3 x4 x5 := by
  funext i
  idx_vars i
  unfold val_main_v100
  by_cases h : i1.val < 8192
  · pointwise [convL_apply, h]
    rfl
  · have e : 8192 + (i1.val - 8192) = i1.val := by omega
    pointwise [convC_apply, h]
    simp only [e]
    rfl

end Cert.Reference5Ideal.OddInRef

end
-- ==== Proof.OddInClaims.lean ====
/- The claims about the input projection of an odd layer. -/
module

public import proofs.«01_k».proof.Defs
public import proofs.«01_k».proof.Proof.Gen.Kernel5.Frame
public import proofs.«01_k».proof.Proof.OddInValue
public import proofs.«01_k».proof.Proof.OddInRef
public import proofs.«01_k».proof.Proof.Gen.Reference5Ideal.Run
public import Idealize.ShloMosaic.Lib.Quiescent

@[expose] public section

noncomputable section

namespace Cert.Proof.OddIn

open Idealize.ShloMosaic Idealize.ShloMosaic.TcCoe Idealize.SL.Sem

/-- The kernel runs, leaves its arguments and returns every counter to zero. -/
theorem frame_k : Cert.quiescent_Kernel5 := fun m ρ _ => Cert.Kernel5.Gen.frame m ρ

/-- The same of its idealization. -/
theorem frame_ki : Cert.quiescent_Kernel5Ideal := fun m ρ _ => Cert.Kernel5Ideal.Gen.frame m ρ

/-- The reference runs and leaves its arguments; it declares no semaphore. -/
theorem frame_ri : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- Idealization rewrote nothing. -/
theorem preserves : Cert.preserves_Kernel5_Kernel5Ideal := trivial

/-- Over the extended reals the kernel's two results are the reference's, on all arguments. -/
theorem algebraic : Cert.algebraic_Kernel5Ideal_Reference5Ideal := by
  intro m ρ m' ρ' _ hag
  refine ⟨fun c => Cert.Rows.odGate (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)), fun c => Cert.Rows.odConv (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)),
    Cert.Kernel5Ideal.OddInValue.run m ρ, ?_⟩
  refine (θ_run Cert.Reference5Ideal.defs _ _).mono
    (fun _ h c => ⟨(h c).1.trans ?_, (h c).2.1.trans ?_, (h c).2.2⟩) (Cert.Reference5Ideal.Value.run (F := Ideal) m' ρ')
  · obtain ⟨a0, a1, a2, a3, a4, a5⟩ := hag c
    refine (Cert.Reference5Ideal.Read.val_main_v99_eq _ _ _ _).trans ?_
    rw [a0, a1, a2, a3]
    exact Cert.Reference5Ideal.OddInRef.gate_eq _ _ _ _
  · obtain ⟨a0, a1, a2, a3, a4, a5⟩ := hag c
    refine (Cert.Reference5Ideal.Read.val_main_v100_eq m' c).trans ?_
    rw [a0, a1, a2, a3, a4, a5]
    exact Cert.Reference5Ideal.OddInRef.conv_eq _ _ _ _ _ _

end Cert.Proof.OddIn

end
-- ==== Proof.EvenInSpec.lean ====
/- The input projection of the first layer, row by row: the modulated norm's projection, the rotation by position of
   its queries and keys, and the four arrays it is stored in. -/
module

public import proofs.«01_k».proof.Proof.Rows

@[expose] public section

noncomputable section

namespace Cert.Rows

open Idealize.ShloMosaic

/-- Column `j` of the projection of token `s` of sample `b`. -/
def evProj (x : (⟨3, ![4, 8192, 1024]⟩ : Shape).Idx → EReal) (ctx : (⟨3, ![4, 256, 1024]⟩ : Shape).Idx → EReal)
    (md : (⟨3, ![4, 8, 6144]⟩ : Shape).Idx → EReal) (g : (⟨1, ![1024]⟩ : Shape).Idx → EReal)
    (w : (⟨2, ![1024, 3072]⟩ : Shape).Idx → EReal) (b : Fin 4) (s : Fin 8448) (j : Fin 3072) : EReal :=
  rowMul (modNorm (pairRow x ctx b s) (fun k => g (ix1 k))
    (piece (fun k => md (ix3 0 (modOf b s) k)) 1024 (by omega))
    (piece (fun k => md (ix3 0 (modOf b s) k)) 0 (by omega))) (fun k n => w (ix2 k n)) j

/-- The rotation of column `c` by the cosines `C` and sines `S` of position `s`: the columns come in groups of 32, and a
    column of the first half of its group is turned against the one 16 further on. -/
def rot (C S : (⟨2, ![8192, 16]⟩ : Shape).Idx → EReal) (f : Fin 512 → EReal) (s : Fin 8192) (c : Fin 512) : EReal :=
  if c.val % 32 < 16 then
    f c * C (ix2 s ⟨c.val % 16, by omega⟩) - f ⟨(c.val + 16) % 512, by omega⟩ * S (ix2 s ⟨c.val % 16, by omega⟩)
  else f c * C (ix2 s ⟨c.val % 16, by omega⟩) + f ⟨c.val - 16, by omega⟩ * S (ix2 s ⟨c.val % 16, by omega⟩)

/-- The rotation of a column of its group's first half, its operands named by their values. -/
theorem rot_fst (C S : (⟨2, ![8192, 16]⟩ : Shape).Idx → EReal) (f : Fin 512 → EReal) (s : Fin 8192) {c c1 c2 : Fin 512} {k : Fin 16}
    (h : c.val % 32 < 16) (h1 : c1.val = c.val) (h2 : c2.val = c.val + 16) (hk : k.val = c.val % 16) :
    f c1 * C (ix2 s k) - f c2 * S (ix2 s k) = rot C S f s c := by
  obtain rfl : c1 = c := Fin.ext h1
  have e2 : c2 = ⟨(c1.val + 16) % 512, Nat.mod_lt _ (by norm_num)⟩ := Fin.ext (by dsimp only; omega)
  have e3 : k = ⟨c1.val % 16, Nat.mod_lt _ (by norm_num)⟩ := Fin.ext hk
  unfold rot
  rw [if_pos h, e2, e3]

/-- The rotation of a column of its group's second half. -/
theorem rot_snd (C S : (⟨2, ![8192, 16]⟩ : Shape).Idx → EReal) (f : Fin 512 → EReal) (s : Fin 8192) {c c1 c2 : Fin 512} {k : Fin 16}
    (h : ¬ c.val % 32 < 16) (h1 : c1.val = c.val) (h2 : c2.val = c.val - 16) (hk : k.val = c.val % 16) :
    f c1 * C (ix2 s k) + f c2 * S (ix2 s k) = rot C S f s c := by
  obtain rfl : c1 = c := Fin.ext h1
  have e2 : c2 = ⟨c1.val - 16, (Nat.sub_le _ _).trans_lt c1.isLt⟩ := Fin.ext h2
  have e3 : k = ⟨c1.val % 16, Nat.mod_lt _ (by norm_num)⟩ := Fin.ext hk
  unfold rot
  rw [if_neg h, e2, e3]

/-- The rotation of a token's row: a latent's by its row angles in the first half of every 64 columns and by its column
    angles in the second, the context's not at all. -/
def rope (cr sr cc sc : (⟨2, ![8192, 16]⟩ : Shape).Idx → EReal) (f : Fin 512 → EReal) (s : Fin 8448) (c : Fin 512) : EReal :=
  if hs : s.val < 8192 then
    if c.val % 64 < 32 then rot cr sr f ⟨s.val, hs⟩ c else rot cc sc f ⟨s.val, hs⟩ c
  else f c

/-- The factor of the queries. -/
def qFactor : EReal := Ideal.ofBits .f32 0x3E38AA3B#32

/-- The 512 columns of the projection from column `o` on. -/
def cols (f : Fin 3072 → EReal) (o : ℕ) (ho : o + 512 ≤ 3072) (c : Fin 512) : EReal := f ⟨o + c.val, by omega⟩

section
variable (x : (⟨3, ![4, 8192, 1024]⟩ : Shape).Idx → EReal) (ctx : (⟨3, ![4, 256, 1024]⟩ : Shape).Idx → EReal)
  (md : (⟨3, ![4, 8, 6144]⟩ : Shape).Idx → EReal) (g : (⟨1, ![1024]⟩ : Shape).Idx → EReal)
  (w : (⟨2, ![1024, 3072]⟩ : Shape).Idx → EReal) (cr sr cc sc : (⟨2, ![8192, 16]⟩ : Shape).Idx → EReal)

/-- The first mixer's columns. -/
def evU (i : (⟨3, ![4, 8448, 1536]⟩ : Shape).Idx) : EReal :=
  evProj x ctx md g w (i 0) (i 1) ⟨(i 2).val, (i 2).isLt.trans (by decide)⟩

/-- The rotated and scaled queries of every head, tokens last. -/
def evQ (i : (⟨4, ![4, 4, 128, 8448]⟩ : Shape).Idx) : EReal :=
  rope cr sr cc sc (cols (evProj x ctx md g w (i 0) (i 3)) 1536 (by omega)) (i 3)
    ⟨(i 1).val * 128 + (i 2).val, by have h1 : (i 1).val < 4 := (i 1).isLt; have h2 : (i 2).val < 128 := (i 2).isLt; omega⟩ * qFactor

/-- The rotated keys. -/
def evK (i : (⟨3, ![4, 8448, 512]⟩ : Shape).Idx) : EReal :=
  rope cr sr cc sc (cols (evProj x ctx md g w (i 0) (i 1)) 2048 (by omega)) (i 1) (i 2)

/-- The values of every head in chunks of 768 tokens, tokens last, with a row of ones and fifteen of zeros below. -/
def evV (i : (⟨5, ![4, 4, 11, 144, 768]⟩ : Shape).Idx) : EReal :=
  if h : (i 3).val < 128 then
    cols (evProj x ctx md g w (i 0) ⟨(i 2).val * 768 + (i 4).val, by have h2 : (i 2).val < 11 := (i 2).isLt; have h4 : (i 4).val < 768 := (i 4).isLt; omega⟩)
      2560 (by omega) ⟨(i 1).val * 128 + (i 3).val, by have h1 : (i 1).val < 4 := (i 1).isLt; omega⟩
  else if (i 3).val = 128 then 1 else 0
end

end Cert.Rows

end
-- ==== Proof.EvenInRows.lean ====
/- The kernel of the first layer's input projection: what the body stores, read at an index. -/
module

public import proofs.«01_k».proof.Proof.Gen.Kernel6Ideal.Value
public import proofs.«01_k».proof.Proof.EvenInSpec

@[expose] public section

set_option maxRecDepth 16384

noncomputable section

namespace Cert.Kernel6Ideal.EvenInRows

open Cert.Kernel6Ideal Cert.Kernel6Ideal.Gen Idealize.ShloMosaic Cert.Rows

/-- Row `r` of the block chosen by the tile. -/
def selRow (i : grid0.Coords) (lat ctx : FVec Ideal S1x256x1024 .f32) (r : Fin 256) (k : Fin 1024) : EReal :=
  if 32 ≤ (i 1).val then ctx (ix3 0 r k) else lat (ix3 0 r k)

/-- The tile's comparison. -/
theorem cmp_eq (i : grid0.Coords) : Scalar.cmpi .sge (BitVec.ofNat 32 (i 1).val) 32#32 = if 32 ≤ (i 1).val then 1#1 else 0#1 :=
  sge_32 _ (i 1).isLt

/-- The modulated norm of the tile's rows. -/
theorem pay2_apply (i : grid0.Coords) (x0 x1 : Vec Ideal S1x256x1024 .f32) (x2 : Vec Ideal S1x1x6144 .f32) (x3 : Vec Ideal S1x1024 .f32)
    (r : Fin 256) (k : Fin 1024) : k0_pay2 i x2 x1 x0 x3 (ix2 r k)
      = modNorm (selRow i x0 x1 r) (fun k => x3 (ix2 0 k)) (piece (fun k => x2 (ix3 0 0 k)) 1024 (by omega))
          (piece (fun k => x2 (ix3 0 0 k)) 0 (by omega)) k := by
  unfold k0_pay2
  have h := cmp_eq i
  unfold selRow
  split_ifs at h ⊢ with hi <;> (pointwise [h]) <;> simp [modNorm, Rows.norm, rinv, Rows.piece]

section
variable (v : FVec Ideal S256x1024 .bf16) (w : Vec Ideal S1024x512 .bf16)

/-- The queries' product. -/
theorem pay7_apply (r : Fin 256) (c : Fin 512) :
    k0_pay7 v w (ix2 r c) = rowMul (fun k => v (ix2 r k)) (fun k n => w (ix2 k n)) c := by
  unfold k0_pay7
  pointwise
  rfl

/-- The keys' product. -/
theorem pay13_apply (r : Fin 256) (c : Fin 512) :
    k0_pay13 v w (ix2 r c) = rowMul (fun k => v (ix2 r k)) (fun k n => w (ix2 k n)) c := by
  unfold k0_pay13
  pointwise
  rfl

/-- The values' product. -/
theorem pay19_apply (r : Fin 256) (c : Fin 512) :
    k0_pay19 v w (ix2 r c) = rowMul (fun k => v (ix2 r k)) (fun k n => w (ix2 k n)) c := by
  unfold k0_pay19
  pointwise
  rfl

/-- The first mixer's product. -/
theorem pay28_apply (w : Vec Ideal S1024x1536 .bf16) (r : Fin 256) (c : Fin 1536) :
    k0_pay28 v w (ix2 r c) = rowMul (fun k => v (ix2 r k)) (fun k n => w (ix2 k n)) c := by
  unfold k0_pay28
  pointwise
  rfl
end

/-- The lanes of the first half of a group of 32. -/
abbrev firstHalf : IVec S256x128 1 := k0_pay5 (iota .tc S256x128 32 [1] iota_S256x128_d1_w32) 32#32 0#32

/-- It is that. -/
theorem firstHalf_apply (r : Fin 256) (l : Fin 128) : firstHalf (ix2 r l) = if l.val % 32 < 16 then 1#1 else 0#1 := by
  unfold firstHalf k0_pay5
  pointwise
  revert l
  decide +kernel

/-- A column turned by the tables: times its cosine, and its partner times its sine. -/
def turn (P : FVec Ideal S256x512 .f32) (C S : FVec Ideal S256x128 .f32) (r : Fin 256) (c : Fin 512) : EReal :=
  P (ix2 r c) * C (ix2 r ⟨c.val % 128, by omega⟩)
    + P (ix2 r (if c.val % 32 < 16 then ⟨(c.val + 16) % 512, by omega⟩ else ⟨c.val - 16, by omega⟩)) * S (ix2 r ⟨c.val % 128, by omega⟩)

/-- The turn of a column of its group's first half. -/
theorem turn_fst (P : FVec Ideal S256x512 .f32) (C S : FVec Ideal S256x128 .f32) (r : Fin 256) {c c1 c2 : Fin 512} {l : Fin 128}
    (h : c.val % 32 < 16) (h1 : c1.val = c.val) (h2 : c2.val = c.val + 16) (hl : l.val = c.val % 128) :
    P (ix2 r c1) * C (ix2 r l) + P (ix2 r c2) * S (ix2 r l) = turn P C S r c := by
  obtain rfl : c1 = c := Fin.ext h1
  have e2 : c2 = ⟨(c1.val + 16) % 512, Nat.mod_lt _ (by norm_num)⟩ := Fin.ext (by dsimp only; omega)
  have e3 : l = ⟨c1.val % 128, Nat.mod_lt _ (by norm_num)⟩ := Fin.ext hl
  unfold turn
  rw [if_pos h, e2, e3]

/-- The turn of a column of its group's second half. -/
theorem turn_snd (P : FVec Ideal S256x512 .f32) (C S : FVec Ideal S256x128 .f32) (r : Fin 256) {c c1 c2 : Fin 512} {l : Fin 128}
    (h : ¬ c.val % 32 < 16) (h1 : c1.val = c.val) (h2 : c2.val = c.val - 16) (hl : l.val = c.val % 128) :
    P (ix2 r c1) * C (ix2 r l) + P (ix2 r c2) * S (ix2 r l) = turn P C S r c := by
  obtain rfl : c1 = c := Fin.ext h1
  have e2 : c2 = ⟨c1.val - 16, (Nat.sub_le _ _).trans_lt c1.isLt⟩ := Fin.ext h2
  have e3 : l = ⟨c1.val % 128, Nat.mod_lt _ (by norm_num)⟩ := Fin.ext hl
  unfold turn
  rw [if_neg h, e2, e3]

section
variable (v : FVec Ideal S256x1024 .bf16) (w : Vec Ideal S1024x512 .bf16) (P : FVec Ideal S256x512 .f32) (C S : FVec Ideal S256x128 .f32)

/-- Head 0's queries. -/
theorem pay8_apply (d : Fin 128) (r : Fin 256) : k0_pay8 v (k0_pay3 C) (k0_pay4 S) (iota .tc S256x128 32 [1] iota_S256x128_d1_w32) 32#32 0#32 w (ix4 0 0 d r) = turn (k0_pay7 v w) C S r ⟨0 + d.val, by omega⟩ * qFactor := by
  have hm := firstHalf_apply r d
  by_cases h : d.val % 32 < 16
  · simp only [h, if_true] at hm
    unfold k0_pay8
    generalize k0_pay7 v w = P at *
    pointwise [k0_pay3, k0_pay4, hm]
    refine congrArg (· * qFactor) (turn_fst P C S r ?_ ?_ ?_ ?_) <;> dsimp only <;> omega
  · simp only [h, if_false] at hm
    unfold k0_pay8
    generalize k0_pay7 v w = P at *
    pointwise [k0_pay3, k0_pay4, hm]
    refine congrArg (· * qFactor) (turn_snd P C S r ?_ ?_ ?_ ?_) <;> dsimp only <;> omega

/-- Head 1's queries. -/
theorem pay9_apply (d : Fin 128) (r : Fin 256) : k0_pay9 (k0_pay3 C) (k0_pay4 S) firstHalf P (ix4 0 0 d r) = turn P C S r ⟨128 + d.val, by omega⟩ * qFactor := by
  have hm := firstHalf_apply r d
  by_cases h : d.val % 32 < 16
  · simp only [h, if_true] at hm
    pointwise [k0_pay9, k0_pay3, k0_pay4, hm]
    refine congrArg (· * qFactor) (turn_fst P C S r ?_ ?_ ?_ ?_) <;> dsimp only <;> omega
  · simp only [h, if_false] at hm
    pointwise [k0_pay9, k0_pay3, k0_pay4, hm]
    refine congrArg (· * qFactor) (turn_snd P C S r ?_ ?_ ?_ ?_) <;> dsimp only <;> omega

/-- Head 2's queries. -/
theorem pay10_apply (d : Fin 128) (r : Fin 256) : k0_pay10 (k0_pay3 C) (k0_pay4 S) firstHalf P (ix4 0 0 d r) = turn P C S r ⟨256 + d.val, by omega⟩ * qFactor := by
  have hm := firstHalf_apply r d
  by_cases h : d.val % 32 < 16
  · simp only [h, if_true] at hm
    pointwise [k0_pay10, k0_pay3, k0_pay4, hm]
    refine congrArg (· * qFactor) (turn_fst P C S r ?_ ?_ ?_ ?_) <;> dsimp only <;> omega
  · simp only [h, if_false] at hm
    pointwise [k0_pay10, k0_pay3, k0_pay4, hm]
    refine congrArg (· * qFactor) (turn_snd P C S r ?_ ?_ ?_ ?_) <;> dsimp only <;> omega

/-- Head 3's queries. -/
theorem pay12_apply (d : Fin 128) (r : Fin 256) : k0_pay12 (k0_pay11 (k0_pay3 C) (k0_pay4 S) firstHalf P) (ix4 0 0 d r) = turn P C S r ⟨384 + d.val, by omega⟩ * qFactor := by
  have hm := firstHalf_apply r d
  by_cases h : d.val % 32 < 16
  · simp only [h, if_true] at hm
    pointwise [k0_pay12, k0_pay11, k0_pay3, k0_pay4, hm]
    refine congrArg (· * qFactor) (turn_fst P C S r ?_ ?_ ?_ ?_) <;> dsimp only <;> omega
  · simp only [h, if_false] at hm
    pointwise [k0_pay12, k0_pay11, k0_pay3, k0_pay4, hm]
    refine congrArg (· * qFactor) (turn_snd P C S r ?_ ?_ ?_ ?_) <;> dsimp only <;> omega

/-- Head 0's keys. -/
theorem pay14_apply (r : Fin 256) (d : Fin 128) : k0_pay14 v (k0_pay3 C) (k0_pay4 S) firstHalf w (ix3 0 r d) = turn (k0_pay13 v w) C S r ⟨0 + d.val, by omega⟩ := by
  have hm := firstHalf_apply r d
  by_cases h : d.val % 32 < 16
  · simp only [h, if_true] at hm
    unfold k0_pay14
    generalize k0_pay13 v w = P at *
    pointwise [k0_pay3, k0_pay4, hm]
    refine turn_fst P C S r ?_ ?_ ?_ ?_ <;> dsimp only <;> omega
  · simp only [h, if_false] at hm
    unfold k0_pay14
    generalize k0_pay13 v w = P at *
    pointwise [k0_pay3, k0_pay4, hm]
    refine turn_snd P C S r ?_ ?_ ?_ ?_ <;> dsimp only <;> omega

/-- Head 1's keys. -/
theorem pay15_apply (r : Fin 256) (d : Fin 128) : k0_pay15 v (k0_pay3 C) (k0_pay4 S) firstHalf w (ix3 0 r d) = turn (k0_pay13 v w) C S r ⟨128 + d.val, by omega⟩ := by
  have hm := firstHalf_apply r d
  by_cases h : d.val % 32 < 16
  · simp only [h, if_true] at hm
    unfold k0_pay15
    generalize k0_pay13 v w = P at *
    pointwise [k0_pay3, k0_pay4, hm]
    refine turn_fst P C S r ?_ ?_ ?_ ?_ <;> dsimp only <;> omega
  · simp only [h, if_false] at hm
    unfold k0_pay15
    generalize k0_pay13 v w = P at *
    pointwise [k0_pay3, k0_pay4, hm]
    refine turn_snd P C S r ?_ ?_ ?_ ?_ <;> dsimp only <;> omega

/-- Head 2's keys. -/
theorem pay17_apply (r : Fin 256) (d : Fin 128) : k0_pay17 (k0_pay16 v (k0_pay3 C) (k0_pay4 S) firstHalf w) (ix3 0 r d) = turn (k0_pay13 v w) C S r ⟨256 + d.val, by omega⟩ := by
  have hm := firstHalf_apply r d
  by_cases h : d.val % 32 < 16
  · simp only [h, if_true] at hm
    unfold k0_pay17 k0_pay16
    generalize k0_pay13 v w = P at *
    pointwise [k0_pay3, k0_pay4, hm]
    refine turn_fst P C S r ?_ ?_ ?_ ?_ <;> dsimp only <;> omega
  · simp only [h, if_false] at hm
    unfold k0_pay17 k0_pay16
    generalize k0_pay13 v w = P at *
    pointwise [k0_pay3, k0_pay4, hm]
    refine turn_snd P C S r ?_ ?_ ?_ ?_ <;> dsimp only <;> omega

/-- Head 3's keys. -/
theorem pay18_apply (r : Fin 256) (d : Fin 128) : k0_pay18 (k0_pay3 C) (k0_pay4 S) firstHalf P (ix3 0 r d) = turn P C S r ⟨384 + d.val, by omega⟩ := by
  have hm := firstHalf_apply r d
  by_cases h : d.val % 32 < 16
  · simp only [h, if_true] at hm
    pointwise [k0_pay18, k0_pay3, k0_pay4, hm]
    refine turn_fst P C S r ?_ ?_ ?_ ?_ <;> dsimp only <;> omega
  · simp only [h, if_false] at hm
    pointwise [k0_pay18, k0_pay3, k0_pay4, hm]
    refine turn_snd P C S r ?_ ?_ ?_ ?_ <;> dsimp only <;> omega

/-- Head 0's values. -/
theorem pay20_apply (d : Fin 128) (r : Fin 256) : k0_pay20 v w (ix5 0 0 0 d r) = (k0_pay19 v w) (ix2 r ⟨0 + d.val, by omega⟩) := by
  unfold k0_pay20
  generalize k0_pay19 v w = P
  pointwise

/-- Head 1's values. -/
theorem pay22_apply (d : Fin 128) (r : Fin 256) : k0_pay22 v w (ix5 0 0 0 d r) = (k0_pay19 v w) (ix2 r ⟨128 + d.val, by omega⟩) := by
  unfold k0_pay22
  generalize k0_pay19 v w = P
  pointwise

/-- Head 2's values. -/
theorem pay24_apply (d : Fin 128) (r : Fin 256) : k0_pay24 P (ix5 0 0 0 d r) = P (ix2 r ⟨256 + d.val, by omega⟩) := by
  pointwise [k0_pay24]

/-- Head 3's values. -/
theorem pay26_apply (d : Fin 128) (r : Fin 256) : k0_pay26 P (ix5 0 0 0 d r) = P (ix2 r ⟨384 + d.val, by omega⟩) := by
  pointwise [k0_pay26]

/-- The rows below the values. -/
def below (e : Fin 16) : EReal := if e.val = 0 then 1 else 0

/-- The body's rows below the values. -/
theorem pay6_apply (e : Fin 16) (r : Fin 256) : k0_pay6 (F := Ideal) (ix2 e r) = below e := by
  unfold k0_pay6 below
  have h : IntOp.cmpi .eq (BitVec.ofNat 32 e.val) 0#32 = if e.val = 0 then 1#1 else 0#1 := by
    revert e
    decide +kernel
  by_cases h0 : e.val = 0
  · simp only [h0, if_true] at h
    pointwise [h, h0]
  · simp only [h0, if_false] at h
    pointwise [h, h0]

/-- They are stored below every head's values. -/
theorem pay21_apply (e : Fin 16) (r : Fin 256) : k0_pay21 (F := Ideal) k0_pay6 (ix5 0 0 0 e r) = below e := by
  unfold k0_pay21
  pointwise [pay6_apply]

/-- They are stored below every head's values. -/
theorem pay23_apply (e : Fin 16) (r : Fin 256) : k0_pay23 (F := Ideal) k0_pay6 (ix5 0 0 0 e r) = below e := by
  unfold k0_pay23
  pointwise [pay6_apply]

/-- They are stored below every head's values. -/
theorem pay25_apply (e : Fin 16) (r : Fin 256) : k0_pay25 (F := Ideal) k0_pay6 (ix5 0 0 0 e r) = below e := by
  unfold k0_pay25
  pointwise [pay6_apply]

/-- They are stored below every head's values. -/
theorem pay27_apply (e : Fin 16) (r : Fin 256) : k0_pay27 (F := Ideal) k0_pay6 (ix5 0 0 0 e r) = below e := by
  unfold k0_pay27
  pointwise [pay6_apply]

end

end Cert.Kernel6Ideal.EvenInRows

end
-- ==== Proof.EvenInValue.lean ====
/- The input projection of the first layer: its four result arrays are `evU`, `evQ`, `evK` and `evV` of the arguments. -/
module

public import proofs.«01_k».proof.Proof.EvenInRows
public import proofs.«01_k».proof.Proof.EvenInSpec
public import Idealize.ShloMosaic.Lib.Pipeline.ValueKit
public import Idealize.ShloMosaic.Lib.Claim

@[expose] public section

set_option maxRecDepth 16384

noncomputable section

namespace Cert.Kernel6Ideal.EvenInValue

open Cert.Kernel6Ideal Cert.Kernel6Ideal.Gen Cert.Kernel6Ideal.EvenInRows Idealize.ShloMosaic Idealize.ShloMosaic.TcCoe
  Idealize.SL.Sem Cert.Rows
open Idealize.ShloMosaic.Pipeline (Dat)

variable (m : (ℓ : Loc nD τ sig) → Buf (Elt Ideal) ℓ) (ρ : Dev nD → PrngReg)

/-- The table of one function of the angles over the stream: the row angles' entries twice, the column angles' twice, and
    a constant for the context. -/
def table (a b c d : FVec Ideal S8192x16 .f32) (w : BitVec 32) : FVec Ideal S8448x64 .f32 :=
  concatenate S8448x64 0 [⟨S8192x64, concatenate S8192x64 1 [⟨S8192x16, a⟩, ⟨S8192x16, b⟩, ⟨S8192x16, c⟩, ⟨S8192x16, d⟩]
      concatenates_S8192x16_S8192x16_S8192x16_S8192x16_S8192x64_d1⟩,
    ⟨S256x64, broadcastInDim S256x64 ![] bcast_S_S256x64 (constant S_ FTy.f32 w)⟩] concatenates_S8192x64_S256x64_S8448x64_d0

/-- The table twice, for the two halves of a head. -/
def table2 (t : FVec Ideal S8448x64 .f32) : FVec Ideal S8448x128 .f32 :=
  concatenate S8448x128 1 [⟨S8448x64, t⟩, ⟨S8448x64, t⟩] concatenates_S8448x64_S8448x64_S8448x128_d1

/-- The host's table of cosines. -/
theorem Vcos (c : Dev nD) : V m c main_v8 = table2 (table (m ((c : Thread nD τ).loc main_arg5)) (m ((c : Thread nD τ).loc main_arg5)) (m ((c : Thread nD τ).loc main_arg7)) (m ((c : Thread nD τ).loc main_arg7)) 0x3F800000#32) := by
  unfold_abbrev_sides
  after_results
  rfl

/-- The host's table of sines, those of the first half of a group negated. -/
theorem Vsin (c : Dev nD) : V m c main_v9 = table2 (table (Host.negf (m ((c : Thread nD τ).loc main_arg6))) (m ((c : Thread nD τ).loc main_arg6)) (Host.negf (m ((c : Thread nD τ).loc main_arg8))) (m ((c : Thread nD τ).loc main_arg8)) 0x00000000#32) := by
  unfold_abbrev_sides
  after_results
  rfl

/-- The table at a latent. -/
theorem table_lat (a b c d : FVec Ideal S8192x16 .f32) (w : BitVec 32) (s : Fin 8448) (hs : s.val < 8192) (l : Fin 128) (k : Fin 16)
    (hk : k.val = l.val % 16) :
    table2 (table a b c d w) (ix2 s l)
      = if l.val % 64 < 32 then (if l.val % 32 < 16 then a (ix2 ⟨s.val, hs⟩ k) else b (ix2 ⟨s.val, hs⟩ k))
        else if l.val % 32 < 16 then c (ix2 ⟨s.val, hs⟩ k) else d (ix2 ⟨s.val, hs⟩ k) := by
  by_cases h1 : l.val % 64 < 32 <;> by_cases h2 : l.val % 32 < 16 <;> simp only [h1, h2, if_true, if_false] <;> unfold table2 table <;>
    (pointwise [hs]) <;> split_ifs <;>
    first
    | (exfalso; omega)
    | contradiction
    | exact congrArg a (congrArg (ix2 _) (Fin.ext (by dsimp only; omega)))
    | exact congrArg b (congrArg (ix2 _) (Fin.ext (by dsimp only; omega)))
    | exact congrArg c (congrArg (ix2 _) (Fin.ext (by dsimp only; omega)))
    | exact congrArg d (congrArg (ix2 _) (Fin.ext (by dsimp only; omega)))

/-- The table at a token of the context. -/
theorem table_ctx (a b c d : FVec Ideal S8192x16 .f32) (w : BitVec 32) (s : Fin 8448) (hs : ¬ s.val < 8192) (l : Fin 128) :
    table2 (table a b c d w) (ix2 s l) = Ideal.ofBits .f32 w := by
  unfold table2 table
  by_cases h : l.val < 64
  · pointwise [hs, h]
  · pointwise [hs, h]

/-- The turn by the tables' rows is the rotation by the token's position. -/
theorem turn_eq (P : FVec Ideal S256x512 .f32) (C S : FVec Ideal S256x128 .f32) (r : Fin 256) (s : Fin 8448) (f : Fin 512 → EReal)
    (cr sr cc sc : FVec Ideal S8192x16 .f32) (hP : ∀ c, P (ix2 r c) = f c)
    (hC : ∀ l, C (ix2 r l) = table2 (table cr cr cc cc 0x3F800000#32) (ix2 s l))
    (hS : ∀ l, S (ix2 r l) = table2 (table (Host.negf sr) sr (Host.negf sc) sc 0x00000000#32) (ix2 s l)) (c : Fin 512) :
    turn P C S r c = rope cr sr cc sc f s c := by
  unfold turn rope
  simp only [hP, hC, hS]
  by_cases hs : s.val < 8192
  · have hk : (⟨c.val % 16, Nat.mod_lt _ (by norm_num)⟩ : Fin 16).val = (⟨c.val % 128, Nat.mod_lt _ (by norm_num)⟩ : Fin 128).val % 16 := by
      dsimp only
      omega
    have m64 : c.val % 128 % 64 = c.val % 64 := by omega
    have m32 : c.val % 128 % 32 = c.val % 32 := by omega
    rw [table_lat _ _ _ _ _ s hs _ _ hk, table_lat _ _ _ _ _ s hs _ _ hk, dif_pos hs]
    unfold rot
    by_cases h1 : c.val % 32 < 16 <;> by_cases h2 : c.val % 64 < 32 <;> simp only [m64, m32, h1, h2, if_true, if_false]
    · rw [sub_eq_add_neg, ← mul_neg]
      rfl
    · rw [sub_eq_add_neg, ← mul_neg]
      rfl
  · rw [table_ctx _ _ _ _ _ s hs, table_ctx _ _ _ _ _ s hs, dif_neg hs, Ideal.ofBits_one_f32, Ideal.ofBits_zero_f32, mul_one, mul_zero, add_zero]

/-- The second grid coordinate is the point's number modulo 33. -/
theorem coord_eq : ∀ t : Fin cfg0.N, (grid0.coords t 1).val = t.val % 33 :=
  (by decide +kernel : ∀ t : Fin grid0.N, _)

/-- Where each window's block lies at each point. -/
theorem idx_facts : ∀ t : Fin cfg0.N, win0_0.index t = ![t.val / 33, min (t.val % 33) 31, 0]
    ∧ win0_1.index t = ![t.val / 33, 0, 0]
    ∧ win0_2.index t = ![if t.val % 33 < 32 then t.val / 33 else 4, 0, 0] ∧ win0_3.index t = ![0, 0]
    ∧ win0_4.index t = ![0, 0] ∧ win0_5.index t = ![t.val % 33, 0] ∧ win0_6.index t = ![t.val % 33, 0]
    ∧ win0_7.index t = ![t.val / 33, t.val % 33, 0] ∧ win0_8.index t = ![t.val / 33, 0, 0, t.val % 33]
    ∧ win0_9.index t = ![t.val / 33, t.val % 33, 0]
    ∧ win0_10.index t = ![t.val / 33, 0, t.val % 33 / 3, 0, t.val % 33 % 3] :=
  (by decide +kernel : ∀ t : Fin grid0.N, _)

section Blocks
variable (c : Dev nD) (t : Fin cfg0.N)

/-- The grid has 132 points. -/
theorem hN : t.val < 132 := t.isLt

/-- The tile's rows of the latents. -/
theorem blk0 (r : Fin 256) (k : Fin 1024) (b : Fin 4) (s : Fin 8192) (hb : b.val = t.val / 33)
    (hs : s.val = t.val % 33 * 256 + r.val) :
    iblk m c 0 t (ix3 0 r k) = (m ((c : Thread nD τ).loc main_arg0)) (ix3 b s k) := by
  blk_ext [iblk, V, idx_facts t]
/-- The context's rows. -/
theorem blk1 (r : Fin 256) (k : Fin 1024) (b : Fin 4) (hb : b.val = t.val / 33) :
    iblk m c 1 t (ix3 0 r k) = (m ((c : Thread nD τ).loc main_arg1)) (ix3 b r k) := by
  blk_ext [iblk, V, idx_facts t]
/-- The modulations' block. -/
theorem blk2 (k : Fin 6144) (q : Fin 8) (hq : q.val = if t.val % 33 < 32 then t.val / 33 else 4) :
    iblk m c 2 t (ix3 0 0 k) = (m ((c : Thread nD τ).loc main_arg2)) (ix3 0 q k) := by
  have := hN t
  blk_ext! [iblk, V, idx_facts t] <;> (split_ifs at hq ⊢ <;> omega)
/-- The norm's gain. -/
theorem blk3 (k : Fin 1024) : iblk m c 3 t (ix2 0 k) = (m ((c : Thread nD τ).loc main_arg3)) (ix1 k) := by
  blk_ext! [iblk, V, idx_facts t]
/-- The projection's matrix. -/
theorem blk4 (k : Fin 1024) (n : Fin 3072) : iblk m c 4 t (ix2 k n) = (m ((c : Thread nD τ).loc main_arg4)) (ix2 k n) := by
  blk_ext! [iblk, V, idx_facts t]
/-- The cosines' rows. -/
theorem blk5 (r : Fin 256) (l : Fin 128) (s : Fin 8448) (hs : s.val = t.val % 33 * 256 + r.val) :
    iblk m c 5 t (ix2 r l) = table2 (table (m ((c : Thread nD τ).loc main_arg5)) (m ((c : Thread nD τ).loc main_arg5)) (m ((c : Thread nD τ).loc main_arg7)) (m ((c : Thread nD τ).loc main_arg7)) 0x3F800000#32) (ix2 s l) := by
  rw [← Vcos]
  blk_ext [iblk, idx_facts t]
/-- The sines' rows. -/
theorem blk6 (r : Fin 256) (l : Fin 128) (s : Fin 8448) (hs : s.val = t.val % 33 * 256 + r.val) :
    iblk m c 6 t (ix2 r l) = table2 (table (Host.negf (m ((c : Thread nD τ).loc main_arg6))) (m ((c : Thread nD τ).loc main_arg6)) (Host.negf (m ((c : Thread nD τ).loc main_arg8))) (m ((c : Thread nD τ).loc main_arg8)) 0x00000000#32) (ix2 s l) := by
  rw [← Vsin]
  blk_ext [iblk, idx_facts t]

/-- The row the body takes is the token's. -/
theorem sel_eq (r : Fin 256) (b : Fin 4) (s : Fin 8448) (hb : b.val = t.val / 33) (hs : s.val = t.val % 33 * 256 + r.val) :
    selRow (grid0.coords t) (iblk m c 0 t) (iblk m c 1 t) r = pairRow (m ((c : Thread nD τ).loc main_arg0)) (m ((c : Thread nD τ).loc main_arg1)) b s := by
  have ht := hN t
  have hr := r.isLt
  have h33 := Nat.mod_lt t.val (by norm_num : 0 < 33)
  funext k
  unfold selRow
  rw [coord_eq]
  by_cases h : s.val < 8192
  · rw [if_neg (by omega), pairRow_lat _ _ _ _ h, blk0 m c t r k b ⟨s.val, h⟩ hb hs]
  · rw [if_pos (by omega), pairRow_ctx _ _ _ _ h, blk1 m c t r k b hb]
    exact congrArg _ (congrArg (fun z => ix3 b z k) (Fin.ext (by dsimp only; omega)))

/-- The modulation row of a token of the tile. -/
theorem modOf_eq (r : Fin 256) (b : Fin 4) (s : Fin 8448) (hb : b.val = t.val / 33) (hs : s.val = t.val % 33 * 256 + r.val) :
    (modOf b s).val = if t.val % 33 < 32 then t.val / 33 else 4 := by
  have hr := r.isLt
  unfold modOf
  by_cases h : s.val < 8192
  · rw [if_pos h, if_pos (by omega)]
    exact hb
  · rw [if_neg h, if_neg (by omega)]
    rfl

/-- The norm the body takes is the token's. -/
theorem norm_eq (r : Fin 256) (b : Fin 4) (s : Fin 8448) (hb : b.val = t.val / 33) (hs : s.val = t.val % 33 * 256 + r.val) :
    (fun k => (k0_pay2 (grid0.coords t) (iblk m c 2 t) (iblk m c 1 t) (iblk m c 0 t) (iblk m c 3 t)) (ix2 r k)) = modNorm (pairRow (m ((c : Thread nD τ).loc main_arg0)) (m ((c : Thread nD τ).loc main_arg1)) b s) (fun k => (m ((c : Thread nD τ).loc main_arg3)) (ix1 k))
      (piece (fun k => (m ((c : Thread nD τ).loc main_arg2)) (ix3 0 (modOf b s) k)) 1024 (by omega)) (piece (fun k => (m ((c : Thread nD τ).loc main_arg2)) (ix3 0 (modOf b s) k)) 0 (by omega)) := by
  funext k
  rw [pay2_apply, sel_eq m c t r b s hb hs]
  simp only [blk2 m c t _ _ (modOf_eq t r b s hb hs), blk3]

/-- The product with the matrix's columns from `o` on. -/
theorem row_eq {N : ℕ} (wb : Fin 1024 → Fin N → EReal) (o : ℕ) (ho : o + N ≤ 3072) (hw : ∀ k n, wb k n = (m ((c : Thread nD τ).loc main_arg4)) (ix2 k ⟨o + n.val, by omega⟩))
    (r : Fin 256) (b : Fin 4) (s : Fin 8448) (hb : b.val = t.val / 33) (hs : s.val = t.val % 33 * 256 + r.val) (j : Fin N) :
    rowMul (fun k => (k0_pay2 (grid0.coords t) (iblk m c 2 t) (iblk m c 1 t) (iblk m c 0 t) (iblk m c 3 t)) (ix2 r k)) wb j = evProj (m ((c : Thread nD τ).loc main_arg0)) (m ((c : Thread nD τ).loc main_arg1)) (m ((c : Thread nD τ).loc main_arg2)) (m ((c : Thread nD τ).loc main_arg3)) (m ((c : Thread nD τ).loc main_arg4)) b s ⟨o + j.val, by omega⟩ := by
  rw [norm_eq m c t r b s hb hs]
  unfold evProj rowMul
  simp only [hw]

/-- The first mixer's columns of the matrix. -/
theorem ldU (k : Fin 1024) (n : Fin 1536) :
    View.ld (iblk m c 4 t) (Rect.unit ![0, 0] ![1024, 1536] inb_S1024x3072_S1024x1536_0_0) (ix2 k n) = (m ((c : Thread nD τ).loc main_arg4)) (ix2 k ⟨0 + n.val, by omega⟩) := by
  rw [← blk4 m c t]
  pointwise
/-- The queries' columns of the matrix. -/
theorem ldQ (k : Fin 1024) (n : Fin 512) :
    View.ld (iblk m c 4 t) (Rect.unit ![0, 1536] ![1024, 512] inb_S1024x3072_S1024x512_0_1536) (ix2 k n) = (m ((c : Thread nD τ).loc main_arg4)) (ix2 k ⟨1536 + n.val, by omega⟩) := by
  rw [← blk4 m c t]
  pointwise
/-- The keys' columns of the matrix. -/
theorem ldK (k : Fin 1024) (n : Fin 512) :
    View.ld (iblk m c 4 t) (Rect.unit ![0, 2048] ![1024, 512] inb_S1024x3072_S1024x512_0_2048) (ix2 k n) = (m ((c : Thread nD τ).loc main_arg4)) (ix2 k ⟨2048 + n.val, by omega⟩) := by
  rw [← blk4 m c t]
  pointwise
/-- The values' columns of the matrix. -/
theorem ldV (k : Fin 1024) (n : Fin 512) :
    View.ld (iblk m c 4 t) (Rect.unit ![0, 2560] ![1024, 512] inb_S1024x3072_S1024x512_0_2560) (ix2 k n) = (m ((c : Thread nD τ).loc main_arg4)) (ix2 k ⟨2560 + n.val, by omega⟩) := by
  rw [← blk4 m c t]
  pointwise

/-- The rotated queries of a tile's token. -/
theorem turnQ (r : Fin 256) (b : Fin 4) (s : Fin 8448) (hb : b.val = t.val / 33) (hs : s.val = t.val % 33 * 256 + r.val) (j : Fin 512) :
    turn (k0_pay7 (k0_pay2 (grid0.coords t) (iblk m c 2 t) (iblk m c 1 t) (iblk m c 0 t) (iblk m c 3 t)) (View.ld (iblk m c 4 t) (Rect.unit ![0, 1536] ![1024, 512] inb_S1024x3072_S1024x512_0_1536))) (iblk m c 5 t) (iblk m c 6 t) r j
      = rope (m ((c : Thread nD τ).loc main_arg5)) (m ((c : Thread nD τ).loc main_arg6)) (m ((c : Thread nD τ).loc main_arg7)) (m ((c : Thread nD τ).loc main_arg8)) (cols (evProj (m ((c : Thread nD τ).loc main_arg0)) (m ((c : Thread nD τ).loc main_arg1)) (m ((c : Thread nD τ).loc main_arg2)) (m ((c : Thread nD τ).loc main_arg3)) (m ((c : Thread nD τ).loc main_arg4)) b s) 1536 (by omega)) s j :=
  turn_eq _ _ _ r s _ _ _ _ _ (fun j => (pay7_apply _ _ r j).trans (row_eq m c t _ 1536 (by omega) (ldQ m c t) r b s hb hs j))
    (fun l => blk5 m c t r l s hs) (fun l => blk6 m c t r l s hs) j

/-- The rotated keys of a tile's token. -/
theorem turnK (r : Fin 256) (b : Fin 4) (s : Fin 8448) (hb : b.val = t.val / 33) (hs : s.val = t.val % 33 * 256 + r.val) (j : Fin 512) :
    turn (k0_pay13 (k0_pay2 (grid0.coords t) (iblk m c 2 t) (iblk m c 1 t) (iblk m c 0 t) (iblk m c 3 t)) (View.ld (iblk m c 4 t) (Rect.unit ![0, 2048] ![1024, 512] inb_S1024x3072_S1024x512_0_2048))) (iblk m c 5 t) (iblk m c 6 t) r j
      = rope (m ((c : Thread nD τ).loc main_arg5)) (m ((c : Thread nD τ).loc main_arg6)) (m ((c : Thread nD τ).loc main_arg7)) (m ((c : Thread nD τ).loc main_arg8)) (cols (evProj (m ((c : Thread nD τ).loc main_arg0)) (m ((c : Thread nD τ).loc main_arg1)) (m ((c : Thread nD τ).loc main_arg2)) (m ((c : Thread nD τ).loc main_arg3)) (m ((c : Thread nD τ).loc main_arg4)) b s) 2048 (by omega)) s j :=
  turn_eq _ _ _ r s _ _ _ _ _ (fun j => (pay13_apply _ _ r j).trans (row_eq m c t _ 2048 (by omega) (ldK m c t) r b s hb hs j))
    (fun l => blk5 m c t r l s hs) (fun l => blk6 m c t r l s hs) j

/-- The values of a tile's token. -/
theorem rowV (r : Fin 256) (b : Fin 4) (s : Fin 8448) (hb : b.val = t.val / 33) (hs : s.val = t.val % 33 * 256 + r.val) (j : Fin 512) :
    k0_pay19 (k0_pay2 (grid0.coords t) (iblk m c 2 t) (iblk m c 1 t) (iblk m c 0 t) (iblk m c 3 t)) (View.ld (iblk m c 4 t) (Rect.unit ![0, 2560] ![1024, 512] inb_S1024x3072_S1024x512_0_2560)) (ix2 r j)
      = cols (evProj (m ((c : Thread nD τ).loc main_arg0)) (m ((c : Thread nD τ).loc main_arg1)) (m ((c : Thread nD τ).loc main_arg2)) (m ((c : Thread nD τ).loc main_arg3)) (m ((c : Thread nD τ).loc main_arg4)) b s) 2560 (by omega) j :=
  (pay19_apply _ _ r j).trans (row_eq m c t _ 2560 (by omega) (ldV m c t) r b s hb hs j)

/-- The first mixer's columns of a tile's token. -/
theorem atU (r : Fin 256) (b : Fin 4) (s : Fin 8448) (hb : b.val = t.val / 33) (hs : s.val = t.val % 33 * 256 + r.val) (j : Fin 1536) :
    k0_pay28 (k0_pay2 (grid0.coords t) (iblk m c 2 t) (iblk m c 1 t) (iblk m c 0 t) (iblk m c 3 t)) (View.ld (iblk m c 4 t) (Rect.unit ![0, 0] ![1024, 1536] inb_S1024x3072_S1024x1536_0_0)) (ix2 r j) = evU (m ((c : Thread nD τ).loc main_arg0)) (m ((c : Thread nD τ).loc main_arg1)) (m ((c : Thread nD τ).loc main_arg2)) (m ((c : Thread nD τ).loc main_arg3)) (m ((c : Thread nD τ).loc main_arg4)) (ix3 b s j) := by
  rw [pay28_apply, row_eq m c t _ 0 (by omega) (ldU m c t) r b s hb hs]
  exact congrArg _ (Fin.ext (Nat.zero_add _))

/-- The queries of a tile's token. -/
theorem atQ (r : Fin 256) (b h : Fin 4) (d : Fin 128) (s : Fin 8448) (hb : b.val = t.val / 33) (hs : s.val = t.val % 33 * 256 + r.val)
    (j : Fin 512) (hj : j.val = h.val * 128 + d.val) :
    turn (k0_pay7 (k0_pay2 (grid0.coords t) (iblk m c 2 t) (iblk m c 1 t) (iblk m c 0 t) (iblk m c 3 t)) (View.ld (iblk m c 4 t) (Rect.unit ![0, 1536] ![1024, 512] inb_S1024x3072_S1024x512_0_1536))) (iblk m c 5 t) (iblk m c 6 t) r j * qFactor
      = evQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix4 b h d s) := by
  rw [turnQ m c t r b s hb hs]
  have hB : h.val * 128 + d.val < 512 := by omega
  obtain rfl : j = ⟨h.val * 128 + d.val, hB⟩ := Fin.ext hj
  rfl

/-- The keys of a tile's token. -/
theorem atK (r : Fin 256) (b : Fin 4) (s : Fin 8448) (hb : b.val = t.val / 33) (hs : s.val = t.val % 33 * 256 + r.val)
    (j k : Fin 512) (hj : j.val = k.val) :
    turn (k0_pay13 (k0_pay2 (grid0.coords t) (iblk m c 2 t) (iblk m c 1 t) (iblk m c 0 t) (iblk m c 3 t)) (View.ld (iblk m c 4 t) (Rect.unit ![0, 2048] ![1024, 512] inb_S1024x3072_S1024x512_0_2048))) (iblk m c 5 t) (iblk m c 6 t) r j
      = evK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix3 b s k) := by
  rw [turnK m c t r b s hb hs]
  obtain rfl : j = k := Fin.ext hj
  rfl

/-- The values of a tile's token. -/
theorem atV (r : Fin 256) (b h : Fin 4) (n : Fin 11) (e : Fin 144) (p : Fin 768) (hb : b.val = t.val / 33)
    (hs : n.val * 768 + p.val = t.val % 33 * 256 + r.val) (he : e.val < 128) (j : Fin 512) (hj : j.val = h.val * 128 + e.val) :
    k0_pay19 (k0_pay2 (grid0.coords t) (iblk m c 2 t) (iblk m c 1 t) (iblk m c 0 t) (iblk m c 3 t)) (View.ld (iblk m c 4 t) (Rect.unit ![0, 2560] ![1024, 512] inb_S1024x3072_S1024x512_0_2560)) (ix2 r j)
      = evV (m ((c : Thread nD τ).loc main_arg0)) (m ((c : Thread nD τ).loc main_arg1)) (m ((c : Thread nD τ).loc main_arg2)) (m ((c : Thread nD τ).loc main_arg3)) (m ((c : Thread nD τ).loc main_arg4)) (ix5 b h n e p) := by
  rw [rowV m c t r b ⟨n.val * 768 + p.val, by omega⟩ hb hs]
  have hB : h.val * 128 + e.val < 512 := by omega
  obtain rfl : j = ⟨h.val * 128 + e.val, hB⟩ := Fin.ext hj
  refine Eq.trans ?_ (dif_pos (by show e.val < 128; exact he)).symm
  rfl

/-- The rows below the values. -/
theorem atBelow (b h : Fin 4) (n : Fin 11) (e : Fin 144) (p : Fin 768) (a : Fin 16) (ha : e.val = 128 + a.val) :
    below a = evV (m ((c : Thread nD τ).loc main_arg0)) (m ((c : Thread nD τ).loc main_arg1)) (m ((c : Thread nD τ).loc main_arg2)) (m ((c : Thread nD τ).loc main_arg3)) (m ((c : Thread nD τ).loc main_arg4)) (ix5 b h n e p) := by
  refine Eq.trans ?_ (dif_neg (by show ¬ e.val < 128; omega)).symm
  unfold below
  show (if a.val = 0 then (1 : EReal) else 0) = if e.val = 128 then 1 else 0
  by_cases h0 : a.val = 0
  · rw [if_pos h0, if_pos (by omega)]
  · rw [if_neg h0, if_neg (by omega)]
end Blocks

/-- The first mixer's array after the run. -/
theorem final7 (c : Dev nD) : (dats m 0 c).arrAt 7 cfg0.N = (evU (m ((c : Thread nD τ).loc main_arg0)) (m ((c : Thread nD τ).loc main_arg1)) (m ((c : Thread nD τ).loc main_arg2)) (m ((c : Thread nD τ).loc main_arg3)) (m ((c : Thread nD τ).loc main_arg4)) : Buf (Elt Ideal) ((c : Thread nD τ).loc main_v13_0)) := by
  refine (dats m 0 c).arrAt_eq_of_covers 7 _ (by decide +kernel) fun t hf y => ?_
  blk_simp
  rw [after0_7, outsAt0]
  dsimp only
  frame_out
  have ht := hN t
  have h33 := Nat.mod_lt t.val (by norm_num : 0 < 33)
  idx_vars y
  obtain rfl : y0 = 0 := Subsingleton.elim _ _
  have e : ((View.whole main_v13_0).slice (win0_7.rect t)).emb (ix3 0 y1 y2)
      = (ix3 ⟨t.val / 33, by omega⟩ ⟨t.val % 33 * 256 + y1.val, by omega⟩ y2 : S4x8448x1536.Idx) := by
    blk_ext [idx_facts t]
  rw [e]
  pointwise [k0_pay1]
  exact atU m c t _ _ _ rfl rfl _

/-- The queries' array after the run. -/
theorem final8 (c : Dev nD) : (dats m 0 c).arrAt 8 cfg0.N = (evQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : Buf (Elt Ideal) ((c : Thread nD τ).loc main_v13_1)) := by
  refine (dats m 0 c).arrAt_eq_of_covers 8 _ (by decide +kernel) fun t hf y => ?_
  blk_simp
  rw [after0_8, outsAt0]
  dsimp only
  frame_out
  have ht := hN t
  have h33 := Nat.mod_lt t.val (by norm_num : 0 < 33)
  idx_vars y
  obtain rfl : y0 = 0 := Subsingleton.elim _ _
  have e : ((View.whole main_v13_1).slice (win0_8.rect t)).emb (ix4 0 y1 y2 y3)
      = (ix4 ⟨t.val / 33, by omega⟩ y1 y2 ⟨t.val % 33 * 256 + y3.val, by omega⟩ : S4x4x128x8448.Idx) := by
    blk_ext [idx_facts t]
  rw [e]
  canon_tiles x h
  · idx_vars x
    obtain rfl : x0 = 0 := Subsingleton.elim _ _
    obtain rfl : x1 = 0 := Subsingleton.elim _ _
    obtain rfl : y2 = x2 := Fin.ext h2
    obtain rfl : y3 = x3 := Fin.ext h3
    have h1' : y1.val = 3 := h1
    exact (pay12_apply _ _ _ _ _).trans (atQ m c t _ _ _ _ _ rfl rfl _ (by dsimp only; omega))
  · idx_vars x
    obtain rfl : x0 = 0 := Subsingleton.elim _ _
    obtain rfl : x1 = 0 := Subsingleton.elim _ _
    obtain rfl : y2 = x2 := Fin.ext h2
    obtain rfl : y3 = x3 := Fin.ext h3
    have h1' : y1.val = 2 := h1
    exact (pay10_apply _ _ _ _ _).trans (atQ m c t _ _ _ _ _ rfl rfl _ (by dsimp only; omega))
  · idx_vars x
    obtain rfl : x0 = 0 := Subsingleton.elim _ _
    obtain rfl : x1 = 0 := Subsingleton.elim _ _
    obtain rfl : y2 = x2 := Fin.ext h2
    obtain rfl : y3 = x3 := Fin.ext h3
    have h1' : y1.val = 1 := h1
    exact (pay9_apply _ _ _ _ _).trans (atQ m c t _ _ _ _ _ rfl rfl _ (by dsimp only; omega))
  · idx_vars x
    obtain rfl : x0 = 0 := Subsingleton.elim _ _
    obtain rfl : x1 = 0 := Subsingleton.elim _ _
    obtain rfl : y2 = x2 := Fin.ext h2
    obtain rfl : y3 = x3 := Fin.ext h3
    have h1' : y1.val = 0 := h1
    exact (pay8_apply _ _ _ _ _ _).trans (atQ m c t _ _ _ _ _ rfl rfl _ (by dsimp only; omega))

/-- The keys' array after the run. -/
theorem final9 (c : Dev nD) : (dats m 0 c).arrAt 9 cfg0.N = (evK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : Buf (Elt Ideal) ((c : Thread nD τ).loc main_v13_2)) := by
  refine (dats m 0 c).arrAt_eq_of_covers 9 _ (by decide +kernel) fun t hf y => ?_
  blk_simp
  rw [after0_9, outsAt0]
  dsimp only
  frame_out
  have ht := hN t
  have h33 := Nat.mod_lt t.val (by norm_num : 0 < 33)
  idx_vars y
  obtain rfl : y0 = 0 := Subsingleton.elim _ _
  have e : ((View.whole main_v13_2).slice (win0_9.rect t)).emb (ix3 0 y1 y2)
      = (ix3 ⟨t.val / 33, by omega⟩ ⟨t.val % 33 * 256 + y1.val, by omega⟩ y2 : S4x8448x512.Idx) := by
    blk_ext [idx_facts t]
  rw [e]
  canon_tiles x h
  · idx_vars x
    obtain rfl : x0 = 0 := Subsingleton.elim _ _
    obtain rfl : y1 = x1 := Fin.ext h1
    have h2' : y2.val = 384 + x2.val := h2
    exact (pay18_apply _ _ _ _ _).trans (atK m c t _ _ _ rfl rfl _ _ (by dsimp only; omega))
  · idx_vars x
    obtain rfl : x0 = 0 := Subsingleton.elim _ _
    obtain rfl : y1 = x1 := Fin.ext h1
    have h2' : y2.val = 256 + x2.val := h2
    exact (pay17_apply _ _ _ _ _ _).trans (atK m c t _ _ _ rfl rfl _ _ (by dsimp only; omega))
  · idx_vars x
    obtain rfl : x0 = 0 := Subsingleton.elim _ _
    obtain rfl : y1 = x1 := Fin.ext h1
    have h2' : y2.val = 128 + x2.val := h2
    exact (pay15_apply _ _ _ _ _ _).trans (atK m c t _ _ _ rfl rfl _ _ (by dsimp only; omega))
  · idx_vars x
    obtain rfl : x0 = 0 := Subsingleton.elim _ _
    obtain rfl : y1 = x1 := Fin.ext h1
    have h2' : y2.val = 0 + x2.val := h2.trans (Nat.zero_add _).symm
    exact (pay14_apply _ _ _ _ _ _).trans (atK m c t _ _ _ rfl rfl _ _ (by dsimp only; omega))

/-- The values' array after the run. -/
theorem final10 (c : Dev nD) : (dats m 0 c).arrAt 10 cfg0.N = (evV (m ((c : Thread nD τ).loc main_arg0)) (m ((c : Thread nD τ).loc main_arg1)) (m ((c : Thread nD τ).loc main_arg2)) (m ((c : Thread nD τ).loc main_arg3)) (m ((c : Thread nD τ).loc main_arg4)) : Buf (Elt Ideal) ((c : Thread nD τ).loc main_v13_3)) := by
  refine (dats m 0 c).arrAt_eq_of_covers 10 _ (by decide +kernel) fun t hf y => ?_
  blk_simp
  rw [after0_10, outsAt0]
  dsimp only
  frame_out
  have ht := hN t
  have h33 := Nat.mod_lt t.val (by norm_num : 0 < 33)
  idx_vars y
  obtain rfl : y0 = 0 := Subsingleton.elim _ _
  obtain rfl : y2 = 0 := Subsingleton.elim _ _
  have e : ((View.whole main_v13_3).slice (win0_10.rect t)).emb (ix5 0 y1 0 y3 y4)
      = (ix5 ⟨t.val / 33, by omega⟩ y1 ⟨t.val % 33 / 3, by omega⟩ y3 ⟨t.val % 33 % 3 * 256 + y4.val, by omega⟩ : S4x4x11x144x768.Idx) := by
    blk_ext [idx_facts t]
  rw [e]
  canon_tiles x h using (View.cover_of_tiledBy _ ![1, 1, 1, 16, 256] (by sl_kernel_rfl) _)
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 3 := h1
    have h3' : y3.val = 128 + x3.val := h3
    have h33' := Nat.div_add_mod (t.val % 33) 3
    exact (pay27_apply _ _).trans (atBelow m c _ _ _ _ _ _ h3')
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 3 := h1
    have h3' : y3.val = 0 + x3.val := h3.trans (Nat.zero_add _).symm
    have h33' := Nat.div_add_mod (t.val % 33) 3
    exact (pay26_apply _ _ _).trans (atV m c t _ _ _ _ _ _ rfl (by dsimp only; omega) (by omega) _ (by dsimp only; omega))
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 2 := h1
    have h3' : y3.val = 128 + x3.val := h3
    have h33' := Nat.div_add_mod (t.val % 33) 3
    exact (pay25_apply _ _).trans (atBelow m c _ _ _ _ _ _ h3')
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 2 := h1
    have h3' : y3.val = 0 + x3.val := h3.trans (Nat.zero_add _).symm
    have h33' := Nat.div_add_mod (t.val % 33) 3
    exact (pay24_apply _ _ _).trans (atV m c t _ _ _ _ _ _ rfl (by dsimp only; omega) (by omega) _ (by dsimp only; omega))
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 1 := h1
    have h3' : y3.val = 128 + x3.val := h3
    have h33' := Nat.div_add_mod (t.val % 33) 3
    exact (pay23_apply _ _).trans (atBelow m c _ _ _ _ _ _ h3')
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 1 := h1
    have h3' : y3.val = 0 + x3.val := h3.trans (Nat.zero_add _).symm
    have h33' := Nat.div_add_mod (t.val % 33) 3
    exact (pay22_apply _ _ _ _).trans (atV m c t _ _ _ _ _ _ rfl (by dsimp only; omega) (by omega) _ (by dsimp only; omega))
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 0 := h1
    have h3' : y3.val = 128 + x3.val := h3
    have h33' := Nat.div_add_mod (t.val % 33) 3
    exact (pay21_apply _ _).trans (atBelow m c _ _ _ _ _ _ h3')
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 0 := h1
    have h3' : y3.val = 0 + x3.val := h3.trans (Nat.zero_add _).symm
    have h33' := Nat.div_add_mod (t.val % 33) 3
    exact (pay20_apply _ _ _ _).trans (atV m c t _ _ _ _ _ _ rfl (by dsimp only; omega) (by omega) _ (by dsimp only; omega))

/-- The run, read: the four result arrays, the arguments unchanged. -/
theorem run : θ_run defs (onTc (τ := τ) (main (F := Ideal))) ⟨m, fun _ => 0, ρ⟩ fun r => ∀ c : Dev nD,
      r.2.mem ((c : Thread nD τ).loc main_v13_0) = evU (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v13_1) = evQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v13_2) = evK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_v13_3) = evV (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final7 m c), (h c).2.1.trans (final8 m c), (h c).2.2.1.trans (final9 m c),
    (h c).2.2.2.1.trans (final10 m c), (h c).2.2.2.2⟩) (Value.run_blocks m ρ)

end Cert.Kernel6Ideal.EvenInValue

end
-- ==== Proof.EvenInRef.lean ====
/- The reference of the first layer's input projection: its results as functions of the arguments. -/
module

public import proofs.«01_k».proof.Proof.Gen.Reference6Ideal.Read
public import proofs.«01_k».proof.Proof.EvenInSpec

@[expose] public section

set_option maxRecDepth 16384

noncomputable section

namespace Cert.Reference6Ideal.EvenInRef

open Cert.Reference6Ideal Cert.Reference6Ideal.Read Idealize.ShloMosaic Cert.Rows

variable (x0 : FVec Ideal S4x8192x1024 .f32) (x1 : FVec Ideal S4x256x1024 .f32) (x2 : FVec Ideal S4x8x6144 .f32)
  (x3 : FVec Ideal S1024 .f32) (x4 : FVec Ideal S1024x3072 .f32) (x5 x6 x7 x8 : FVec Ideal S8192x16 .f32) (b : Fin 4)

/-- The latent rows of an array of heads. -/
theorem latRows (v : FVec Ideal S4x8448x4x2x64 .f32) (hh) (s : Fin 8192) (h : Fin 4) (a : Fin 2) (e : Fin 64) : extractStridedSlice S4x8192x4x2x64 ![0, 0, 0, 0, 0] v hh (ix5 b s h a e) = v (ix5 b ⟨s.val, by omega⟩ h a e) := by
  pointwise

/-- Its context rows. -/
theorem ctxRows (v : FVec Ideal S4x8448x4x2x64 .f32) (hh) (s : Fin 256) (h : Fin 4) (a : Fin 2) (e : Fin 64) : extractStridedSlice S4x256x4x2x64 ![0, 8192, 0, 0, 0] v hh (ix5 b s h a e) = v (ix5 b ⟨8192 + s.val, by omega⟩ h a e) := by
  pointwise

/-- The first 32 columns. -/
theorem half0 (v : FVec Ideal S4x8192x4x2x64 .f32) (hh) (s : Fin 8192) (h : Fin 4) (a : Fin 2) (e : Fin 32) : extractStridedSlice S4x8192x4x2x32 ![0, 0, 0, 0, 0] v hh (ix5 b s h a e) = v (ix5 b s h a ⟨e.val, by omega⟩) := by
  pointwise

/-- The last 32 columns. -/
theorem half1 (v : FVec Ideal S4x8192x4x2x64 .f32) (hh) (s : Fin 8192) (h : Fin 4) (a : Fin 2) (e : Fin 32) : extractStridedSlice S4x8192x4x2x32 ![0, 0, 0, 0, 32] v hh (ix5 b s h a e) = v (ix5 b s h a ⟨32 + e.val, by omega⟩) := by
  pointwise

/-- The first 16 columns. -/
theorem quarter0 (v : FVec Ideal S4x8192x4x2x32 .f32) (hh) (s : Fin 8192) (h : Fin 4) (a : Fin 2) (e : Fin 16) : extractStridedSlice S4x8192x4x2x16 ![0, 0, 0, 0, 0] v hh (ix5 b s h a e) = v (ix5 b s h a ⟨e.val, by omega⟩) := by
  pointwise

/-- The last 16 columns. -/
theorem quarter1 (v : FVec Ideal S4x8192x4x2x32 .f32) (hh) (s : Fin 8192) (h : Fin 4) (a : Fin 2) (e : Fin 16) : extractStridedSlice S4x8192x4x2x16 ![0, 0, 0, 0, 16] v hh (ix5 b s h a e) = v (ix5 b s h a ⟨16 + e.val, by omega⟩) := by
  pointwise

/-- A table of angles spread over samples, heads and maps. -/
theorem angles (C : FVec Ideal S8192x16 .f32) (h0 h1 h2) (s : Fin 8192) (h : Fin 4) (a : Fin 2) (e : Fin 16) : broadcastInDim S4x8192x4x2x16 ![0, 1, 2, 3, 4] h0 (broadcastInDim S1x8192x1x1x16 ![1, 2, 3, 4] h1 (broadcastInDim S8192x1x1x16 ![0, 3] h2 C)) (ix5 b s h a e) = C (ix2 s e) := by
  pointwise

/-- The difference of two products. -/
theorem turnSub (u v C S : FVec Ideal S4x8192x4x2x16 .f32) (s : Fin 8192) (h : Fin 4) (a : Fin 2) (e : Fin 16) : subf (mulf u C) (mulf v S) (ix5 b s h a e) = u (ix5 b s h a e) * C (ix5 b s h a e) - v (ix5 b s h a e) * S (ix5 b s h a e) := by
  pointwise

/-- The sum of two products. -/
theorem turnAdd (u v C S : FVec Ideal S4x8192x4x2x16 .f32) (s : Fin 8192) (h : Fin 4) (a : Fin 2) (e : Fin 16) : addf (mulf u C) (mulf v S) (ix5 b s h a e) = u (ix5 b s h a e) * C (ix5 b s h a e) + v (ix5 b s h a e) * S (ix5 b s h a e) := by
  pointwise

/-- The keys' heads side by side. -/
theorem joined (v : FVec Ideal S4x8448x4x2x64 .f32) (h0 h1) (s : Fin 8448) (j : Fin 512) :
    truncf .bf16 (shapeCast S4x8448x512 v h0) h1 (ix3 b s j)
      = v (ix5 b s ⟨j.val / 128, by omega⟩ ⟨j.val / 64 % 2, by omega⟩ ⟨j.val % 64, by omega⟩) := by
  pointwise

/-- The projection of a row: a latent's shift and scale are its sample's row of the modulations, the context's row 4. -/
theorem proj_apply (s : Fin 8448) (j : Fin 3072) : val_main_v29 (F := Ideal) x0 x1 x2 x3 x4 (ix3 b s j)
      = evProj x0 x1 x2 x3 x4 b s j := by
  unfold val_main_v29 val_main_v28 val_main_v27 val_main_v26 val_main_v25 val_main_cst_2 val_main_v24 val_main_v23
    val_main_v22 val_main_v21 val_main_v20 val_main_v19 val_main_v18 val_main_v17 val_main_cst_1 val_main_v16
    val_main_v15 val_main_cst_0 val_main_v14 val_main_v13 val_main_cst val_main_v12 val_main_v11 val_main_v10
    val_main_v9 val_main_v8 val_main_v7 val_main_v6 val_main_v5 val_main_v4 val_main_v3 val_main_v2 val_main_v1
    val_main_v0
  by_cases h : s.val < 8192
  · pointwise [h]
    simp only [evProj, modOf, pairRow_lat _ _ _ _ h, h, if_true]
    rfl
  · pointwise [h]
    simp only [evProj, modOf, pairRow_ctx _ _ _ _ h, h, if_false]
    rfl

/-- The queries before the rotation. -/
theorem q_apply (s : Fin 8448) (h : Fin 4) (a : Fin 2) (e : Fin 64) : val_main_v34 (F := Ideal) x0 x1 x2 x3 x4 (ix5 b s h a e)
      = cols (evProj x0 x1 x2 x3 x4 b s) 1536 (by omega) ⟨h.val * 128 + a.val * 64 + e.val, by omega⟩ := by
  unfold val_main_v34 val_main_v31
  pointwise [proj_apply]
  exact congrArg (evProj x0 x1 x2 x3 x4 b s) (Fin.ext rfl)

/-- The latents' queries. -/
theorem q36_apply (s : Fin 8192) (h : Fin 4) (a : Fin 2) (e : Fin 64) : val_main_v36 (F := Ideal) x0 x1 x2 x3 x4 (ix5 b s h a e)
      = val_main_v34 (F := Ideal) x0 x1 x2 x3 x4 (ix5 b ⟨s.val, by omega⟩ h a e) := by
  unfold val_main_v36
  rw [latRows]

/-- Their first halves. -/
theorem q37_apply (s : Fin 8192) (h : Fin 4) (a : Fin 2) (e : Fin 32) : val_main_v37 (F := Ideal) x0 x1 x2 x3 x4 (ix5 b s h a e)
      = val_main_v36 (F := Ideal) x0 x1 x2 x3 x4 (ix5 b s h a ⟨e.val, by omega⟩) := by
  unfold val_main_v37
  rw [half0]

/-- Their second halves. -/
theorem q57_apply (s : Fin 8192) (h : Fin 4) (a : Fin 2) (e : Fin 32) : val_main_v57 (F := Ideal) x0 x1 x2 x3 x4 (ix5 b s h a e)
      = val_main_v36 (F := Ideal) x0 x1 x2 x3 x4 (ix5 b s h a ⟨32 + e.val, by omega⟩) := by
  unfold val_main_v57
  rw [half1]

/-- A half's first half. -/
theorem q40_apply (s : Fin 8192) (h : Fin 4) (a : Fin 2) (e : Fin 16) : val_main_v40 (F := Ideal) x0 x1 x2 x3 x4 (ix5 b s h a e)
      = val_main_v37 (F := Ideal) x0 x1 x2 x3 x4 (ix5 b s h a ⟨e.val, by omega⟩) := by
  unfold val_main_v40
  rw [quarter0]

/-- A half's second half. -/
theorem q41_apply (s : Fin 8192) (h : Fin 4) (a : Fin 2) (e : Fin 16) : val_main_v41 (F := Ideal) x0 x1 x2 x3 x4 (ix5 b s h a e)
      = val_main_v37 (F := Ideal) x0 x1 x2 x3 x4 (ix5 b s h a ⟨16 + e.val, by omega⟩) := by
  unfold val_main_v41
  rw [quarter1]

/-- A half's first half. -/
theorem q60_apply (s : Fin 8192) (h : Fin 4) (a : Fin 2) (e : Fin 16) : val_main_v60 (F := Ideal) x0 x1 x2 x3 x4 (ix5 b s h a e)
      = val_main_v57 (F := Ideal) x0 x1 x2 x3 x4 (ix5 b s h a ⟨e.val, by omega⟩) := by
  unfold val_main_v60
  rw [quarter0]

/-- A half's second half. -/
theorem q61_apply (s : Fin 8192) (h : Fin 4) (a : Fin 2) (e : Fin 16) : val_main_v61 (F := Ideal) x0 x1 x2 x3 x4 (ix5 b s h a e)
      = val_main_v57 (F := Ideal) x0 x1 x2 x3 x4 (ix5 b s h a ⟨16 + e.val, by omega⟩) := by
  unfold val_main_v61
  rw [quarter1]

/-- The context's queries. -/
theorem q78_apply (s : Fin 256) (h : Fin 4) (a : Fin 2) (e : Fin 64) : val_main_v78 (F := Ideal) x0 x1 x2 x3 x4 (ix5 b s h a e)
      = val_main_v34 (F := Ideal) x0 x1 x2 x3 x4 (ix5 b ⟨8192 + s.val, by omega⟩ h a e) := by
  unfold val_main_v78
  rw [ctxRows]

/-- That half rotated. -/
theorem q48_apply (s : Fin 8192) (h : Fin 4) (a : Fin 2) (e : Fin 16) : val_main_v48 (F := Ideal) x0 x1 x2 x3 x4 x5 x6 (ix5 b s h a e)
      = rot x5 x6 (cols (evProj x0 x1 x2 x3 x4 b ⟨s.val, by omega⟩) 1536 (by omega)) s ⟨h.val * 128 + a.val * 64 + e.val, by omega⟩ := by
  unfold val_main_v48 val_main_v47 val_main_v46 val_main_v45 val_main_v44 val_main_v43 val_main_v42 val_main_v39
    val_main_v38
  rw [turnSub, angles, angles, q40_apply, q41_apply, q37_apply, q37_apply, q36_apply, q36_apply, q_apply, q_apply]
  refine rot_fst x5 x6 _ s ?_ ?_ ?_ ?_ <;> dsimp only <;> omega

/-- That half rotated. -/
theorem q55_apply (s : Fin 8192) (h : Fin 4) (a : Fin 2) (e : Fin 16) : val_main_v55 (F := Ideal) x0 x1 x2 x3 x4 x5 x6 (ix5 b s h a e)
      = rot x5 x6 (cols (evProj x0 x1 x2 x3 x4 b ⟨s.val, by omega⟩) 1536 (by omega)) s ⟨h.val * 128 + a.val * 64 + (16 + e.val), by omega⟩ := by
  unfold val_main_v55 val_main_v54 val_main_v53 val_main_v52 val_main_v51 val_main_v50 val_main_v49 val_main_v39
    val_main_v38
  rw [turnAdd, angles, angles, q41_apply, q40_apply, q37_apply, q37_apply, q36_apply, q36_apply, q_apply, q_apply]
  refine rot_snd x5 x6 _ s ?_ ?_ ?_ ?_ <;> dsimp only <;> omega

/-- That half rotated. -/
theorem q68_apply (s : Fin 8192) (h : Fin 4) (a : Fin 2) (e : Fin 16) : val_main_v68 (F := Ideal) x0 x1 x2 x3 x4 x7 x8 (ix5 b s h a e)
      = rot x7 x8 (cols (evProj x0 x1 x2 x3 x4 b ⟨s.val, by omega⟩) 1536 (by omega)) s ⟨h.val * 128 + a.val * 64 + (32 + e.val), by omega⟩ := by
  unfold val_main_v68 val_main_v67 val_main_v66 val_main_v65 val_main_v64 val_main_v63 val_main_v62 val_main_v59
    val_main_v58
  rw [turnSub, angles, angles, q60_apply, q61_apply, q57_apply, q57_apply, q36_apply, q36_apply, q_apply, q_apply]
  refine rot_fst x7 x8 _ s ?_ ?_ ?_ ?_ <;> dsimp only <;> omega

/-- That half rotated. -/
theorem q75_apply (s : Fin 8192) (h : Fin 4) (a : Fin 2) (e : Fin 16) : val_main_v75 (F := Ideal) x0 x1 x2 x3 x4 x7 x8 (ix5 b s h a e)
      = rot x7 x8 (cols (evProj x0 x1 x2 x3 x4 b ⟨s.val, by omega⟩) 1536 (by omega)) s ⟨h.val * 128 + a.val * 64 + (32 + (16 + e.val)), by omega⟩ := by
  unfold val_main_v75 val_main_v74 val_main_v73 val_main_v72 val_main_v71 val_main_v70 val_main_v69 val_main_v59
    val_main_v58
  rw [turnAdd, angles, angles, q61_apply, q60_apply, q57_apply, q57_apply, q36_apply, q36_apply, q_apply, q_apply]
  refine rot_snd x7 x8 _ s ?_ ?_ ?_ ?_ <;> dsimp only <;> omega

/-- A latent's rotated queries. -/
theorem qLat_apply (s : Fin 8192) (h : Fin 4) (a : Fin 2) (e : Fin 64) : val_main_v77 (F := Ideal) x0 x1 x2 x3 x4 x5 x6 x7 x8 (ix5 b s h a e)
      = (if e.val < 32 then rot x5 x6 else rot x7 x8) (cols (evProj x0 x1 x2 x3 x4 b ⟨s.val, by omega⟩) 1536 (by omega)) s
          ⟨h.val * 128 + a.val * 64 + e.val, by omega⟩ := by
  unfold val_main_v77 val_main_v76 val_main_v56
  by_cases h1 : e.val < 32
  · rw [if_pos h1]
    by_cases h2 : e.val < 16
    · pointwise [q48_apply, h1, h2]
    · have e1 : 16 + (e.val - 16) = e.val := by omega
      pointwise [q55_apply, h1, h2]
      simp only [e1]
  · rw [if_neg h1]
    by_cases h2 : e.val - 32 < 16
    · have e1 : 32 + (e.val - 32) = e.val := by omega
      pointwise [q68_apply, h1, h2]
      simp only [e1]
    · have e1 : 32 + (16 + (e.val - 32 - 16)) = e.val := by omega
      pointwise [q75_apply, h1, h2]
      simp only [e1]

/-- The rotated queries. -/
theorem qRope_apply (s : Fin 8448) (h : Fin 4) (a : Fin 2) (e : Fin 64) : val_main_v79 (F := Ideal) x0 x1 x2 x3 x4 x5 x6 x7 x8 (ix5 b s h a e)
      = rope x5 x6 x7 x8 (cols (evProj x0 x1 x2 x3 x4 b s) 1536 (by omega)) s ⟨h.val * 128 + a.val * 64 + e.val, by omega⟩ := by
  unfold val_main_v79
  unfold rope
  have h3 : ((h.val * 128 + a.val * 64 + e.val) % 64 < 32) = (e.val < 32) := propext ⟨fun _ => by omega, fun _ => by omega⟩
  by_cases hs : s.val < 8192
  · pointwise [qLat_apply, hs, h3]
    split_ifs <;> rfl
  · have e1 : 8192 + (s.val - 8192) = s.val := by omega
    pointwise [hs]
    simp only [q78_apply, q_apply, e1]

/-- The keys before the rotation. -/
theorem k_apply (s : Fin 8448) (h : Fin 4) (a : Fin 2) (e : Fin 64) : val_main_v35 (F := Ideal) x0 x1 x2 x3 x4 (ix5 b s h a e)
      = cols (evProj x0 x1 x2 x3 x4 b s) 2048 (by omega) ⟨h.val * 128 + a.val * 64 + e.val, by omega⟩ := by
  unfold val_main_v35 val_main_v32
  pointwise [proj_apply]
  exact congrArg (evProj x0 x1 x2 x3 x4 b s) (Fin.ext rfl)

/-- The latents' keys. -/
theorem k36_apply (s : Fin 8192) (h : Fin 4) (a : Fin 2) (e : Fin 64) : val_main_v80 (F := Ideal) x0 x1 x2 x3 x4 (ix5 b s h a e)
      = val_main_v35 (F := Ideal) x0 x1 x2 x3 x4 (ix5 b ⟨s.val, by omega⟩ h a e) := by
  unfold val_main_v80
  rw [latRows]

/-- Their first halves. -/
theorem k37_apply (s : Fin 8192) (h : Fin 4) (a : Fin 2) (e : Fin 32) : val_main_v81 (F := Ideal) x0 x1 x2 x3 x4 (ix5 b s h a e)
      = val_main_v80 (F := Ideal) x0 x1 x2 x3 x4 (ix5 b s h a ⟨e.val, by omega⟩) := by
  unfold val_main_v81
  rw [half0]

/-- Their second halves. -/
theorem k57_apply (s : Fin 8192) (h : Fin 4) (a : Fin 2) (e : Fin 32) : val_main_v101 (F := Ideal) x0 x1 x2 x3 x4 (ix5 b s h a e)
      = val_main_v80 (F := Ideal) x0 x1 x2 x3 x4 (ix5 b s h a ⟨32 + e.val, by omega⟩) := by
  unfold val_main_v101
  rw [half1]

/-- A half's first half. -/
theorem k40_apply (s : Fin 8192) (h : Fin 4) (a : Fin 2) (e : Fin 16) : val_main_v84 (F := Ideal) x0 x1 x2 x3 x4 (ix5 b s h a e)
      = val_main_v81 (F := Ideal) x0 x1 x2 x3 x4 (ix5 b s h a ⟨e.val, by omega⟩) := by
  unfold val_main_v84
  rw [quarter0]

/-- A half's second half. -/
theorem k41_apply (s : Fin 8192) (h : Fin 4) (a : Fin 2) (e : Fin 16) : val_main_v85 (F := Ideal) x0 x1 x2 x3 x4 (ix5 b s h a e)
      = val_main_v81 (F := Ideal) x0 x1 x2 x3 x4 (ix5 b s h a ⟨16 + e.val, by omega⟩) := by
  unfold val_main_v85
  rw [quarter1]

/-- A half's first half. -/
theorem k60_apply (s : Fin 8192) (h : Fin 4) (a : Fin 2) (e : Fin 16) : val_main_v104 (F := Ideal) x0 x1 x2 x3 x4 (ix5 b s h a e)
      = val_main_v101 (F := Ideal) x0 x1 x2 x3 x4 (ix5 b s h a ⟨e.val, by omega⟩) := by
  unfold val_main_v104
  rw [quarter0]

/-- A half's second half. -/
theorem k61_apply (s : Fin 8192) (h : Fin 4) (a : Fin 2) (e : Fin 16) : val_main_v105 (F := Ideal) x0 x1 x2 x3 x4 (ix5 b s h a e)
      = val_main_v101 (F := Ideal) x0 x1 x2 x3 x4 (ix5 b s h a ⟨16 + e.val, by omega⟩) := by
  unfold val_main_v105
  rw [quarter1]

/-- The context's keys. -/
theorem k78_apply (s : Fin 256) (h : Fin 4) (a : Fin 2) (e : Fin 64) : val_main_v122 (F := Ideal) x0 x1 x2 x3 x4 (ix5 b s h a e)
      = val_main_v35 (F := Ideal) x0 x1 x2 x3 x4 (ix5 b ⟨8192 + s.val, by omega⟩ h a e) := by
  unfold val_main_v122
  rw [ctxRows]

/-- That half rotated. -/
theorem k48_apply (s : Fin 8192) (h : Fin 4) (a : Fin 2) (e : Fin 16) : val_main_v92 (F := Ideal) x0 x1 x2 x3 x4 x5 x6 (ix5 b s h a e)
      = rot x5 x6 (cols (evProj x0 x1 x2 x3 x4 b ⟨s.val, by omega⟩) 2048 (by omega)) s ⟨h.val * 128 + a.val * 64 + e.val, by omega⟩ := by
  unfold val_main_v92 val_main_v91 val_main_v90 val_main_v89 val_main_v88 val_main_v87 val_main_v86 val_main_v83
    val_main_v82
  rw [turnSub, angles, angles, k40_apply, k41_apply, k37_apply, k37_apply, k36_apply, k36_apply, k_apply, k_apply]
  refine rot_fst x5 x6 _ s ?_ ?_ ?_ ?_ <;> dsimp only <;> omega

/-- That half rotated. -/
theorem k55_apply (s : Fin 8192) (h : Fin 4) (a : Fin 2) (e : Fin 16) : val_main_v99 (F := Ideal) x0 x1 x2 x3 x4 x5 x6 (ix5 b s h a e)
      = rot x5 x6 (cols (evProj x0 x1 x2 x3 x4 b ⟨s.val, by omega⟩) 2048 (by omega)) s ⟨h.val * 128 + a.val * 64 + (16 + e.val), by omega⟩ := by
  unfold val_main_v99 val_main_v98 val_main_v97 val_main_v96 val_main_v95 val_main_v94 val_main_v93 val_main_v83
    val_main_v82
  rw [turnAdd, angles, angles, k41_apply, k40_apply, k37_apply, k37_apply, k36_apply, k36_apply, k_apply, k_apply]
  refine rot_snd x5 x6 _ s ?_ ?_ ?_ ?_ <;> dsimp only <;> omega

/-- That half rotated. -/
theorem k68_apply (s : Fin 8192) (h : Fin 4) (a : Fin 2) (e : Fin 16) : val_main_v112 (F := Ideal) x0 x1 x2 x3 x4 x7 x8 (ix5 b s h a e)
      = rot x7 x8 (cols (evProj x0 x1 x2 x3 x4 b ⟨s.val, by omega⟩) 2048 (by omega)) s ⟨h.val * 128 + a.val * 64 + (32 + e.val), by omega⟩ := by
  unfold val_main_v112 val_main_v111 val_main_v110 val_main_v109 val_main_v108 val_main_v107 val_main_v106
    val_main_v103 val_main_v102
  rw [turnSub, angles, angles, k60_apply, k61_apply, k57_apply, k57_apply, k36_apply, k36_apply, k_apply, k_apply]
  refine rot_fst x7 x8 _ s ?_ ?_ ?_ ?_ <;> dsimp only <;> omega

/-- That half rotated. -/
theorem k75_apply (s : Fin 8192) (h : Fin 4) (a : Fin 2) (e : Fin 16) : val_main_v119 (F := Ideal) x0 x1 x2 x3 x4 x7 x8 (ix5 b s h a e)
      = rot x7 x8 (cols (evProj x0 x1 x2 x3 x4 b ⟨s.val, by omega⟩) 2048 (by omega)) s ⟨h.val * 128 + a.val * 64 + (32 + (16 + e.val)), by omega⟩ := by
  unfold val_main_v119 val_main_v118 val_main_v117 val_main_v116 val_main_v115 val_main_v114 val_main_v113
    val_main_v103 val_main_v102
  rw [turnAdd, angles, angles, k61_apply, k60_apply, k57_apply, k57_apply, k36_apply, k36_apply, k_apply, k_apply]
  refine rot_snd x7 x8 _ s ?_ ?_ ?_ ?_ <;> dsimp only <;> omega

/-- A latent's rotated keys. -/
theorem kLat_apply (s : Fin 8192) (h : Fin 4) (a : Fin 2) (e : Fin 64) : val_main_v121 (F := Ideal) x0 x1 x2 x3 x4 x5 x6 x7 x8 (ix5 b s h a e)
      = (if e.val < 32 then rot x5 x6 else rot x7 x8) (cols (evProj x0 x1 x2 x3 x4 b ⟨s.val, by omega⟩) 2048 (by omega)) s
          ⟨h.val * 128 + a.val * 64 + e.val, by omega⟩ := by
  unfold val_main_v121 val_main_v120 val_main_v100
  by_cases h1 : e.val < 32
  · rw [if_pos h1]
    by_cases h2 : e.val < 16
    · pointwise [k48_apply, h1, h2]
    · have e1 : 16 + (e.val - 16) = e.val := by omega
      pointwise [k55_apply, h1, h2]
      simp only [e1]
  · rw [if_neg h1]
    by_cases h2 : e.val - 32 < 16
    · have e1 : 32 + (e.val - 32) = e.val := by omega
      pointwise [k68_apply, h1, h2]
      simp only [e1]
    · have e1 : 32 + (16 + (e.val - 32 - 16)) = e.val := by omega
      pointwise [k75_apply, h1, h2]
      simp only [e1]

/-- The rotated keys. -/
theorem kRope_apply (s : Fin 8448) (h : Fin 4) (a : Fin 2) (e : Fin 64) : val_main_v123 (F := Ideal) x0 x1 x2 x3 x4 x5 x6 x7 x8 (ix5 b s h a e)
      = rope x5 x6 x7 x8 (cols (evProj x0 x1 x2 x3 x4 b s) 2048 (by omega)) s ⟨h.val * 128 + a.val * 64 + e.val, by omega⟩ := by
  unfold val_main_v123
  unfold rope
  have h3 : ((h.val * 128 + a.val * 64 + e.val) % 64 < 32) = (e.val < 32) := propext ⟨fun _ => by omega, fun _ => by omega⟩
  by_cases hs : s.val < 8192
  · pointwise [kLat_apply, hs, h3]
    split_ifs <;> rfl
  · have e1 : 8192 + (s.val - 8192) = s.val := by omega
    pointwise [hs]
    simp only [k78_apply, k_apply, e1]

/-- The first mixer's columns. -/
theorem u_eq : val_main_v133 (F := Ideal) x0 x1 x2 x3 x4 = evU x0 x1 x2 x3 x4 := by
  funext i
  idx_vars i
  unfold val_main_v133 val_main_v30
  pointwise [proj_apply]
  rfl

/-- The queries. -/
theorem q_eq : val_main_v134 (F := Ideal) x0 x1 x2 x3 x4 x5 x6 x7 x8 = evQ x0 x1 x2 x3 x4 x5 x6 x7 x8 := by
  funext i
  idx_vars i
  unfold val_main_v134 val_main_v127 val_main_v126 val_main_v125 val_main_v124 val_main_cst_3
  have e1 (h : Fin 4) : h.val * 128 + i2.val / 64 * 64 + i2.val % 64 = h.val * 128 + i2.val := by omega
  pointwise [qRope_apply]
  simp only [e1]
  rfl

/-- The keys. -/
theorem k_eq : val_main_v136 (F := Ideal) x0 x1 x2 x3 x4 x5 x6 x7 x8 = evK x0 x1 x2 x3 x4 x5 x6 x7 x8 := by
  funext i
  idx_vars i
  unfold val_main_v136 val_main_v135
  have e1 : i2.val / 128 * 128 + i2.val / 64 % 2 * 64 + i2.val % 64 = i2.val := by omega
  rw [joined, kRope_apply]
  simp only [e1]
  rfl

/-- The values. -/
theorem v_eq : val_main_v137 (F := Ideal) x0 x1 x2 x3 x4 = evV x0 x1 x2 x3 x4 := by
  funext i
  idx_vars i
  unfold val_main_v137 val_main_v132 val_main_v131 val_main_cst_5 val_main_v130 val_main_cst_4 val_main_v129
    val_main_v128 val_main_v33
  unfold evV
  by_cases h : i3.val < 128
  · pointwise [proj_apply, h]
    rfl
  · by_cases h' : i3.val - 128 < 1
    · have h2 : i3.val = 128 := by omega
      pointwise [h, h', h2]
    · have h2 : ¬ i3.val = 128 := by omega
      pointwise [h, h', h2]

end Cert.Reference6Ideal.EvenInRef

end
-- ==== Proof.EvenInClaims.lean ====
/- The claims about the input projection of the first layer. -/
module

public import proofs.«01_k».proof.Defs
public import proofs.«01_k».proof.Proof.Gen.Kernel6.Frame
public import proofs.«01_k».proof.Proof.EvenInValue
public import proofs.«01_k».proof.Proof.EvenInRef
public import proofs.«01_k».proof.Proof.Gen.Reference6Ideal.Run
public import Idealize.ShloMosaic.Lib.Quiescent

@[expose] public section

noncomputable section

namespace Cert.Proof.EvenIn

open Idealize.ShloMosaic Idealize.ShloMosaic.TcCoe Idealize.SL.Sem

/-- The kernel runs, leaves its arguments and returns every counter to zero. -/
theorem frame_k : Cert.quiescent_Kernel6 := fun m ρ _ => Cert.Kernel6.Gen.frame m ρ

/-- The same of its idealization. -/
theorem frame_ki : Cert.quiescent_Kernel6Ideal := fun m ρ _ => Cert.Kernel6Ideal.Gen.frame m ρ

/-- The reference runs and leaves its arguments; it declares no semaphore. -/
theorem frame_ri : Cert.quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

/-- Idealization rewrote nothing. -/
theorem preserves : Cert.preserves_Kernel6_Kernel6Ideal := trivial

/-- Over the extended reals the kernel's four results are the reference's, on all arguments. -/
theorem algebraic : Cert.algebraic_Kernel6Ideal_Reference6Ideal := by
  intro m ρ m' ρ' _ hag
  refine ⟨fun c => Cert.Rows.evU (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)),
    fun c => Cert.Rows.evQ (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)),
    fun c => Cert.Rows.evK (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)),
    fun c => Cert.Rows.evV (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)),
    Cert.Kernel6Ideal.EvenInValue.run m ρ, ?_⟩
  refine (θ_run Cert.Reference6Ideal.defs _ _).mono
    (fun _ h c => ⟨(h c).1.trans ?_, (h c).2.1.trans ?_, (h c).2.2.1.trans ?_, (h c).2.2.2.1.trans ?_, (h c).2.2.2.2⟩)
    (Cert.Reference6Ideal.Value.run (F := Ideal) m' ρ')
  · obtain ⟨a0, a1, a2, a3, a4, a5, a6, a7, a8⟩ := hag c
    refine (Cert.Reference6Ideal.Read.val_main_v133_eq _ _ _ _ _).trans ?_
    rw [a0, a1, a2, a3, a4]
    exact Cert.Reference6Ideal.EvenInRef.u_eq _ _ _ _ _
  · obtain ⟨a0, a1, a2, a3, a4, a5, a6, a7, a8⟩ := hag c
    refine (Cert.Reference6Ideal.Read.val_main_v134_eq m' c).trans ?_
    rw [a0, a1, a2, a3, a4, a5, a6, a7, a8]
    exact Cert.Reference6Ideal.EvenInRef.q_eq _ _ _ _ _ _ _ _ _
  · obtain ⟨a0, a1, a2, a3, a4, a5, a6, a7, a8⟩ := hag c
    refine (Cert.Reference6Ideal.Read.val_main_v136_eq m' c).trans ?_
    rw [a0, a1, a2, a3, a4, a5, a6, a7, a8]
    exact Cert.Reference6Ideal.EvenInRef.k_eq _ _ _ _ _ _ _ _ _
  · obtain ⟨a0, a1, a2, a3, a4, a5, a6, a7, a8⟩ := hag c
    refine (Cert.Reference6Ideal.Read.val_main_v137_eq m' c).trans ?_
    rw [a0, a1, a2, a3, a4]
    exact Cert.Reference6Ideal.EvenInRef.v_eq _ _ _ _ _

end Cert.Proof.EvenIn

end
-- ==== Proof.EvenInRows7.lean ====
/- The kernel of the third layer's input projection: what the body stores, read at an index. -/
module

public import proofs.«01_k».proof.Proof.Gen.Kernel7Ideal.Value
public import proofs.«01_k».proof.Proof.EvenInSpec

@[expose] public section

set_option maxRecDepth 16384

noncomputable section

namespace Cert.Kernel7Ideal.EvenInRows7

open Cert.Kernel7Ideal Cert.Kernel7Ideal.Gen Idealize.ShloMosaic Cert.Rows

/-- Row `r` of the block chosen by the tile. -/
def selRow (i : grid0.Coords) (lat ctx : FVec Ideal S1x256x1024 .f32) (r : Fin 256) (k : Fin 1024) : EReal :=
  if 32 ≤ (i 1).val then ctx (ix3 0 r k) else lat (ix3 0 r k)

/-- The tile's comparison. -/
theorem cmp_eq (i : grid0.Coords) : Scalar.cmpi .sge (BitVec.ofNat 32 (i 1).val) 32#32 = if 32 ≤ (i 1).val then 1#1 else 0#1 :=
  sge_32 _ (i 1).isLt

/-- The modulated norm of the tile's rows. -/
theorem pay2_apply (i : grid0.Coords) (x0 x1 : Vec Ideal S1x256x1024 .f32) (x2 : Vec Ideal S1x1x6144 .f32) (x3 : Vec Ideal S1x1024 .f32)
    (r : Fin 256) (k : Fin 1024) : k0_pay2 i x2 x1 x0 x3 (ix2 r k)
      = modNorm (selRow i x0 x1 r) (fun k => x3 (ix2 0 k)) (piece (fun k => x2 (ix3 0 0 k)) 1024 (by omega))
          (piece (fun k => x2 (ix3 0 0 k)) 0 (by omega)) k := by
  unfold k0_pay2
  have h := cmp_eq i
  unfold selRow
  split_ifs at h ⊢ with hi <;> (pointwise [h]) <;> simp [modNorm, Rows.norm, rinv, Rows.piece]

section
variable (v : FVec Ideal S256x1024 .bf16) (w : Vec Ideal S1024x512 .bf16)

/-- The queries' product. -/
theorem pay7_apply (r : Fin 256) (c : Fin 512) :
    k0_pay7 v w (ix2 r c) = rowMul (fun k => v (ix2 r k)) (fun k n => w (ix2 k n)) c := by
  unfold k0_pay7
  pointwise
  rfl

/-- The keys' product. -/
theorem pay13_apply (r : Fin 256) (c : Fin 512) :
    k0_pay13 v w (ix2 r c) = rowMul (fun k => v (ix2 r k)) (fun k n => w (ix2 k n)) c := by
  unfold k0_pay13
  pointwise
  rfl

/-- The values' product. -/
theorem pay19_apply (r : Fin 256) (c : Fin 512) :
    k0_pay19 v w (ix2 r c) = rowMul (fun k => v (ix2 r k)) (fun k n => w (ix2 k n)) c := by
  unfold k0_pay19
  pointwise
  rfl

/-- The first mixer's product. -/
theorem pay28_apply (w : Vec Ideal S1024x1536 .bf16) (r : Fin 256) (c : Fin 1536) :
    k0_pay28 v w (ix2 r c) = rowMul (fun k => v (ix2 r k)) (fun k n => w (ix2 k n)) c := by
  unfold k0_pay28
  pointwise
  rfl
end

/-- The lanes of the first half of a group of 32. -/
abbrev firstHalf : IVec S256x128 1 := k0_pay5 (iota .tc S256x128 32 [1] iota_S256x128_d1_w32) 32#32 0#32

/-- It is that. -/
theorem firstHalf_apply (r : Fin 256) (l : Fin 128) : firstHalf (ix2 r l) = if l.val % 32 < 16 then 1#1 else 0#1 := by
  unfold firstHalf k0_pay5
  pointwise
  revert l
  decide +kernel

/-- A column turned by the tables: times its cosine, and its partner times its sine. -/
def turn (P : FVec Ideal S256x512 .f32) (C S : FVec Ideal S256x128 .f32) (r : Fin 256) (c : Fin 512) : EReal :=
  P (ix2 r c) * C (ix2 r ⟨c.val % 128, by omega⟩)
    + P (ix2 r (if c.val % 32 < 16 then ⟨(c.val + 16) % 512, by omega⟩ else ⟨c.val - 16, by omega⟩)) * S (ix2 r ⟨c.val % 128, by omega⟩)

/-- The turn of a column of its group's first half. -/
theorem turn_fst (P : FVec Ideal S256x512 .f32) (C S : FVec Ideal S256x128 .f32) (r : Fin 256) {c c1 c2 : Fin 512} {l : Fin 128}
    (h : c.val % 32 < 16) (h1 : c1.val = c.val) (h2 : c2.val = c.val + 16) (hl : l.val = c.val % 128) :
    P (ix2 r c1) * C (ix2 r l) + P (ix2 r c2) * S (ix2 r l) = turn P C S r c := by
  obtain rfl : c1 = c := Fin.ext h1
  have e2 : c2 = ⟨(c1.val + 16) % 512, Nat.mod_lt _ (by norm_num)⟩ := Fin.ext (by dsimp only; omega)
  have e3 : l = ⟨c1.val % 128, Nat.mod_lt _ (by norm_num)⟩ := Fin.ext hl
  unfold turn
  rw [if_pos h, e2, e3]

/-- The turn of a column of its group's second half. -/
theorem turn_snd (P : FVec Ideal S256x512 .f32) (C S : FVec Ideal S256x128 .f32) (r : Fin 256) {c c1 c2 : Fin 512} {l : Fin 128}
    (h : ¬ c.val % 32 < 16) (h1 : c1.val = c.val) (h2 : c2.val = c.val - 16) (hl : l.val = c.val % 128) :
    P (ix2 r c1) * C (ix2 r l) + P (ix2 r c2) * S (ix2 r l) = turn P C S r c := by
  obtain rfl : c1 = c := Fin.ext h1
  have e2 : c2 = ⟨c1.val - 16, (Nat.sub_le _ _).trans_lt c1.isLt⟩ := Fin.ext h2
  have e3 : l = ⟨c1.val % 128, Nat.mod_lt _ (by norm_num)⟩ := Fin.ext hl
  unfold turn
  rw [if_neg h, e2, e3]

section
variable (v : FVec Ideal S256x1024 .bf16) (w : Vec Ideal S1024x512 .bf16) (P : FVec Ideal S256x512 .f32) (C S : FVec Ideal S256x128 .f32)

/-- Head 0's queries. -/
theorem pay8_apply (d : Fin 128) (r : Fin 256) : k0_pay8 v (k0_pay3 C) (k0_pay4 S) (iota .tc S256x128 32 [1] iota_S256x128_d1_w32) 32#32 0#32 w (ix4 0 0 d r) = turn (k0_pay7 v w) C S r ⟨0 + d.val, by omega⟩ * qFactor := by
  have hm := firstHalf_apply r d
  by_cases h : d.val % 32 < 16
  · simp only [h, if_true] at hm
    unfold k0_pay8
    generalize k0_pay7 v w = P at *
    pointwise [k0_pay3, k0_pay4, hm]
    refine congrArg (· * qFactor) (turn_fst P C S r ?_ ?_ ?_ ?_) <;> dsimp only <;> omega
  · simp only [h, if_false] at hm
    unfold k0_pay8
    generalize k0_pay7 v w = P at *
    pointwise [k0_pay3, k0_pay4, hm]
    refine congrArg (· * qFactor) (turn_snd P C S r ?_ ?_ ?_ ?_) <;> dsimp only <;> omega

/-- Head 1's queries. -/
theorem pay9_apply (d : Fin 128) (r : Fin 256) : k0_pay9 (k0_pay3 C) (k0_pay4 S) firstHalf P (ix4 0 0 d r) = turn P C S r ⟨128 + d.val, by omega⟩ * qFactor := by
  have hm := firstHalf_apply r d
  by_cases h : d.val % 32 < 16
  · simp only [h, if_true] at hm
    pointwise [k0_pay9, k0_pay3, k0_pay4, hm]
    refine congrArg (· * qFactor) (turn_fst P C S r ?_ ?_ ?_ ?_) <;> dsimp only <;> omega
  · simp only [h, if_false] at hm
    pointwise [k0_pay9, k0_pay3, k0_pay4, hm]
    refine congrArg (· * qFactor) (turn_snd P C S r ?_ ?_ ?_ ?_) <;> dsimp only <;> omega

/-- Head 2's queries. -/
theorem pay10_apply (d : Fin 128) (r : Fin 256) : k0_pay10 (k0_pay3 C) (k0_pay4 S) firstHalf P (ix4 0 0 d r) = turn P C S r ⟨256 + d.val, by omega⟩ * qFactor := by
  have hm := firstHalf_apply r d
  by_cases h : d.val % 32 < 16
  · simp only [h, if_true] at hm
    pointwise [k0_pay10, k0_pay3, k0_pay4, hm]
    refine congrArg (· * qFactor) (turn_fst P C S r ?_ ?_ ?_ ?_) <;> dsimp only <;> omega
  · simp only [h, if_false] at hm
    pointwise [k0_pay10, k0_pay3, k0_pay4, hm]
    refine congrArg (· * qFactor) (turn_snd P C S r ?_ ?_ ?_ ?_) <;> dsimp only <;> omega

/-- Head 3's queries. -/
theorem pay12_apply (d : Fin 128) (r : Fin 256) : k0_pay12 (k0_pay11 (k0_pay3 C) (k0_pay4 S) firstHalf P) (ix4 0 0 d r) = turn P C S r ⟨384 + d.val, by omega⟩ * qFactor := by
  have hm := firstHalf_apply r d
  by_cases h : d.val % 32 < 16
  · simp only [h, if_true] at hm
    pointwise [k0_pay12, k0_pay11, k0_pay3, k0_pay4, hm]
    refine congrArg (· * qFactor) (turn_fst P C S r ?_ ?_ ?_ ?_) <;> dsimp only <;> omega
  · simp only [h, if_false] at hm
    pointwise [k0_pay12, k0_pay11, k0_pay3, k0_pay4, hm]
    refine congrArg (· * qFactor) (turn_snd P C S r ?_ ?_ ?_ ?_) <;> dsimp only <;> omega

/-- Head 0's keys. -/
theorem pay14_apply (r : Fin 256) (d : Fin 128) : k0_pay14 v (k0_pay3 C) (k0_pay4 S) firstHalf w (ix3 0 r d) = turn (k0_pay13 v w) C S r ⟨0 + d.val, by omega⟩ := by
  have hm := firstHalf_apply r d
  by_cases h : d.val % 32 < 16
  · simp only [h, if_true] at hm
    unfold k0_pay14
    generalize k0_pay13 v w = P at *
    pointwise [k0_pay3, k0_pay4, hm]
    refine turn_fst P C S r ?_ ?_ ?_ ?_ <;> dsimp only <;> omega
  · simp only [h, if_false] at hm
    unfold k0_pay14
    generalize k0_pay13 v w = P at *
    pointwise [k0_pay3, k0_pay4, hm]
    refine turn_snd P C S r ?_ ?_ ?_ ?_ <;> dsimp only <;> omega

/-- Head 1's keys. -/
theorem pay15_apply (r : Fin 256) (d : Fin 128) : k0_pay15 v (k0_pay3 C) (k0_pay4 S) firstHalf w (ix3 0 r d) = turn (k0_pay13 v w) C S r ⟨128 + d.val, by omega⟩ := by
  have hm := firstHalf_apply r d
  by_cases h : d.val % 32 < 16
  · simp only [h, if_true] at hm
    unfold k0_pay15
    generalize k0_pay13 v w = P at *
    pointwise [k0_pay3, k0_pay4, hm]
    refine turn_fst P C S r ?_ ?_ ?_ ?_ <;> dsimp only <;> omega
  · simp only [h, if_false] at hm
    unfold k0_pay15
    generalize k0_pay13 v w = P at *
    pointwise [k0_pay3, k0_pay4, hm]
    refine turn_snd P C S r ?_ ?_ ?_ ?_ <;> dsimp only <;> omega

/-- Head 2's keys. -/
theorem pay17_apply (r : Fin 256) (d : Fin 128) : k0_pay17 (k0_pay16 v (k0_pay3 C) (k0_pay4 S) firstHalf w) (ix3 0 r d) = turn (k0_pay13 v w) C S r ⟨256 + d.val, by omega⟩ := by
  have hm := firstHalf_apply r d
  by_cases h : d.val % 32 < 16
  · simp only [h, if_true] at hm
    unfold k0_pay17 k0_pay16
    generalize k0_pay13 v w = P at *
    pointwise [k0_pay3, k0_pay4, hm]
    refine turn_fst P C S r ?_ ?_ ?_ ?_ <;> dsimp only <;> omega
  · simp only [h, if_false] at hm
    unfold k0_pay17 k0_pay16
    generalize k0_pay13 v w = P at *
    pointwise [k0_pay3, k0_pay4, hm]
    refine turn_snd P C S r ?_ ?_ ?_ ?_ <;> dsimp only <;> omega

/-- Head 3's keys. -/
theorem pay18_apply (r : Fin 256) (d : Fin 128) : k0_pay18 (k0_pay3 C) (k0_pay4 S) firstHalf P (ix3 0 r d) = turn P C S r ⟨384 + d.val, by omega⟩ := by
  have hm := firstHalf_apply r d
  by_cases h : d.val % 32 < 16
  · simp only [h, if_true] at hm
    pointwise [k0_pay18, k0_pay3, k0_pay4, hm]
    refine turn_fst P C S r ?_ ?_ ?_ ?_ <;> dsimp only <;> omega
  · simp only [h, if_false] at hm
    pointwise [k0_pay18, k0_pay3, k0_pay4, hm]
    refine turn_snd P C S r ?_ ?_ ?_ ?_ <;> dsimp only <;> omega

/-- Head 0's values. -/
theorem pay20_apply (d : Fin 128) (r : Fin 256) : k0_pay20 v w (ix5 0 0 0 d r) = (k0_pay19 v w) (ix2 r ⟨0 + d.val, by omega⟩) := by
  unfold k0_pay20
  generalize k0_pay19 v w = P
  pointwise

/-- Head 1's values. -/
theorem pay22_apply (d : Fin 128) (r : Fin 256) : k0_pay22 v w (ix5 0 0 0 d r) = (k0_pay19 v w) (ix2 r ⟨128 + d.val, by omega⟩) := by
  unfold k0_pay22
  generalize k0_pay19 v w = P
  pointwise

/-- Head 2's values. -/
theorem pay24_apply (d : Fin 128) (r : Fin 256) : k0_pay24 P (ix5 0 0 0 d r) = P (ix2 r ⟨256 + d.val, by omega⟩) := by
  pointwise [k0_pay24]

/-- Head 3's values. -/
theorem pay26_apply (d : Fin 128) (r : Fin 256) : k0_pay26 P (ix5 0 0 0 d r) = P (ix2 r ⟨384 + d.val, by omega⟩) := by
  pointwise [k0_pay26]

/-- The rows below the values. -/
def below (e : Fin 16) : EReal := if e.val = 0 then 1 else 0

/-- The body's rows below the values. -/
theorem pay6_apply (e : Fin 16) (r : Fin 256) : k0_pay6 (F := Ideal) (ix2 e r) = below e := by
  unfold k0_pay6 below
  have h : IntOp.cmpi .eq (BitVec.ofNat 32 e.val) 0#32 = if e.val = 0 then 1#1 else 0#1 := by
    revert e
    decide +kernel
  by_cases h0 : e.val = 0
  · simp only [h0, if_true] at h
    pointwise [h, h0]
  · simp only [h0, if_false] at h
    pointwise [h, h0]

/-- They are stored below every head's values. -/
theorem pay21_apply (e : Fin 16) (r : Fin 256) : k0_pay21 (F := Ideal) k0_pay6 (ix5 0 0 0 e r) = below e := by
  unfold k0_pay21
  pointwise [pay6_apply]

/-- They are stored below every head's values. -/
theorem pay23_apply (e : Fin 16) (r : Fin 256) : k0_pay23 (F := Ideal) k0_pay6 (ix5 0 0 0 e r) = below e := by
  unfold k0_pay23
  pointwise [pay6_apply]

/-- They are stored below every head's values. -/
theorem pay25_apply (e : Fin 16) (r : Fin 256) : k0_pay25 (F := Ideal) k0_pay6 (ix5 0 0 0 e r) = below e := by
  unfold k0_pay25
  pointwise [pay6_apply]

/-- They are stored below every head's values. -/
theorem pay27_apply (e : Fin 16) (r : Fin 256) : k0_pay27 (F := Ideal) k0_pay6 (ix5 0 0 0 e r) = below e := by
  unfold k0_pay27
  pointwise [pay6_apply]

end

end Cert.Kernel7Ideal.EvenInRows7

end
-- ==== Proof.EvenInSpec7.lean ====
/- The stream kept in one array, for the input projection of the third layer: its latents, its context, and a layer's
   modulations. -/
module

public import proofs.«01_k».proof.Proof.EvenInSpec

@[expose] public section

noncomputable section

namespace Cert.Rows

open Idealize.ShloMosaic

/-- The latent rows of the stream. -/
def latOf (h : (⟨3, ![4, 8448, 1024]⟩ : Shape).Idx → EReal) (i : (⟨3, ![4, 8192, 1024]⟩ : Shape).Idx) : EReal :=
  h (ix3 (i 0) ⟨(i 1).val, (i 1).isLt.trans (by decide)⟩ (i 2))

/-- The context's rows of the stream. -/
def ctxOf (h : (⟨3, ![4, 8448, 1024]⟩ : Shape).Idx → EReal) (i : (⟨3, ![4, 256, 1024]⟩ : Shape).Idx) : EReal :=
  h (ix3 (i 0) ⟨8192 + (i 1).val, by have h1 : (i 1).val < 256 := (i 1).isLt; omega⟩ (i 2))

/-- The two together are the stream. -/
theorem pairRow_whole (h : (⟨3, ![4, 8448, 1024]⟩ : Shape).Idx → EReal) (b : Fin 4) (s : Fin 8448) :
    pairRow (latOf h) (ctxOf h) b s = fun k => h (ix3 b s k) := by
  funext k
  unfold pairRow
  by_cases hs : s.val < 8192
  · rw [dif_pos hs]
    rfl
  · rw [dif_neg hs]
    exact congrArg h (congrArg (fun z => ix3 b z k) (Fin.ext (by dsimp only [ix3]; show 8192 + (s.val - 8192) = s.val; omega)))

/-- The modulations with layer `l`'s in every layer's place. -/
def layerOf (l : Fin 4) (md : (⟨3, ![4, 8, 6144]⟩ : Shape).Idx → EReal) (i : (⟨3, ![4, 8, 6144]⟩ : Shape).Idx) : EReal :=
  md (ix3 l (i 1) (i 2))

end Cert.Rows

end
-- ==== Proof.EvenInValue7.lean ====
/- The input projection of the third layer: its four result arrays are `evU`, `evQ`, `evK` and `evV` of the
   stream's two parts and the other arguments. -/
module

public import proofs.«01_k».proof.Proof.EvenInRows7
public import proofs.«01_k».proof.Proof.EvenInSpec7
public import Idealize.ShloMosaic.Lib.Pipeline.ValueKit
public import Idealize.ShloMosaic.Lib.Claim

@[expose] public section

set_option maxRecDepth 16384

noncomputable section

namespace Cert.Kernel7Ideal.EvenInValue7

open Cert.Kernel7Ideal Cert.Kernel7Ideal.Gen Cert.Kernel7Ideal.EvenInRows7 Idealize.ShloMosaic Idealize.ShloMosaic.TcCoe
  Idealize.SL.Sem Cert.Rows
open Idealize.ShloMosaic.Pipeline (Dat)

variable (m : (ℓ : Loc nD τ sig) → Buf (Elt Ideal) ℓ) (ρ : Dev nD → PrngReg)

/-- The table of one function of the angles over the stream: the row angles' entries twice, the column angles' twice, and
    a constant for the context. -/
def table (a b c d : FVec Ideal S8192x16 .f32) (w : BitVec 32) : FVec Ideal S8448x64 .f32 :=
  concatenate S8448x64 0 [⟨S8192x64, concatenate S8192x64 1 [⟨S8192x16, a⟩, ⟨S8192x16, b⟩, ⟨S8192x16, c⟩, ⟨S8192x16, d⟩]
      concatenates_S8192x16_S8192x16_S8192x16_S8192x16_S8192x64_d1⟩,
    ⟨S256x64, broadcastInDim S256x64 ![] bcast_S_S256x64 (constant S_ FTy.f32 w)⟩] concatenates_S8192x64_S256x64_S8448x64_d0

/-- The table twice, for the two halves of a head. -/
def table2 (t : FVec Ideal S8448x64 .f32) : FVec Ideal S8448x128 .f32 :=
  concatenate S8448x128 1 [⟨S8448x64, t⟩, ⟨S8448x64, t⟩] concatenates_S8448x64_S8448x64_S8448x128_d1

/-- The host's table of cosines. -/
theorem Vcos (c : Dev nD) : V m c main_v8 = table2 (table (m ((c : Thread nD τ).loc main_arg4)) (m ((c : Thread nD τ).loc main_arg4)) (m ((c : Thread nD τ).loc main_arg6)) (m ((c : Thread nD τ).loc main_arg6)) 0x3F800000#32) := by
  unfold_abbrev_sides
  after_results
  rfl

/-- The host's table of sines, those of the first half of a group negated. -/
theorem Vsin (c : Dev nD) : V m c main_v9 = table2 (table (Host.negf (m ((c : Thread nD τ).loc main_arg5))) (m ((c : Thread nD τ).loc main_arg5)) (Host.negf (m ((c : Thread nD τ).loc main_arg7))) (m ((c : Thread nD τ).loc main_arg7)) 0x00000000#32) := by
  unfold_abbrev_sides
  after_results
  rfl

/-- The table at a latent. -/
theorem table_lat (a b c d : FVec Ideal S8192x16 .f32) (w : BitVec 32) (s : Fin 8448) (hs : s.val < 8192) (l : Fin 128) (k : Fin 16)
    (hk : k.val = l.val % 16) :
    table2 (table a b c d w) (ix2 s l)
      = if l.val % 64 < 32 then (if l.val % 32 < 16 then a (ix2 ⟨s.val, hs⟩ k) else b (ix2 ⟨s.val, hs⟩ k))
        else if l.val % 32 < 16 then c (ix2 ⟨s.val, hs⟩ k) else d (ix2 ⟨s.val, hs⟩ k) := by
  by_cases h1 : l.val % 64 < 32 <;> by_cases h2 : l.val % 32 < 16 <;> simp only [h1, h2, if_true, if_false] <;> unfold table2 table <;>
    (pointwise [hs]) <;> split_ifs <;>
    first
    | (exfalso; omega)
    | contradiction
    | exact congrArg a (congrArg (ix2 _) (Fin.ext (by dsimp only; omega)))
    | exact congrArg b (congrArg (ix2 _) (Fin.ext (by dsimp only; omega)))
    | exact congrArg c (congrArg (ix2 _) (Fin.ext (by dsimp only; omega)))
    | exact congrArg d (congrArg (ix2 _) (Fin.ext (by dsimp only; omega)))

/-- The table at a token of the context. -/
theorem table_ctx (a b c d : FVec Ideal S8192x16 .f32) (w : BitVec 32) (s : Fin 8448) (hs : ¬ s.val < 8192) (l : Fin 128) :
    table2 (table a b c d w) (ix2 s l) = Ideal.ofBits .f32 w := by
  unfold table2 table
  by_cases h : l.val < 64
  · pointwise [hs, h]
  · pointwise [hs, h]

/-- The turn by the tables' rows is the rotation by the token's position. -/
theorem turn_eq (P : FVec Ideal S256x512 .f32) (C S : FVec Ideal S256x128 .f32) (r : Fin 256) (s : Fin 8448) (f : Fin 512 → EReal)
    (cr sr cc sc : FVec Ideal S8192x16 .f32) (hP : ∀ c, P (ix2 r c) = f c)
    (hC : ∀ l, C (ix2 r l) = table2 (table cr cr cc cc 0x3F800000#32) (ix2 s l))
    (hS : ∀ l, S (ix2 r l) = table2 (table (Host.negf sr) sr (Host.negf sc) sc 0x00000000#32) (ix2 s l)) (c : Fin 512) :
    turn P C S r c = rope cr sr cc sc f s c := by
  unfold turn rope
  simp only [hP, hC, hS]
  by_cases hs : s.val < 8192
  · have hk : (⟨c.val % 16, Nat.mod_lt _ (by norm_num)⟩ : Fin 16).val = (⟨c.val % 128, Nat.mod_lt _ (by norm_num)⟩ : Fin 128).val % 16 := by
      dsimp only
      omega
    have m64 : c.val % 128 % 64 = c.val % 64 := by omega
    have m32 : c.val % 128 % 32 = c.val % 32 := by omega
    rw [table_lat _ _ _ _ _ s hs _ _ hk, table_lat _ _ _ _ _ s hs _ _ hk, dif_pos hs]
    unfold rot
    by_cases h1 : c.val % 32 < 16 <;> by_cases h2 : c.val % 64 < 32 <;> simp only [m64, m32, h1, h2, if_true, if_false]
    · rw [sub_eq_add_neg, ← mul_neg]
      rfl
    · rw [sub_eq_add_neg, ← mul_neg]
      rfl
  · rw [table_ctx _ _ _ _ _ s hs, table_ctx _ _ _ _ _ s hs, dif_neg hs, Ideal.ofBits_one_f32, Ideal.ofBits_zero_f32, mul_one, mul_zero, add_zero]

/-- The second grid coordinate is the point's number modulo 33. -/
theorem coord_eq : ∀ t : Fin cfg0.N, (grid0.coords t 1).val = t.val % 33 :=
  (by decide +kernel : ∀ t : Fin grid0.N, _)

/-- Where each window's block lies at each point. -/
theorem idx_facts : ∀ t : Fin cfg0.N, win0_0.index t = ![t.val / 33, min (t.val % 33) 31, 0]
    ∧ win0_1.index t = ![t.val / 33, 32, 0]
    ∧ win0_2.index t = ![16 + (if t.val % 33 < 32 then t.val / 33 else 4), 0, 0] ∧ win0_3.index t = ![0, 0]
    ∧ win0_4.index t = ![0, 0] ∧ win0_5.index t = ![t.val % 33, 0] ∧ win0_6.index t = ![t.val % 33, 0]
    ∧ win0_7.index t = ![t.val / 33, t.val % 33, 0] ∧ win0_8.index t = ![t.val / 33, 0, 0, t.val % 33]
    ∧ win0_9.index t = ![t.val / 33, t.val % 33, 0]
    ∧ win0_10.index t = ![t.val / 33, 0, t.val % 33 / 3, 0, t.val % 33 % 3] :=
  (by decide +kernel : ∀ t : Fin grid0.N, _)

section Blocks
variable (c : Dev nD) (t : Fin cfg0.N)

/-- The grid has 132 points. -/
theorem hN : t.val < 132 := t.isLt

/-- The tile's rows of the latents. -/
theorem blk0 (r : Fin 256) (k : Fin 1024) (b : Fin 4) (s : Fin 8192) (hb : b.val = t.val / 33)
    (hs : s.val = t.val % 33 * 256 + r.val) :
    iblk m c 0 t (ix3 0 r k) = (latOf (m ((c : Thread nD τ).loc main_arg0))) (ix3 b s k) := by
  have hs' := s.isLt
  show _ = m ((c : Thread nD τ).loc main_arg0) (ix3 b ⟨s.val, by omega⟩ k)
  blk_ext [iblk, V, idx_facts t]
/-- The context's rows. -/
theorem blk1 (r : Fin 256) (k : Fin 1024) (b : Fin 4) (hb : b.val = t.val / 33) :
    iblk m c 1 t (ix3 0 r k) = (ctxOf (m ((c : Thread nD τ).loc main_arg0))) (ix3 b r k) := by
  have hr := r.isLt
  show _ = m ((c : Thread nD τ).loc main_arg0) (ix3 b ⟨8192 + r.val, by omega⟩ k)
  blk_ext [iblk, V, idx_facts t]
/-- The modulations' block. -/
theorem blk2 (k : Fin 6144) (q : Fin 8) (hq : q.val = if t.val % 33 < 32 then t.val / 33 else 4) :
    iblk m c 2 t (ix3 0 0 k) = (layerOf 2 (m ((c : Thread nD τ).loc main_arg1))) (ix3 0 q k) := by
  show _ = m ((c : Thread nD τ).loc main_arg1) (ix3 2 q k)
  have := hN t
  blk_ext! [iblk, V, idx_facts t] <;> (split_ifs at hq ⊢ <;> omega)
/-- The norm's gain. -/
theorem blk3 (k : Fin 1024) : iblk m c 3 t (ix2 0 k) = (m ((c : Thread nD τ).loc main_arg2)) (ix1 k) := by
  blk_ext! [iblk, V, idx_facts t]
/-- The projection's matrix. -/
theorem blk4 (k : Fin 1024) (n : Fin 3072) : iblk m c 4 t (ix2 k n) = (m ((c : Thread nD τ).loc main_arg3)) (ix2 k n) := by
  blk_ext! [iblk, V, idx_facts t]
/-- The cosines' rows. -/
theorem blk5 (r : Fin 256) (l : Fin 128) (s : Fin 8448) (hs : s.val = t.val % 33 * 256 + r.val) :
    iblk m c 5 t (ix2 r l) = table2 (table (m ((c : Thread nD τ).loc main_arg4)) (m ((c : Thread nD τ).loc main_arg4)) (m ((c : Thread nD τ).loc main_arg6)) (m ((c : Thread nD τ).loc main_arg6)) 0x3F800000#32) (ix2 s l) := by
  rw [← Vcos]
  blk_ext [iblk, idx_facts t]
/-- The sines' rows. -/
theorem blk6 (r : Fin 256) (l : Fin 128) (s : Fin 8448) (hs : s.val = t.val % 33 * 256 + r.val) :
    iblk m c 6 t (ix2 r l) = table2 (table (Host.negf (m ((c : Thread nD τ).loc main_arg5))) (m ((c : Thread nD τ).loc main_arg5)) (Host.negf (m ((c : Thread nD τ).loc main_arg7))) (m ((c : Thread nD τ).loc main_arg7)) 0x00000000#32) (ix2 s l) := by
  rw [← Vsin]
  blk_ext [iblk, idx_facts t]

/-- The row the body takes is the token's. -/
theorem sel_eq (r : Fin 256) (b : Fin 4) (s : Fin 8448) (hb : b.val = t.val / 33) (hs : s.val = t.val % 33 * 256 + r.val) :
    selRow (grid0.coords t) (iblk m c 0 t) (iblk m c 1 t) r = pairRow (latOf (m ((c : Thread nD τ).loc main_arg0))) (ctxOf (m ((c : Thread nD τ).loc main_arg0))) b s := by
  have ht := hN t
  have hr := r.isLt
  have h33 := Nat.mod_lt t.val (by norm_num : 0 < 33)
  funext k
  unfold selRow
  rw [coord_eq]
  by_cases h : s.val < 8192
  · rw [if_neg (by omega), pairRow_lat _ _ _ _ h, blk0 m c t r k b ⟨s.val, h⟩ hb hs]
  · rw [if_pos (by omega), pairRow_ctx _ _ _ _ h, blk1 m c t r k b hb]
    exact congrArg _ (congrArg (fun z => ix3 b z k) (Fin.ext (by dsimp only; omega)))

/-- The modulation row of a token of the tile. -/
theorem modOf_eq (r : Fin 256) (b : Fin 4) (s : Fin 8448) (hb : b.val = t.val / 33) (hs : s.val = t.val % 33 * 256 + r.val) :
    (modOf b s).val = if t.val % 33 < 32 then t.val / 33 else 4 := by
  have hr := r.isLt
  unfold modOf
  by_cases h : s.val < 8192
  · rw [if_pos h, if_pos (by omega)]
    exact hb
  · rw [if_neg h, if_neg (by omega)]
    rfl

/-- The norm the body takes is the token's. -/
theorem norm_eq (r : Fin 256) (b : Fin 4) (s : Fin 8448) (hb : b.val = t.val / 33) (hs : s.val = t.val % 33 * 256 + r.val) :
    (fun k => (k0_pay2 (grid0.coords t) (iblk m c 2 t) (iblk m c 1 t) (iblk m c 0 t) (iblk m c 3 t)) (ix2 r k)) = modNorm (pairRow (latOf (m ((c : Thread nD τ).loc main_arg0))) (ctxOf (m ((c : Thread nD τ).loc main_arg0))) b s) (fun k => (m ((c : Thread nD τ).loc main_arg2)) (ix1 k))
      (piece (fun k => (layerOf 2 (m ((c : Thread nD τ).loc main_arg1))) (ix3 0 (modOf b s) k)) 1024 (by omega)) (piece (fun k => (layerOf 2 (m ((c : Thread nD τ).loc main_arg1))) (ix3 0 (modOf b s) k)) 0 (by omega)) := by
  funext k
  rw [pay2_apply, sel_eq m c t r b s hb hs]
  simp only [blk2 m c t _ _ (modOf_eq t r b s hb hs), blk3]

/-- The product with the matrix's columns from `o` on. -/
theorem row_eq {N : ℕ} (wb : Fin 1024 → Fin N → EReal) (o : ℕ) (ho : o + N ≤ 3072) (hw : ∀ k n, wb k n = (m ((c : Thread nD τ).loc main_arg3)) (ix2 k ⟨o + n.val, by omega⟩))
    (r : Fin 256) (b : Fin 4) (s : Fin 8448) (hb : b.val = t.val / 33) (hs : s.val = t.val % 33 * 256 + r.val) (j : Fin N) :
    rowMul (fun k => (k0_pay2 (grid0.coords t) (iblk m c 2 t) (iblk m c 1 t) (iblk m c 0 t) (iblk m c 3 t)) (ix2 r k)) wb j = evProj (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) b s ⟨o + j.val, by omega⟩ := by
  rw [norm_eq m c t r b s hb hs]
  unfold evProj rowMul
  simp only [hw]

/-- The first mixer's columns of the matrix. -/
theorem ldU (k : Fin 1024) (n : Fin 1536) :
    View.ld (iblk m c 4 t) (Rect.unit ![0, 0] ![1024, 1536] inb_S1024x3072_S1024x1536_0_0) (ix2 k n) = (m ((c : Thread nD τ).loc main_arg3)) (ix2 k ⟨0 + n.val, by omega⟩) := by
  rw [← blk4 m c t]
  pointwise
/-- The queries' columns of the matrix. -/
theorem ldQ (k : Fin 1024) (n : Fin 512) :
    View.ld (iblk m c 4 t) (Rect.unit ![0, 1536] ![1024, 512] inb_S1024x3072_S1024x512_0_1536) (ix2 k n) = (m ((c : Thread nD τ).loc main_arg3)) (ix2 k ⟨1536 + n.val, by omega⟩) := by
  rw [← blk4 m c t]
  pointwise
/-- The keys' columns of the matrix. -/
theorem ldK (k : Fin 1024) (n : Fin 512) :
    View.ld (iblk m c 4 t) (Rect.unit ![0, 2048] ![1024, 512] inb_S1024x3072_S1024x512_0_2048) (ix2 k n) = (m ((c : Thread nD τ).loc main_arg3)) (ix2 k ⟨2048 + n.val, by omega⟩) := by
  rw [← blk4 m c t]
  pointwise
/-- The values' columns of the matrix. -/
theorem ldV (k : Fin 1024) (n : Fin 512) :
    View.ld (iblk m c 4 t) (Rect.unit ![0, 2560] ![1024, 512] inb_S1024x3072_S1024x512_0_2560) (ix2 k n) = (m ((c : Thread nD τ).loc main_arg3)) (ix2 k ⟨2560 + n.val, by omega⟩) := by
  rw [← blk4 m c t]
  pointwise

/-- The rotated queries of a tile's token. -/
theorem turnQ (r : Fin 256) (b : Fin 4) (s : Fin 8448) (hb : b.val = t.val / 33) (hs : s.val = t.val % 33 * 256 + r.val) (j : Fin 512) :
    turn (k0_pay7 (k0_pay2 (grid0.coords t) (iblk m c 2 t) (iblk m c 1 t) (iblk m c 0 t) (iblk m c 3 t)) (View.ld (iblk m c 4 t) (Rect.unit ![0, 1536] ![1024, 512] inb_S1024x3072_S1024x512_0_1536))) (iblk m c 5 t) (iblk m c 6 t) r j
      = rope (m ((c : Thread nD τ).loc main_arg4)) (m ((c : Thread nD τ).loc main_arg5)) (m ((c : Thread nD τ).loc main_arg6)) (m ((c : Thread nD τ).loc main_arg7)) (cols (evProj (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) b s) 1536 (by omega)) s j :=
  turn_eq _ _ _ r s _ _ _ _ _ (fun j => (pay7_apply _ _ r j).trans (row_eq m c t _ 1536 (by omega) (ldQ m c t) r b s hb hs j))
    (fun l => blk5 m c t r l s hs) (fun l => blk6 m c t r l s hs) j

/-- The rotated keys of a tile's token. -/
theorem turnK (r : Fin 256) (b : Fin 4) (s : Fin 8448) (hb : b.val = t.val / 33) (hs : s.val = t.val % 33 * 256 + r.val) (j : Fin 512) :
    turn (k0_pay13 (k0_pay2 (grid0.coords t) (iblk m c 2 t) (iblk m c 1 t) (iblk m c 0 t) (iblk m c 3 t)) (View.ld (iblk m c 4 t) (Rect.unit ![0, 2048] ![1024, 512] inb_S1024x3072_S1024x512_0_2048))) (iblk m c 5 t) (iblk m c 6 t) r j
      = rope (m ((c : Thread nD τ).loc main_arg4)) (m ((c : Thread nD τ).loc main_arg5)) (m ((c : Thread nD τ).loc main_arg6)) (m ((c : Thread nD τ).loc main_arg7)) (cols (evProj (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) b s) 2048 (by omega)) s j :=
  turn_eq _ _ _ r s _ _ _ _ _ (fun j => (pay13_apply _ _ r j).trans (row_eq m c t _ 2048 (by omega) (ldK m c t) r b s hb hs j))
    (fun l => blk5 m c t r l s hs) (fun l => blk6 m c t r l s hs) j

/-- The values of a tile's token. -/
theorem rowV (r : Fin 256) (b : Fin 4) (s : Fin 8448) (hb : b.val = t.val / 33) (hs : s.val = t.val % 33 * 256 + r.val) (j : Fin 512) :
    k0_pay19 (k0_pay2 (grid0.coords t) (iblk m c 2 t) (iblk m c 1 t) (iblk m c 0 t) (iblk m c 3 t)) (View.ld (iblk m c 4 t) (Rect.unit ![0, 2560] ![1024, 512] inb_S1024x3072_S1024x512_0_2560)) (ix2 r j)
      = cols (evProj (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) b s) 2560 (by omega) j :=
  (pay19_apply _ _ r j).trans (row_eq m c t _ 2560 (by omega) (ldV m c t) r b s hb hs j)

/-- The first mixer's columns of a tile's token. -/
theorem atU (r : Fin 256) (b : Fin 4) (s : Fin 8448) (hb : b.val = t.val / 33) (hs : s.val = t.val % 33 * 256 + r.val) (j : Fin 1536) :
    k0_pay28 (k0_pay2 (grid0.coords t) (iblk m c 2 t) (iblk m c 1 t) (iblk m c 0 t) (iblk m c 3 t)) (View.ld (iblk m c 4 t) (Rect.unit ![0, 0] ![1024, 1536] inb_S1024x3072_S1024x1536_0_0)) (ix2 r j) = evU (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) (ix3 b s j) := by
  rw [pay28_apply, row_eq m c t _ 0 (by omega) (ldU m c t) r b s hb hs]
  exact congrArg _ (Fin.ext (Nat.zero_add _))

/-- The queries of a tile's token. -/
theorem atQ (r : Fin 256) (b h : Fin 4) (d : Fin 128) (s : Fin 8448) (hb : b.val = t.val / 33) (hs : s.val = t.val % 33 * 256 + r.val)
    (j : Fin 512) (hj : j.val = h.val * 128 + d.val) :
    turn (k0_pay7 (k0_pay2 (grid0.coords t) (iblk m c 2 t) (iblk m c 1 t) (iblk m c 0 t) (iblk m c 3 t)) (View.ld (iblk m c 4 t) (Rect.unit ![0, 1536] ![1024, 512] inb_S1024x3072_S1024x512_0_1536))) (iblk m c 5 t) (iblk m c 6 t) r j * qFactor
      = evQ (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix4 b h d s) := by
  rw [turnQ m c t r b s hb hs]
  have hB : h.val * 128 + d.val < 512 := by omega
  obtain rfl : j = ⟨h.val * 128 + d.val, hB⟩ := Fin.ext hj
  rfl

/-- The keys of a tile's token. -/
theorem atK (r : Fin 256) (b : Fin 4) (s : Fin 8448) (hb : b.val = t.val / 33) (hs : s.val = t.val % 33 * 256 + r.val)
    (j k : Fin 512) (hj : j.val = k.val) :
    turn (k0_pay13 (k0_pay2 (grid0.coords t) (iblk m c 2 t) (iblk m c 1 t) (iblk m c 0 t) (iblk m c 3 t)) (View.ld (iblk m c 4 t) (Rect.unit ![0, 2048] ![1024, 512] inb_S1024x3072_S1024x512_0_2048))) (iblk m c 5 t) (iblk m c 6 t) r j
      = evK (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 b s k) := by
  rw [turnK m c t r b s hb hs]
  obtain rfl : j = k := Fin.ext hj
  rfl

/-- The values of a tile's token. -/
theorem atV (r : Fin 256) (b h : Fin 4) (n : Fin 11) (e : Fin 144) (p : Fin 768) (hb : b.val = t.val / 33)
    (hs : n.val * 768 + p.val = t.val % 33 * 256 + r.val) (he : e.val < 128) (j : Fin 512) (hj : j.val = h.val * 128 + e.val) :
    k0_pay19 (k0_pay2 (grid0.coords t) (iblk m c 2 t) (iblk m c 1 t) (iblk m c 0 t) (iblk m c 3 t)) (View.ld (iblk m c 4 t) (Rect.unit ![0, 2560] ![1024, 512] inb_S1024x3072_S1024x512_0_2560)) (ix2 r j)
      = evV (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) (ix5 b h n e p) := by
  rw [rowV m c t r b ⟨n.val * 768 + p.val, by omega⟩ hb hs]
  have hB : h.val * 128 + e.val < 512 := by omega
  obtain rfl : j = ⟨h.val * 128 + e.val, hB⟩ := Fin.ext hj
  refine Eq.trans ?_ (dif_pos (by show e.val < 128; exact he)).symm
  rfl

/-- The rows below the values. -/
theorem atBelow (b h : Fin 4) (n : Fin 11) (e : Fin 144) (p : Fin 768) (a : Fin 16) (ha : e.val = 128 + a.val) :
    below a = evV (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) (ix5 b h n e p) := by
  refine Eq.trans ?_ (dif_neg (by show ¬ e.val < 128; omega)).symm
  unfold below
  show (if a.val = 0 then (1 : EReal) else 0) = if e.val = 128 then 1 else 0
  by_cases h0 : a.val = 0
  · rw [if_pos h0, if_pos (by omega)]
  · rw [if_neg h0, if_neg (by omega)]
end Blocks

/-- The first mixer's array after the run. -/
theorem final7 (c : Dev nD) : (dats m 0 c).arrAt 7 cfg0.N = (evU (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) : Buf (Elt Ideal) ((c : Thread nD τ).loc main_v13_0)) := by
  refine (dats m 0 c).arrAt_eq_of_covers 7 _ (by decide +kernel) fun t hf y => ?_
  blk_simp
  rw [after0_7, outsAt0]
  dsimp only
  frame_out
  have ht := hN t
  have h33 := Nat.mod_lt t.val (by norm_num : 0 < 33)
  idx_vars y
  obtain rfl : y0 = 0 := Subsingleton.elim _ _
  have e : ((View.whole main_v13_0).slice (win0_7.rect t)).emb (ix3 0 y1 y2)
      = (ix3 ⟨t.val / 33, by omega⟩ ⟨t.val % 33 * 256 + y1.val, by omega⟩ y2 : S4x8448x1536.Idx) := by
    blk_ext [idx_facts t]
  rw [e]
  pointwise [k0_pay1]
  exact atU m c t _ _ _ rfl rfl _

/-- The queries' array after the run. -/
theorem final8 (c : Dev nD) : (dats m 0 c).arrAt 8 cfg0.N = (evQ (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : Buf (Elt Ideal) ((c : Thread nD τ).loc main_v13_1)) := by
  refine (dats m 0 c).arrAt_eq_of_covers 8 _ (by decide +kernel) fun t hf y => ?_
  blk_simp
  rw [after0_8, outsAt0]
  dsimp only
  frame_out
  have ht := hN t
  have h33 := Nat.mod_lt t.val (by norm_num : 0 < 33)
  idx_vars y
  obtain rfl : y0 = 0 := Subsingleton.elim _ _
  have e : ((View.whole main_v13_1).slice (win0_8.rect t)).emb (ix4 0 y1 y2 y3)
      = (ix4 ⟨t.val / 33, by omega⟩ y1 y2 ⟨t.val % 33 * 256 + y3.val, by omega⟩ : S4x4x128x8448.Idx) := by
    blk_ext [idx_facts t]
  rw [e]
  canon_tiles x h
  · idx_vars x
    obtain rfl : x0 = 0 := Subsingleton.elim _ _
    obtain rfl : x1 = 0 := Subsingleton.elim _ _
    obtain rfl : y2 = x2 := Fin.ext h2
    obtain rfl : y3 = x3 := Fin.ext h3
    have h1' : y1.val = 3 := h1
    exact (pay12_apply _ _ _ _ _).trans (atQ m c t _ _ _ _ _ rfl rfl _ (by dsimp only; omega))
  · idx_vars x
    obtain rfl : x0 = 0 := Subsingleton.elim _ _
    obtain rfl : x1 = 0 := Subsingleton.elim _ _
    obtain rfl : y2 = x2 := Fin.ext h2
    obtain rfl : y3 = x3 := Fin.ext h3
    have h1' : y1.val = 2 := h1
    exact (pay10_apply _ _ _ _ _).trans (atQ m c t _ _ _ _ _ rfl rfl _ (by dsimp only; omega))
  · idx_vars x
    obtain rfl : x0 = 0 := Subsingleton.elim _ _
    obtain rfl : x1 = 0 := Subsingleton.elim _ _
    obtain rfl : y2 = x2 := Fin.ext h2
    obtain rfl : y3 = x3 := Fin.ext h3
    have h1' : y1.val = 1 := h1
    exact (pay9_apply _ _ _ _ _).trans (atQ m c t _ _ _ _ _ rfl rfl _ (by dsimp only; omega))
  · idx_vars x
    obtain rfl : x0 = 0 := Subsingleton.elim _ _
    obtain rfl : x1 = 0 := Subsingleton.elim _ _
    obtain rfl : y2 = x2 := Fin.ext h2
    obtain rfl : y3 = x3 := Fin.ext h3
    have h1' : y1.val = 0 := h1
    exact (pay8_apply _ _ _ _ _ _).trans (atQ m c t _ _ _ _ _ rfl rfl _ (by dsimp only; omega))

/-- The keys' array after the run. -/
theorem final9 (c : Dev nD) : (dats m 0 c).arrAt 9 cfg0.N = (evK (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : Buf (Elt Ideal) ((c : Thread nD τ).loc main_v13_2)) := by
  refine (dats m 0 c).arrAt_eq_of_covers 9 _ (by decide +kernel) fun t hf y => ?_
  blk_simp
  rw [after0_9, outsAt0]
  dsimp only
  frame_out
  have ht := hN t
  have h33 := Nat.mod_lt t.val (by norm_num : 0 < 33)
  idx_vars y
  obtain rfl : y0 = 0 := Subsingleton.elim _ _
  have e : ((View.whole main_v13_2).slice (win0_9.rect t)).emb (ix3 0 y1 y2)
      = (ix3 ⟨t.val / 33, by omega⟩ ⟨t.val % 33 * 256 + y1.val, by omega⟩ y2 : S4x8448x512.Idx) := by
    blk_ext [idx_facts t]
  rw [e]
  canon_tiles x h
  · idx_vars x
    obtain rfl : x0 = 0 := Subsingleton.elim _ _
    obtain rfl : y1 = x1 := Fin.ext h1
    have h2' : y2.val = 384 + x2.val := h2
    exact (pay18_apply _ _ _ _ _).trans (atK m c t _ _ _ rfl rfl _ _ (by dsimp only; omega))
  · idx_vars x
    obtain rfl : x0 = 0 := Subsingleton.elim _ _
    obtain rfl : y1 = x1 := Fin.ext h1
    have h2' : y2.val = 256 + x2.val := h2
    exact (pay17_apply _ _ _ _ _ _).trans (atK m c t _ _ _ rfl rfl _ _ (by dsimp only; omega))
  · idx_vars x
    obtain rfl : x0 = 0 := Subsingleton.elim _ _
    obtain rfl : y1 = x1 := Fin.ext h1
    have h2' : y2.val = 128 + x2.val := h2
    exact (pay15_apply _ _ _ _ _ _).trans (atK m c t _ _ _ rfl rfl _ _ (by dsimp only; omega))
  · idx_vars x
    obtain rfl : x0 = 0 := Subsingleton.elim _ _
    obtain rfl : y1 = x1 := Fin.ext h1
    have h2' : y2.val = 0 + x2.val := h2.trans (Nat.zero_add _).symm
    exact (pay14_apply _ _ _ _ _ _).trans (atK m c t _ _ _ rfl rfl _ _ (by dsimp only; omega))

/-- The values' array after the run. -/
theorem final10 (c : Dev nD) : (dats m 0 c).arrAt 10 cfg0.N = (evV (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) : Buf (Elt Ideal) ((c : Thread nD τ).loc main_v13_3)) := by
  refine (dats m 0 c).arrAt_eq_of_covers 10 _ (by decide +kernel) fun t hf y => ?_
  blk_simp
  rw [after0_10, outsAt0]
  dsimp only
  frame_out
  have ht := hN t
  have h33 := Nat.mod_lt t.val (by norm_num : 0 < 33)
  idx_vars y
  obtain rfl : y0 = 0 := Subsingleton.elim _ _
  obtain rfl : y2 = 0 := Subsingleton.elim _ _
  have e : ((View.whole main_v13_3).slice (win0_10.rect t)).emb (ix5 0 y1 0 y3 y4)
      = (ix5 ⟨t.val / 33, by omega⟩ y1 ⟨t.val % 33 / 3, by omega⟩ y3 ⟨t.val % 33 % 3 * 256 + y4.val, by omega⟩ : S4x4x11x144x768.Idx) := by
    blk_ext [idx_facts t]
  rw [e]
  canon_tiles x h using (View.cover_of_tiledBy _ ![1, 1, 1, 16, 256] (by sl_kernel_rfl) _)
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 3 := h1
    have h3' : y3.val = 128 + x3.val := h3
    have h33' := Nat.div_add_mod (t.val % 33) 3
    exact (pay27_apply _ _).trans (atBelow m c _ _ _ _ _ _ h3')
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 3 := h1
    have h3' : y3.val = 0 + x3.val := h3.trans (Nat.zero_add _).symm
    have h33' := Nat.div_add_mod (t.val % 33) 3
    exact (pay26_apply _ _ _).trans (atV m c t _ _ _ _ _ _ rfl (by dsimp only; omega) (by omega) _ (by dsimp only; omega))
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 2 := h1
    have h3' : y3.val = 128 + x3.val := h3
    have h33' := Nat.div_add_mod (t.val % 33) 3
    exact (pay25_apply _ _).trans (atBelow m c _ _ _ _ _ _ h3')
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 2 := h1
    have h3' : y3.val = 0 + x3.val := h3.trans (Nat.zero_add _).symm
    have h33' := Nat.div_add_mod (t.val % 33) 3
    exact (pay24_apply _ _ _).trans (atV m c t _ _ _ _ _ _ rfl (by dsimp only; omega) (by omega) _ (by dsimp only; omega))
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 1 := h1
    have h3' : y3.val = 128 + x3.val := h3
    have h33' := Nat.div_add_mod (t.val % 33) 3
    exact (pay23_apply _ _).trans (atBelow m c _ _ _ _ _ _ h3')
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 1 := h1
    have h3' : y3.val = 0 + x3.val := h3.trans (Nat.zero_add _).symm
    have h33' := Nat.div_add_mod (t.val % 33) 3
    exact (pay22_apply _ _ _ _).trans (atV m c t _ _ _ _ _ _ rfl (by dsimp only; omega) (by omega) _ (by dsimp only; omega))
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 0 := h1
    have h3' : y3.val = 128 + x3.val := h3
    have h33' := Nat.div_add_mod (t.val % 33) 3
    exact (pay21_apply _ _).trans (atBelow m c _ _ _ _ _ _ h3')
  · idx_vars x
    obtain rfl : x0 = 0 := Subsingleton.elim _ _
    obtain rfl : x1 = 0 := Subsingleton.elim _ _
    obtain rfl : x2 = 0 := Subsingleton.elim _ _
    obtain rfl : y4 = x4 := Fin.ext h4
    have h1' : y1.val = 0 := h1
    have h3' : y3.val = 0 + x3.val := h3.trans (Nat.zero_add _).symm
    have h33' := Nat.div_add_mod (t.val % 33) 3
    exact (pay20_apply _ _ _ _).trans (atV m c t _ _ _ _ _ _ rfl (by dsimp only; omega) (by omega) _ (by dsimp only; omega))

/-- The run, read: the four result arrays, the arguments unchanged. -/
theorem run : θ_run defs (onTc (τ := τ) (main (F := Ideal))) ⟨m, fun _ => 0, ρ⟩ fun r => ∀ c : Dev nD,
      r.2.mem ((c : Thread nD τ).loc main_v13_0) = evU (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3))
      ∧ r.2.mem ((c : Thread nD τ).loc main_v13_1) = evQ (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v13_2) = evK (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v13_3) = evV (latOf (m ((c : Thread nD τ).loc main_arg0))) (ctxOf (m ((c : Thread nD τ).loc main_arg0))) (layerOf 2 (m ((c : Thread nD τ).loc main_arg1))) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final7 m c), (h c).2.1.trans (final8 m c), (h c).2.2.1.trans (final9 m c),
    (h c).2.2.2.1.trans (final10 m c), (h c).2.2.2.2⟩) (Value.run_blocks m ρ)

end Cert.Kernel7Ideal.EvenInValue7

end
-- ==== Proof.EvenInRef7.lean ====
/- The reference of the third layer's input projection: its results as functions of the arguments. -/
module

public import proofs.«01_k».proof.Proof.Gen.Reference7Ideal.Read
public import proofs.«01_k».proof.Proof.EvenInSpec7

@[expose] public section

set_option maxRecDepth 16384

noncomputable section

namespace Cert.Reference7Ideal.EvenInRef7

open Cert.Reference7Ideal Cert.Reference7Ideal.Read Idealize.ShloMosaic Cert.Rows

variable (x0 : FVec Ideal S4x8448x1024 .f32) (x2 : FVec Ideal S4x8x6144 .f32)
  (x3 : FVec Ideal S1024 .f32) (x4 : FVec Ideal S1024x3072 .f32) (x5 x6 x7 x8 : FVec Ideal S8192x16 .f32) (b : Fin 4)

/-- The latent rows of an array of heads. -/
theorem latRows (v : FVec Ideal S4x8448x4x2x64 .f32) (hh) (s : Fin 8192) (h : Fin 4) (a : Fin 2) (e : Fin 64) : extractStridedSlice S4x8192x4x2x64 ![0, 0, 0, 0, 0] v hh (ix5 b s h a e) = v (ix5 b ⟨s.val, by omega⟩ h a e) := by
  pointwise

/-- Its context rows. -/
theorem ctxRows (v : FVec Ideal S4x8448x4x2x64 .f32) (hh) (s : Fin 256) (h : Fin 4) (a : Fin 2) (e : Fin 64) : extractStridedSlice S4x256x4x2x64 ![0, 8192, 0, 0, 0] v hh (ix5 b s h a e) = v (ix5 b ⟨8192 + s.val, by omega⟩ h a e) := by
  pointwise

/-- The first 32 columns. -/
theorem half0 (v : FVec Ideal S4x8192x4x2x64 .f32) (hh) (s : Fin 8192) (h : Fin 4) (a : Fin 2) (e : Fin 32) : extractStridedSlice S4x8192x4x2x32 ![0, 0, 0, 0, 0] v hh (ix5 b s h a e) = v (ix5 b s h a ⟨e.val, by omega⟩) := by
  pointwise

/-- The last 32 columns. -/
theorem half1 (v : FVec Ideal S4x8192x4x2x64 .f32) (hh) (s : Fin 8192) (h : Fin 4) (a : Fin 2) (e : Fin 32) : extractStridedSlice S4x8192x4x2x32 ![0, 0, 0, 0, 32] v hh (ix5 b s h a e) = v (ix5 b s h a ⟨32 + e.val, by omega⟩) := by
  pointwise

/-- The first 16 columns. -/
theorem quarter0 (v : FVec Ideal S4x8192x4x2x32 .f32) (hh) (s : Fin 8192) (h : Fin 4) (a : Fin 2) (e : Fin 16) : extractStridedSlice S4x8192x4x2x16 ![0, 0, 0, 0, 0] v hh (ix5 b s h a e) = v (ix5 b s h a ⟨e.val, by omega⟩) := by
  pointwise

/-- The last 16 columns. -/
theorem quarter1 (v : FVec Ideal S4x8192x4x2x32 .f32) (hh) (s : Fin 8192) (h : Fin 4) (a : Fin 2) (e : Fin 16) : extractStridedSlice S4x8192x4x2x16 ![0, 0, 0, 0, 16] v hh (ix5 b s h a e) = v (ix5 b s h a ⟨16 + e.val, by omega⟩) := by
  pointwise

/-- A table of angles spread over samples, heads and maps. -/
theorem angles (C : FVec Ideal S8192x16 .f32) (h0 h1 h2) (s : Fin 8192) (h : Fin 4) (a : Fin 2) (e : Fin 16) : broadcastInDim S4x8192x4x2x16 ![0, 1, 2, 3, 4] h0 (broadcastInDim S1x8192x1x1x16 ![1, 2, 3, 4] h1 (broadcastInDim S8192x1x1x16 ![0, 3] h2 C)) (ix5 b s h a e) = C (ix2 s e) := by
  pointwise

/-- The difference of two products. -/
theorem turnSub (u v C S : FVec Ideal S4x8192x4x2x16 .f32) (s : Fin 8192) (h : Fin 4) (a : Fin 2) (e : Fin 16) : subf (mulf u C) (mulf v S) (ix5 b s h a e) = u (ix5 b s h a e) * C (ix5 b s h a e) - v (ix5 b s h a e) * S (ix5 b s h a e) := by
  pointwise

/-- The sum of two products. -/
theorem turnAdd (u v C S : FVec Ideal S4x8192x4x2x16 .f32) (s : Fin 8192) (h : Fin 4) (a : Fin 2) (e : Fin 16) : addf (mulf u C) (mulf v S) (ix5 b s h a e) = u (ix5 b s h a e) * C (ix5 b s h a e) + v (ix5 b s h a e) * S (ix5 b s h a e) := by
  pointwise

/-- The keys' heads side by side. -/
theorem joined (v : FVec Ideal S4x8448x4x2x64 .f32) (h0 h1) (s : Fin 8448) (j : Fin 512) :
    truncf .bf16 (shapeCast S4x8448x512 v h0) h1 (ix3 b s j)
      = v (ix5 b s ⟨j.val / 128, by omega⟩ ⟨j.val / 64 % 2, by omega⟩ ⟨j.val % 64, by omega⟩) := by
  pointwise

/-- The projection of a row: a latent's shift and scale are its sample's row of the modulations, the context's row 4. -/
theorem proj_apply (s : Fin 8448) (j : Fin 3072) : val_main_v28 (F := Ideal) x0 x2 x3 x4 (ix3 b s j)
      = evProj (latOf x0) (ctxOf x0) (layerOf 2 x2) x3 x4 b s j := by
  unfold val_main_v28 val_main_v27 val_main_v26 val_main_v25 val_main_v24 val_main_cst_2 val_main_v23 val_main_v22
    val_main_v21 val_main_v20 val_main_v19 val_main_v18 val_main_v17 val_main_v16 val_main_cst_1 val_main_v15
    val_main_v14 val_main_cst_0 val_main_v13 val_main_v12 val_main_cst val_main_v11  val_main_v10
    val_main_v9 val_main_v8 val_main_v7 val_main_v6 val_main_v5 val_main_v4 val_main_v3 val_main_v2 val_main_v1
    val_main_v0
  by_cases h : s.val < 8192
  · pointwise [h]
    simp only [evProj, modOf, pairRow_whole, h, if_true]
    rfl
  · pointwise [h]
    simp only [evProj, modOf, pairRow_whole, h, if_false]
    rfl

/-- The queries before the rotation. -/
theorem q_apply (s : Fin 8448) (h : Fin 4) (a : Fin 2) (e : Fin 64) : val_main_v33 (F := Ideal) x0 x2 x3 x4 (ix5 b s h a e)
      = cols (evProj (latOf x0) (ctxOf x0) (layerOf 2 x2) x3 x4 b s) 1536 (by omega) ⟨h.val * 128 + a.val * 64 + e.val, by omega⟩ := by
  unfold val_main_v33 val_main_v30
  pointwise [proj_apply]
  exact congrArg (evProj (latOf x0) (ctxOf x0) (layerOf 2 x2) x3 x4 b s) (Fin.ext rfl)

/-- The latents' queries. -/
theorem q36_apply (s : Fin 8192) (h : Fin 4) (a : Fin 2) (e : Fin 64) : val_main_v35 (F := Ideal) x0 x2 x3 x4 (ix5 b s h a e)
      = val_main_v33 (F := Ideal) x0 x2 x3 x4 (ix5 b ⟨s.val, by omega⟩ h a e) := by
  unfold val_main_v35
  rw [latRows]

/-- Their first halves. -/
theorem q37_apply (s : Fin 8192) (h : Fin 4) (a : Fin 2) (e : Fin 32) : val_main_v36 (F := Ideal) x0 x2 x3 x4 (ix5 b s h a e)
      = val_main_v35 (F := Ideal) x0 x2 x3 x4 (ix5 b s h a ⟨e.val, by omega⟩) := by
  unfold val_main_v36
  rw [half0]

/-- Their second halves. -/
theorem q57_apply (s : Fin 8192) (h : Fin 4) (a : Fin 2) (e : Fin 32) : val_main_v56 (F := Ideal) x0 x2 x3 x4 (ix5 b s h a e)
      = val_main_v35 (F := Ideal) x0 x2 x3 x4 (ix5 b s h a ⟨32 + e.val, by omega⟩) := by
  unfold val_main_v56
  rw [half1]

/-- A half's first half. -/
theorem q40_apply (s : Fin 8192) (h : Fin 4) (a : Fin 2) (e : Fin 16) : val_main_v39 (F := Ideal) x0 x2 x3 x4 (ix5 b s h a e)
      = val_main_v36 (F := Ideal) x0 x2 x3 x4 (ix5 b s h a ⟨e.val, by omega⟩) := by
  unfold val_main_v39
  rw [quarter0]

/-- A half's second half. -/
theorem q41_apply (s : Fin 8192) (h : Fin 4) (a : Fin 2) (e : Fin 16) : val_main_v40 (F := Ideal) x0 x2 x3 x4 (ix5 b s h a e)
      = val_main_v36 (F := Ideal) x0 x2 x3 x4 (ix5 b s h a ⟨16 + e.val, by omega⟩) := by
  unfold val_main_v40
  rw [quarter1]

/-- A half's first half. -/
theorem q60_apply (s : Fin 8192) (h : Fin 4) (a : Fin 2) (e : Fin 16) : val_main_v59 (F := Ideal) x0 x2 x3 x4 (ix5 b s h a e)
      = val_main_v56 (F := Ideal) x0 x2 x3 x4 (ix5 b s h a ⟨e.val, by omega⟩) := by
  unfold val_main_v59
  rw [quarter0]

/-- A half's second half. -/
theorem q61_apply (s : Fin 8192) (h : Fin 4) (a : Fin 2) (e : Fin 16) : val_main_v60 (F := Ideal) x0 x2 x3 x4 (ix5 b s h a e)
      = val_main_v56 (F := Ideal) x0 x2 x3 x4 (ix5 b s h a ⟨16 + e.val, by omega⟩) := by
  unfold val_main_v60
  rw [quarter1]

/-- The context's queries. -/
theorem q78_apply (s : Fin 256) (h : Fin 4) (a : Fin 2) (e : Fin 64) : val_main_v77 (F := Ideal) x0 x2 x3 x4 (ix5 b s h a e)
      = val_main_v33 (F := Ideal) x0 x2 x3 x4 (ix5 b ⟨8192 + s.val, by omega⟩ h a e) := by
  unfold val_main_v77
  rw [ctxRows]

/-- That half rotated. -/
theorem q48_apply (s : Fin 8192) (h : Fin 4) (a : Fin 2) (e : Fin 16) : val_main_v47 (F := Ideal) x0 x2 x3 x4 x5 x6 (ix5 b s h a e)
      = rot x5 x6 (cols (evProj (latOf x0) (ctxOf x0) (layerOf 2 x2) x3 x4 b ⟨s.val, by omega⟩) 1536 (by omega)) s ⟨h.val * 128 + a.val * 64 + e.val, by omega⟩ := by
  unfold val_main_v47 val_main_v46 val_main_v45 val_main_v44 val_main_v43 val_main_v42 val_main_v41 val_main_v38
    val_main_v37
  rw [turnSub, angles, angles, q40_apply, q41_apply, q37_apply, q37_apply, q36_apply, q36_apply, q_apply, q_apply]
  refine rot_fst x5 x6 _ s ?_ ?_ ?_ ?_ <;> dsimp only <;> omega

/-- That half rotated. -/
theorem q55_apply (s : Fin 8192) (h : Fin 4) (a : Fin 2) (e : Fin 16) : val_main_v54 (F := Ideal) x0 x2 x3 x4 x5 x6 (ix5 b s h a e)
      = rot x5 x6 (cols (evProj (latOf x0) (ctxOf x0) (layerOf 2 x2) x3 x4 b ⟨s.val, by omega⟩) 1536 (by omega)) s ⟨h.val * 128 + a.val * 64 + (16 + e.val), by omega⟩ := by
  unfold val_main_v54 val_main_v53 val_main_v52 val_main_v51 val_main_v50 val_main_v49 val_main_v48 val_main_v38
    val_main_v37
  rw [turnAdd, angles, angles, q41_apply, q40_apply, q37_apply, q37_apply, q36_apply, q36_apply, q_apply, q_apply]
  refine rot_snd x5 x6 _ s ?_ ?_ ?_ ?_ <;> dsimp only <;> omega

/-- That half rotated. -/
theorem q68_apply (s : Fin 8192) (h : Fin 4) (a : Fin 2) (e : Fin 16) : val_main_v67 (F := Ideal) x0 x2 x3 x4 x7 x8 (ix5 b s h a e)
      = rot x7 x8 (cols (evProj (latOf x0) (ctxOf x0) (layerOf 2 x2) x3 x4 b ⟨s.val, by omega⟩) 1536 (by omega)) s ⟨h.val * 128 + a.val * 64 + (32 + e.val), by omega⟩ := by
  unfold val_main_v67 val_main_v66 val_main_v65 val_main_v64 val_main_v63 val_main_v62 val_main_v61 val_main_v58
    val_main_v57
  rw [turnSub, angles, angles, q60_apply, q61_apply, q57_apply, q57_apply, q36_apply, q36_apply, q_apply, q_apply]
  refine rot_fst x7 x8 _ s ?_ ?_ ?_ ?_ <;> dsimp only <;> omega

/-- That half rotated. -/
theorem q75_apply (s : Fin 8192) (h : Fin 4) (a : Fin 2) (e : Fin 16) : val_main_v74 (F := Ideal) x0 x2 x3 x4 x7 x8 (ix5 b s h a e)
      = rot x7 x8 (cols (evProj (latOf x0) (ctxOf x0) (layerOf 2 x2) x3 x4 b ⟨s.val, by omega⟩) 1536 (by omega)) s ⟨h.val * 128 + a.val * 64 + (32 + (16 + e.val)), by omega⟩ := by
  unfold val_main_v74 val_main_v73 val_main_v72 val_main_v71 val_main_v70 val_main_v69 val_main_v68 val_main_v58
    val_main_v57
  rw [turnAdd, angles, angles, q61_apply, q60_apply, q57_apply, q57_apply, q36_apply, q36_apply, q_apply, q_apply]
  refine rot_snd x7 x8 _ s ?_ ?_ ?_ ?_ <;> dsimp only <;> omega

/-- A latent's rotated queries. -/
theorem qLat_apply (s : Fin 8192) (h : Fin 4) (a : Fin 2) (e : Fin 64) : val_main_v76 (F := Ideal) x0 x2 x3 x4 x5 x6 x7 x8 (ix5 b s h a e)
      = (if e.val < 32 then rot x5 x6 else rot x7 x8) (cols (evProj (latOf x0) (ctxOf x0) (layerOf 2 x2) x3 x4 b ⟨s.val, by omega⟩) 1536 (by omega)) s
          ⟨h.val * 128 + a.val * 64 + e.val, by omega⟩ := by
  unfold val_main_v76 val_main_v75 val_main_v55
  by_cases h1 : e.val < 32
  · rw [if_pos h1]
    by_cases h2 : e.val < 16
    · pointwise [q48_apply, h1, h2]
    · have e1 : 16 + (e.val - 16) = e.val := by omega
      pointwise [q55_apply, h1, h2]
      simp only [e1]
  · rw [if_neg h1]
    by_cases h2 : e.val - 32 < 16
    · have e1 : 32 + (e.val - 32) = e.val := by omega
      pointwise [q68_apply, h1, h2]
      simp only [e1]
    · have e1 : 32 + (16 + (e.val - 32 - 16)) = e.val := by omega
      pointwise [q75_apply, h1, h2]
      simp only [e1]

/-- The rotated queries. -/
theorem qRope_apply (s : Fin 8448) (h : Fin 4) (a : Fin 2) (e : Fin 64) : val_main_v78 (F := Ideal) x0 x2 x3 x4 x5 x6 x7 x8 (ix5 b s h a e)
      = rope x5 x6 x7 x8 (cols (evProj (latOf x0) (ctxOf x0) (layerOf 2 x2) x3 x4 b s) 1536 (by omega)) s ⟨h.val * 128 + a.val * 64 + e.val, by omega⟩ := by
  unfold val_main_v78
  unfold rope
  have h3 : ((h.val * 128 + a.val * 64 + e.val) % 64 < 32) = (e.val < 32) := propext ⟨fun _ => by omega, fun _ => by omega⟩
  by_cases hs : s.val < 8192
  · pointwise [qLat_apply, hs, h3]
    split_ifs <;> rfl
  · have e1 : 8192 + (s.val - 8192) = s.val := by omega
    pointwise [hs]
    simp only [q78_apply, q_apply, e1]

/-- The keys before the rotation. -/
theorem k_apply (s : Fin 8448) (h : Fin 4) (a : Fin 2) (e : Fin 64) : val_main_v34 (F := Ideal) x0 x2 x3 x4 (ix5 b s h a e)
      = cols (evProj (latOf x0) (ctxOf x0) (layerOf 2 x2) x3 x4 b s) 2048 (by omega) ⟨h.val * 128 + a.val * 64 + e.val, by omega⟩ := by
  unfold val_main_v34 val_main_v31
  pointwise [proj_apply]
  exact congrArg (evProj (latOf x0) (ctxOf x0) (layerOf 2 x2) x3 x4 b s) (Fin.ext rfl)

/-- The latents' keys. -/
theorem k36_apply (s : Fin 8192) (h : Fin 4) (a : Fin 2) (e : Fin 64) : val_main_v79 (F := Ideal) x0 x2 x3 x4 (ix5 b s h a e)
      = val_main_v34 (F := Ideal) x0 x2 x3 x4 (ix5 b ⟨s.val, by omega⟩ h a e) := by
  unfold val_main_v79
  rw [latRows]

/-- Their first halves. -/
theorem k37_apply (s : Fin 8192) (h : Fin 4) (a : Fin 2) (e : Fin 32) : val_main_v80 (F := Ideal) x0 x2 x3 x4 (ix5 b s h a e)
      = val_main_v79 (F := Ideal) x0 x2 x3 x4 (ix5 b s h a ⟨e.val, by omega⟩) := by
  unfold val_main_v80
  rw [half0]

/-- Their second halves. -/
theorem k57_apply (s : Fin 8192) (h : Fin 4) (a : Fin 2) (e : Fin 32) : val_main_v100 (F := Ideal) x0 x2 x3 x4 (ix5 b s h a e)
      = val_main_v79 (F := Ideal) x0 x2 x3 x4 (ix5 b s h a ⟨32 + e.val, by omega⟩) := by
  unfold val_main_v100
  rw [half1]

/-- A half's first half. -/
theorem k40_apply (s : Fin 8192) (h : Fin 4) (a : Fin 2) (e : Fin 16) : val_main_v83 (F := Ideal) x0 x2 x3 x4 (ix5 b s h a e)
      = val_main_v80 (F := Ideal) x0 x2 x3 x4 (ix5 b s h a ⟨e.val, by omega⟩) := by
  unfold val_main_v83
  rw [quarter0]

/-- A half's second half. -/
theorem k41_apply (s : Fin 8192) (h : Fin 4) (a : Fin 2) (e : Fin 16) : val_main_v84 (F := Ideal) x0 x2 x3 x4 (ix5 b s h a e)
      = val_main_v80 (F := Ideal) x0 x2 x3 x4 (ix5 b s h a ⟨16 + e.val, by omega⟩) := by
  unfold val_main_v84
  rw [quarter1]

/-- A half's first half. -/
theorem k60_apply (s : Fin 8192) (h : Fin 4) (a : Fin 2) (e : Fin 16) : val_main_v103 (F := Ideal) x0 x2 x3 x4 (ix5 b s h a e)
      = val_main_v100 (F := Ideal) x0 x2 x3 x4 (ix5 b s h a ⟨e.val, by omega⟩) := by
  unfold val_main_v103
  rw [quarter0]

/-- A half's second half. -/
theorem k61_apply (s : Fin 8192) (h : Fin 4) (a : Fin 2) (e : Fin 16) : val_main_v104 (F := Ideal) x0 x2 x3 x4 (ix5 b s h a e)
      = val_main_v100 (F := Ideal) x0 x2 x3 x4 (ix5 b s h a ⟨16 + e.val, by omega⟩) := by
  unfold val_main_v104
  rw [quarter1]

/-- The context's keys. -/
theorem k78_apply (s : Fin 256) (h : Fin 4) (a : Fin 2) (e : Fin 64) : val_main_v121 (F := Ideal) x0 x2 x3 x4 (ix5 b s h a e)
      = val_main_v34 (F := Ideal) x0 x2 x3 x4 (ix5 b ⟨8192 + s.val, by omega⟩ h a e) := by
  unfold val_main_v121
  rw [ctxRows]

/-- That half rotated. -/
theorem k48_apply (s : Fin 8192) (h : Fin 4) (a : Fin 2) (e : Fin 16) : val_main_v91 (F := Ideal) x0 x2 x3 x4 x5 x6 (ix5 b s h a e)
      = rot x5 x6 (cols (evProj (latOf x0) (ctxOf x0) (layerOf 2 x2) x3 x4 b ⟨s.val, by omega⟩) 2048 (by omega)) s ⟨h.val * 128 + a.val * 64 + e.val, by omega⟩ := by
  unfold val_main_v91 val_main_v90 val_main_v89 val_main_v88 val_main_v87 val_main_v86 val_main_v85 val_main_v82
    val_main_v81
  rw [turnSub, angles, angles, k40_apply, k41_apply, k37_apply, k37_apply, k36_apply, k36_apply, k_apply, k_apply]
  refine rot_fst x5 x6 _ s ?_ ?_ ?_ ?_ <;> dsimp only <;> omega

/-- That half rotated. -/
theorem k55_apply (s : Fin 8192) (h : Fin 4) (a : Fin 2) (e : Fin 16) : val_main_v98 (F := Ideal) x0 x2 x3 x4 x5 x6 (ix5 b s h a e)
      = rot x5 x6 (cols (evProj (latOf x0) (ctxOf x0) (layerOf 2 x2) x3 x4 b ⟨s.val, by omega⟩) 2048 (by omega)) s ⟨h.val * 128 + a.val * 64 + (16 + e.val), by omega⟩ := by
  unfold val_main_v98 val_main_v97 val_main_v96 val_main_v95 val_main_v94 val_main_v93 val_main_v92 val_main_v82
    val_main_v81
  rw [turnAdd, angles, angles, k41_apply, k40_apply, k37_apply, k37_apply, k36_apply, k36_apply, k_apply, k_apply]
  refine rot_snd x5 x6 _ s ?_ ?_ ?_ ?_ <;> dsimp only <;> omega

/-- That half rotated. -/
theorem k68_apply (s : Fin 8192) (h : Fin 4) (a : Fin 2) (e : Fin 16) : val_main_v111 (F := Ideal) x0 x2 x3 x4 x7 x8 (ix5 b s h a e)
      = rot x7 x8 (cols (evProj (latOf x0) (ctxOf x0) (layerOf 2 x2) x3 x4 b ⟨s.val, by omega⟩) 2048 (by omega)) s ⟨h.val * 128 + a.val * 64 + (32 + e.val), by omega⟩ := by
  unfold val_main_v111 val_main_v110 val_main_v109 val_main_v108 val_main_v107 val_main_v106 val_main_v105
    val_main_v102 val_main_v101
  rw [turnSub, angles, angles, k60_apply, k61_apply, k57_apply, k57_apply, k36_apply, k36_apply, k_apply, k_apply]
  refine rot_fst x7 x8 _ s ?_ ?_ ?_ ?_ <;> dsimp only <;> omega

/-- That half rotated. -/
theorem k75_apply (s : Fin 8192) (h : Fin 4) (a : Fin 2) (e : Fin 16) : val_main_v118 (F := Ideal) x0 x2 x3 x4 x7 x8 (ix5 b s h a e)
      = rot x7 x8 (cols (evProj (latOf x0) (ctxOf x0) (layerOf 2 x2) x3 x4 b ⟨s.val, by omega⟩) 2048 (by omega)) s ⟨h.val * 128 + a.val * 64 + (32 + (16 + e.val)), by omega⟩ := by
  unfold val_main_v118 val_main_v117 val_main_v116 val_main_v115 val_main_v114 val_main_v113 val_main_v112
    val_main_v102 val_main_v101
  rw [turnAdd, angles, angles, k61_apply, k60_apply, k57_apply, k57_apply, k36_apply, k36_apply, k_apply, k_apply]
  refine rot_snd x7 x8 _ s ?_ ?_ ?_ ?_ <;> dsimp only <;> omega

/-- A latent's rotated keys. -/
theorem kLat_apply (s : Fin 8192) (h : Fin 4) (a : Fin 2) (e : Fin 64) : val_main_v120 (F := Ideal) x0 x2 x3 x4 x5 x6 x7 x8 (ix5 b s h a e)
      = (if e.val < 32 then rot x5 x6 else rot x7 x8) (cols (evProj (latOf x0) (ctxOf x0) (layerOf 2 x2) x3 x4 b ⟨s.val, by omega⟩) 2048 (by omega)) s
          ⟨h.val * 128 + a.val * 64 + e.val, by omega⟩ := by
  unfold val_main_v120 val_main_v119 val_main_v99
  by_cases h1 : e.val < 32
  · rw [if_pos h1]
    by_cases h2 : e.val < 16
    · pointwise [k48_apply, h1, h2]
    · have e1 : 16 + (e.val - 16) = e.val := by omega
      pointwise [k55_apply, h1, h2]
      simp only [e1]
  · rw [if_neg h1]
    by_cases h2 : e.val - 32 < 16
    · have e1 : 32 + (e.val - 32) = e.val := by omega
      pointwise [k68_apply, h1, h2]
      simp only [e1]
    · have e1 : 32 + (16 + (e.val - 32 - 16)) = e.val := by omega
      pointwise [k75_apply, h1, h2]
      simp only [e1]

/-- The rotated keys. -/
theorem kRope_apply (s : Fin 8448) (h : Fin 4) (a : Fin 2) (e : Fin 64) : val_main_v122 (F := Ideal) x0 x2 x3 x4 x5 x6 x7 x8 (ix5 b s h a e)
      = rope x5 x6 x7 x8 (cols (evProj (latOf x0) (ctxOf x0) (layerOf 2 x2) x3 x4 b s) 2048 (by omega)) s ⟨h.val * 128 + a.val * 64 + e.val, by omega⟩ := by
  unfold val_main_v122
  unfold rope
  have h3 : ((h.val * 128 + a.val * 64 + e.val) % 64 < 32) = (e.val < 32) := propext ⟨fun _ => by omega, fun _ => by omega⟩
  by_cases hs : s.val < 8192
  · pointwise [kLat_apply, hs, h3]
    split_ifs <;> rfl
  · have e1 : 8192 + (s.val - 8192) = s.val := by omega
    pointwise [hs]
    simp only [k78_apply, k_apply, e1]

/-- The first mixer's columns. -/
theorem u_eq : val_main_v132 (F := Ideal) x0 x2 x3 x4 = evU (latOf x0) (ctxOf x0) (layerOf 2 x2) x3 x4 := by
  funext i
  idx_vars i
  unfold val_main_v132 val_main_v29
  pointwise [proj_apply]
  rfl

/-- The queries. -/
theorem q_eq : val_main_v133 (F := Ideal) x0 x2 x3 x4 x5 x6 x7 x8 = evQ (latOf x0) (ctxOf x0) (layerOf 2 x2) x3 x4 x5 x6 x7 x8 := by
  funext i
  idx_vars i
  unfold val_main_v133 val_main_v126 val_main_v125 val_main_v124 val_main_v123 val_main_cst_3
  have e1 (h : Fin 4) : h.val * 128 + i2.val / 64 * 64 + i2.val % 64 = h.val * 128 + i2.val := by omega
  pointwise [qRope_apply]
  simp only [e1]
  rfl

/-- The keys. -/
theorem k_eq : val_main_v135 (F := Ideal) x0 x2 x3 x4 x5 x6 x7 x8 = evK (latOf x0) (ctxOf x0) (layerOf 2 x2) x3 x4 x5 x6 x7 x8 := by
  funext i
  idx_vars i
  unfold val_main_v135 val_main_v134
  have e1 : i2.val / 128 * 128 + i2.val / 64 % 2 * 64 + i2.val % 64 = i2.val := by omega
  rw [joined, kRope_apply]
  simp only [e1]
  rfl

/-- The values. -/
theorem v_eq : val_main_v136 (F := Ideal) x0 x2 x3 x4 = evV (latOf x0) (ctxOf x0) (layerOf 2 x2) x3 x4 := by
  funext i
  idx_vars i
  unfold val_main_v136 val_main_v131 val_main_v130 val_main_cst_5 val_main_v129 val_main_cst_4 val_main_v128
    val_main_v127 val_main_v32
  unfold evV
  by_cases h : i3.val < 128
  · pointwise [proj_apply, h]
    rfl
  · by_cases h' : i3.val - 128 < 1
    · have h2 : i3.val = 128 := by omega
      pointwise [h, h', h2]
    · have h2 : ¬ i3.val = 128 := by omega
      pointwise [h, h', h2]

end Cert.Reference7Ideal.EvenInRef7

end
-- ==== Proof.EvenInClaims7.lean ====
/- The claims about the input projection of the third layer. -/
module

public import proofs.«01_k».proof.Defs
public import proofs.«01_k».proof.Proof.Gen.Kernel7.Frame
public import proofs.«01_k».proof.Proof.EvenInValue7
public import proofs.«01_k».proof.Proof.EvenInRef7
public import proofs.«01_k».proof.Proof.Gen.Reference7Ideal.Run
public import Idealize.ShloMosaic.Lib.Quiescent

@[expose] public section

noncomputable section

namespace Cert.Proof.EvenIn7

open Idealize.ShloMosaic Idealize.ShloMosaic.TcCoe Idealize.SL.Sem

/-- The kernel runs, leaves its arguments and returns every counter to zero. -/
theorem frame_k : Cert.quiescent_Kernel7 := fun m ρ _ => Cert.Kernel7.Gen.frame m ρ

/-- The same of its idealization. -/
theorem frame_ki : Cert.quiescent_Kernel7Ideal := fun m ρ _ => Cert.Kernel7Ideal.Gen.frame m ρ

/-- The reference runs and leaves its arguments; it declares no semaphore. -/
theorem frame_ri : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

/-- Idealization rewrote nothing. -/
theorem preserves : Cert.preserves_Kernel7_Kernel7Ideal := trivial

/-- Over the extended reals the kernel's four results are the reference's, on all arguments. -/
theorem algebraic : Cert.algebraic_Kernel7Ideal_Reference7Ideal := by
  intro m ρ m' ρ' _ hag
  refine ⟨fun c => Cert.Rows.evU (Cert.Rows.latOf (m ((c.tc : Thread Cert.Kernel7Ideal.nD Cert.Kernel7Ideal.τ).loc Cert.Kernel7Ideal.main_arg0))) (Cert.Rows.ctxOf (m ((c.tc : Thread Cert.Kernel7Ideal.nD Cert.Kernel7Ideal.τ).loc Cert.Kernel7Ideal.main_arg0))) (Cert.Rows.layerOf 2 (m ((c.tc : Thread Cert.Kernel7Ideal.nD Cert.Kernel7Ideal.τ).loc Cert.Kernel7Ideal.main_arg1))) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    fun c => Cert.Rows.evQ (Cert.Rows.latOf (m ((c.tc : Thread Cert.Kernel7Ideal.nD Cert.Kernel7Ideal.τ).loc Cert.Kernel7Ideal.main_arg0))) (Cert.Rows.ctxOf (m ((c.tc : Thread Cert.Kernel7Ideal.nD Cert.Kernel7Ideal.τ).loc Cert.Kernel7Ideal.main_arg0))) (Cert.Rows.layerOf 2 (m ((c.tc : Thread Cert.Kernel7Ideal.nD Cert.Kernel7Ideal.τ).loc Cert.Kernel7Ideal.main_arg1))) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)),
    fun c => Cert.Rows.evK (Cert.Rows.latOf (m ((c.tc : Thread Cert.Kernel7Ideal.nD Cert.Kernel7Ideal.τ).loc Cert.Kernel7Ideal.main_arg0))) (Cert.Rows.ctxOf (m ((c.tc : Thread Cert.Kernel7Ideal.nD Cert.Kernel7Ideal.τ).loc Cert.Kernel7Ideal.main_arg0))) (Cert.Rows.layerOf 2 (m ((c.tc : Thread Cert.Kernel7Ideal.nD Cert.Kernel7Ideal.τ).loc Cert.Kernel7Ideal.main_arg1))) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)),
    fun c => Cert.Rows.evV (Cert.Rows.latOf (m ((c.tc : Thread Cert.Kernel7Ideal.nD Cert.Kernel7Ideal.τ).loc Cert.Kernel7Ideal.main_arg0))) (Cert.Rows.ctxOf (m ((c.tc : Thread Cert.Kernel7Ideal.nD Cert.Kernel7Ideal.τ).loc Cert.Kernel7Ideal.main_arg0))) (Cert.Rows.layerOf 2 (m ((c.tc : Thread Cert.Kernel7Ideal.nD Cert.Kernel7Ideal.τ).loc Cert.Kernel7Ideal.main_arg1))) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
    Cert.Kernel7Ideal.EvenInValue7.run m ρ, ?_⟩
  refine (θ_run Cert.Reference7Ideal.defs _ _).mono
    (fun _ h c => ⟨(h c).1.trans ?_, (h c).2.1.trans ?_, (h c).2.2.1.trans ?_, (h c).2.2.2.1.trans ?_, (h c).2.2.2.2⟩)
    (Cert.Reference7Ideal.Value.run (F := Ideal) m' ρ')
  · obtain ⟨a0, a1, a2, a3, a4, a5, a6, a7⟩ := hag c
    refine (Cert.Reference7Ideal.Read.val_main_v132_eq _ _ _ _).trans ?_
    rw [a0, a1, a2, a3]
    exact Cert.Reference7Ideal.EvenInRef7.u_eq _ _ _ _
  · obtain ⟨a0, a1, a2, a3, a4, a5, a6, a7⟩ := hag c
    refine (Cert.Reference7Ideal.Read.val_main_v133_eq m' c).trans ?_
    rw [a0, a1, a2, a3, a4, a5, a6, a7]
    exact Cert.Reference7Ideal.EvenInRef7.q_eq _ _ _ _ _ _ _ _
  · obtain ⟨a0, a1, a2, a3, a4, a5, a6, a7⟩ := hag c
    refine (Cert.Reference7Ideal.Read.val_main_v135_eq m' c).trans ?_
    rw [a0, a1, a2, a3, a4, a5, a6, a7]
    exact Cert.Reference7Ideal.EvenInRef7.k_eq _ _ _ _ _ _ _ _
  · obtain ⟨a0, a1, a2, a3, a4, a5, a6, a7⟩ := hag c
    refine (Cert.Reference7Ideal.Read.val_main_v136_eq _ _ _ _).trans ?_
    rw [a0, a1, a2, a3]
    exact Cert.Reference7Ideal.EvenInRef7.v_eq _ _ _ _

end Cert.Proof.EvenIn7

end
-- ==== Proof.lean ====
/- The claims about the calls of the version, assembled. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.OddClaims
public import proofs.«01_k».proof.Proof.EvenClaims
public import proofs.«01_k».proof.Proof.EvenClaims4
public import proofs.«01_k».proof.Proof.MidClaims
public import proofs.«01_k».proof.Proof.OddInClaims
public import proofs.«01_k».proof.Proof.EvenInClaims
public import proofs.«01_k».proof.Proof.EvenInClaims7
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts, by
  exact ⟨Odd.frame_k, Odd.frame_ki, Odd.frame_ri, Even.frame_k, Even.frame_ki, Even.frame_ri, Mid.frame_k, Mid.frame_ki, Mid.frame_ri, Even4.frame_k, Even4.frame_ki, Even4.frame_ri, OddIn.frame_k, OddIn.frame_ki, OddIn.frame_ri, EvenIn.frame_k, EvenIn.frame_ki, EvenIn.frame_ri, EvenIn7.frame_k, EvenIn7.frame_ki, EvenIn7.frame_ri, Odd.preserves, Odd.algebraic, Even.preserves, Even.algebraic, Mid.preserves, Mid.algebraic, Even4.preserves, Even4.algebraic, OddIn.preserves, OddIn.algebraic, EvenIn.preserves, EvenIn.algebraic, EvenIn7.preserves, EvenIn7.algebraic⟩⟩

end Cert.Proof

end
